-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2 = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_MixtureIdeal (m : (ℓ : Loc Cert.MixtureIdeal.nD Cert.MixtureIdeal.τ Cert.MixtureIdeal.sig) → Buf (Elt Ideal) ℓ) : Prop :=
  True

def Pre_MixtureIdeal_routed [hPre_routed : Cert.Pre_routed.Facts] (m : (ℓ : Loc Cert.MixtureIdeal.nD Cert.MixtureIdeal.τ Cert.MixtureIdeal.sig) → Buf (Elt Ideal) ℓ) : Prop :=
  ∀ c : Dev Cert.MixtureIdeal.nD,
    (Cert.Pre_routed.fn (F := Ideal) (m ((c.tc : Thread Cert.MixtureIdeal.nD Cert.MixtureIdeal.τ).loc Cert.MixtureIdeal.main_arg0)) (m ((c.tc : Thread Cert.MixtureIdeal.nD Cert.MixtureIdeal.τ).loc Cert.MixtureIdeal.main_arg1)) (m ((c.tc : Thread Cert.MixtureIdeal.nD Cert.MixtureIdeal.τ).loc Cert.MixtureIdeal.main_arg2)) (m ((c.tc : Thread Cert.MixtureIdeal.nD Cert.MixtureIdeal.τ).loc Cert.MixtureIdeal.main_arg3)) (m ((c.tc : Thread Cert.MixtureIdeal.nD Cert.MixtureIdeal.τ).loc Cert.MixtureIdeal.main_arg4)) (m ((c.tc : Thread Cert.MixtureIdeal.nD Cert.MixtureIdeal.τ).loc Cert.MixtureIdeal.main_arg5))).1 = (fun _ => 1#1)
    ∧ (Cert.Pre_routed.fn (F := Ideal) (m ((c.tc : Thread Cert.MixtureIdeal.nD Cert.MixtureIdeal.τ).loc Cert.MixtureIdeal.main_arg0)) (m ((c.tc : Thread Cert.MixtureIdeal.nD Cert.MixtureIdeal.τ).loc Cert.MixtureIdeal.main_arg1)) (m ((c.tc : Thread Cert.MixtureIdeal.nD Cert.MixtureIdeal.τ).loc Cert.MixtureIdeal.main_arg2)) (m ((c.tc : Thread Cert.MixtureIdeal.nD Cert.MixtureIdeal.τ).loc Cert.MixtureIdeal.main_arg3)) (m ((c.tc : Thread Cert.MixtureIdeal.nD Cert.MixtureIdeal.τ).loc Cert.MixtureIdeal.main_arg4)) (m ((c.tc : Thread Cert.MixtureIdeal.nD Cert.MixtureIdeal.τ).loc Cert.MixtureIdeal.main_arg5))).2.1 = (fun _ => 1#1)
    ∧ (Cert.Pre_routed.fn (F := Ideal) (m ((c.tc : Thread Cert.MixtureIdeal.nD Cert.MixtureIdeal.τ).loc Cert.MixtureIdeal.main_arg0)) (m ((c.tc : Thread Cert.MixtureIdeal.nD Cert.MixtureIdeal.τ).loc Cert.MixtureIdeal.main_arg1)) (m ((c.tc : Thread Cert.MixtureIdeal.nD Cert.MixtureIdeal.τ).loc Cert.MixtureIdeal.main_arg2)) (m ((c.tc : Thread Cert.MixtureIdeal.nD Cert.MixtureIdeal.τ).loc Cert.MixtureIdeal.main_arg3)) (m ((c.tc : Thread Cert.MixtureIdeal.nD Cert.MixtureIdeal.τ).loc Cert.MixtureIdeal.main_arg4)) (m ((c.tc : Thread Cert.MixtureIdeal.nD Cert.MixtureIdeal.τ).loc Cert.MixtureIdeal.main_arg5))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outlet (m : (ℓ : Loc Cert.Outlet.nD Cert.Outlet.τ Cert.Outlet.sig) → Buf (Elt Bits) ℓ) : Prop :=
  True

def Pre_OutletIdeal (m : (ℓ : Loc Cert.OutletIdeal.nD Cert.OutletIdeal.τ Cert.OutletIdeal.sig) → Buf (Elt Ideal) ℓ) : Prop :=
  True

def Pre_OutletRefIdeal (m : (ℓ : Loc Cert.OutletRefIdeal.nD Cert.OutletRefIdeal.τ Cert.OutletRefIdeal.sig) → Buf (Elt Ideal) ℓ) : Prop :=
  True

def Pre_Inlet (m : (ℓ : Loc Cert.Inlet.nD Cert.Inlet.τ Cert.Inlet.sig) → Buf (Elt Bits) ℓ) : Prop :=
  True

def Pre_InletIdeal (m : (ℓ : Loc Cert.InletIdeal.nD Cert.InletIdeal.τ Cert.InletIdeal.sig) → Buf (Elt Ideal) ℓ) : Prop :=
  True

def Pre_InletRefIdeal (m : (ℓ : Loc Cert.InletRefIdeal.nD Cert.InletRefIdeal.τ Cert.InletRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_MixtureIdeal [hMixtureIdeal : Cert.MixtureIdeal.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4)
      ∧ r.2.mem ((c.tc : Thread Cert.MixtureIdeal.nD Cert.MixtureIdeal.τ).loc Cert.MixtureIdeal.main_arg5) = m ((c.tc : Thread Cert.MixtureIdeal.nD Cert.MixtureIdeal.τ).loc Cert.MixtureIdeal.main_arg5))
      ∧ r.2.sem = fun _ => 0)

def quiescent_MixtureIdeal_pre_routed [hMixtureIdeal : Cert.MixtureIdeal.Facts] [hPre_routed : Cert.Pre_routed.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal_routed m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4)
      ∧ r.2.mem ((c.tc : Thread Cert.MixtureIdeal.nD Cert.MixtureIdeal.τ).loc Cert.MixtureIdeal.main_arg5) = m ((c.tc : Thread Cert.MixtureIdeal.nD Cert.MixtureIdeal.τ).loc Cert.MixtureIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Outlet [hOutlet : Cert.Outlet.Facts] : Prop :=
  ∀ (m : (ℓ : Loc Cert.Outlet.nD Cert.Outlet.τ Cert.Outlet.sig) → Buf (Elt Bits) ℓ) (g : Dev Cert.Outlet.nD → PrngReg), Pre_Outlet m →
    θ_run (Cert.Outlet.defs (F := Bits)) (onTc (τ := Cert.Outlet.τ) (Cert.Outlet.main (F := Bits))) ⟨m, fun _ => 0, g⟩ (fun r => (∀ c : Dev Cert.Outlet.nD,
      r.2.mem ((c.tc : Thread Cert.Outlet.nD Cert.Outlet.τ).loc Cert.Outlet.main_arg0) = m ((c.tc : Thread Cert.Outlet.nD Cert.Outlet.τ).loc Cert.Outlet.main_arg0)
      ∧ r.2.mem ((c.tc : Thread Cert.Outlet.nD Cert.Outlet.τ).loc Cert.Outlet.main_arg1) = m ((c.tc : Thread Cert.Outlet.nD Cert.Outlet.τ).loc Cert.Outlet.main_arg1)
      ∧ r.2.mem ((c.tc : Thread Cert.Outlet.nD Cert.Outlet.τ).loc Cert.Outlet.main_arg2) = m ((c.tc : Thread Cert.Outlet.nD Cert.Outlet.τ).loc Cert.Outlet.main_arg2)
      ∧ r.2.mem ((c.tc : Thread Cert.Outlet.nD Cert.Outlet.τ).loc Cert.Outlet.main_arg3) = m ((c.tc : Thread Cert.Outlet.nD Cert.Outlet.τ).loc Cert.Outlet.main_arg3)
      ∧ r.2.mem ((c.tc : Thread Cert.Outlet.nD Cert.Outlet.τ).loc Cert.Outlet.main_arg4) = m ((c.tc : Thread Cert.Outlet.nD Cert.Outlet.τ).loc Cert.Outlet.main_arg4))
      ∧ r.2.sem = fun _ => 0)

def quiescent_OutletIdeal [hOutletIdeal : Cert.OutletIdeal.Facts] : Prop :=
  ∀ (m : (ℓ : Loc Cert.OutletIdeal.nD Cert.OutletIdeal.τ Cert.OutletIdeal.sig) → Buf (Elt Ideal) ℓ) (g : Dev Cert.OutletIdeal.nD → PrngReg), Pre_OutletIdeal m →
    θ_run (Cert.OutletIdeal.defs (F := Ideal)) (onTc (τ := Cert.OutletIdeal.τ) (Cert.OutletIdeal.main (F := Ideal))) ⟨m, fun _ => 0, g⟩ (fun r => (∀ c : Dev Cert.OutletIdeal.nD,
      r.2.mem ((c.tc : Thread Cert.OutletIdeal.nD Cert.OutletIdeal.τ).loc Cert.OutletIdeal.main_arg0) = m ((c.tc : Thread Cert.OutletIdeal.nD Cert.OutletIdeal.τ).loc Cert.OutletIdeal.main_arg0)
      ∧ r.2.mem ((c.tc : Thread Cert.OutletIdeal.nD Cert.OutletIdeal.τ).loc Cert.OutletIdeal.main_arg1) = m ((c.tc : Thread Cert.OutletIdeal.nD Cert.OutletIdeal.τ).loc Cert.OutletIdeal.main_arg1)
      ∧ r.2.mem ((c.tc : Thread Cert.OutletIdeal.nD Cert.OutletIdeal.τ).loc Cert.OutletIdeal.main_arg2) = m ((c.tc : Thread Cert.OutletIdeal.nD Cert.OutletIdeal.τ).loc Cert.OutletIdeal.main_arg2)
      ∧ r.2.mem ((c.tc : Thread Cert.OutletIdeal.nD Cert.OutletIdeal.τ).loc Cert.OutletIdeal.main_arg3) = m ((c.tc : Thread Cert.OutletIdeal.nD Cert.OutletIdeal.τ).loc Cert.OutletIdeal.main_arg3)
      ∧ r.2.mem ((c.tc : Thread Cert.OutletIdeal.nD Cert.OutletIdeal.τ).loc Cert.OutletIdeal.main_arg4) = m ((c.tc : Thread Cert.OutletIdeal.nD Cert.OutletIdeal.τ).loc Cert.OutletIdeal.main_arg4))
      ∧ r.2.sem = fun _ => 0)

def quiescent_OutletRefIdeal [hOutletRefIdeal : Cert.OutletRefIdeal.Facts] : Prop :=
  ∀ (m : (ℓ : Loc Cert.OutletRefIdeal.nD Cert.OutletRefIdeal.τ Cert.OutletRefIdeal.sig) → Buf (Elt Ideal) ℓ) (g : Dev Cert.OutletRefIdeal.nD → PrngReg), Pre_OutletRefIdeal m →
    θ_run (Cert.OutletRefIdeal.defs (F := Ideal)) (onTc (τ := Cert.OutletRefIdeal.τ) (Cert.OutletRefIdeal.main (F := Ideal))) ⟨m, fun _ => 0, g⟩ (fun r => (∀ c : Dev Cert.OutletRefIdeal.nD,
      r.2.mem ((c.tc : Thread Cert.OutletRefIdeal.nD Cert.OutletRefIdeal.τ).loc Cert.OutletRefIdeal.main_arg0) = m ((c.tc : Thread Cert.OutletRefIdeal.nD Cert.OutletRefIdeal.τ).loc Cert.OutletRefIdeal.main_arg0)
      ∧ r.2.mem ((c.tc : Thread Cert.OutletRefIdeal.nD Cert.OutletRefIdeal.τ).loc Cert.OutletRefIdeal.main_arg1) = m ((c.tc : Thread Cert.OutletRefIdeal.nD Cert.OutletRefIdeal.τ).loc Cert.OutletRefIdeal.main_arg1)
      ∧ r.2.mem ((c.tc : Thread Cert.OutletRefIdeal.nD Cert.OutletRefIdeal.τ).loc Cert.OutletRefIdeal.main_arg2) = m ((c.tc : Thread Cert.OutletRefIdeal.nD Cert.OutletRefIdeal.τ).loc Cert.OutletRefIdeal.main_arg2)
      ∧ r.2.mem ((c.tc : Thread Cert.OutletRefIdeal.nD Cert.OutletRefIdeal.τ).loc Cert.OutletRefIdeal.main_arg3) = m ((c.tc : Thread Cert.OutletRefIdeal.nD Cert.OutletRefIdeal.τ).loc Cert.OutletRefIdeal.main_arg3)
      ∧ r.2.mem ((c.tc : Thread Cert.OutletRefIdeal.nD Cert.OutletRefIdeal.τ).loc Cert.OutletRefIdeal.main_arg4) = m ((c.tc : Thread Cert.OutletRefIdeal.nD Cert.OutletRefIdeal.τ).loc Cert.OutletRefIdeal.main_arg4))
      ∧ r.2.sem = fun _ => 0)

def quiescent_Inlet [hInlet : Cert.Inlet.Facts] : Prop :=
  ∀ (m : (ℓ : Loc Cert.Inlet.nD Cert.Inlet.τ Cert.Inlet.sig) → Buf (Elt Bits) ℓ) (g : Dev Cert.Inlet.nD → PrngReg), Pre_Inlet m →
    θ_run (Cert.Inlet.defs (F := Bits)) (onTc (τ := Cert.Inlet.τ) (Cert.Inlet.main (F := Bits))) ⟨m, fun _ => 0, g⟩ (fun r => (∀ c : Dev Cert.Inlet.nD,
      r.2.mem ((c.tc : Thread Cert.Inlet.nD Cert.Inlet.τ).loc Cert.Inlet.main_arg0) = m ((c.tc : Thread Cert.Inlet.nD Cert.Inlet.τ).loc Cert.Inlet.main_arg0)
      ∧ r.2.mem ((c.tc : Thread Cert.Inlet.nD Cert.Inlet.τ).loc Cert.Inlet.main_arg1) = m ((c.tc : Thread Cert.Inlet.nD Cert.Inlet.τ).loc Cert.Inlet.main_arg1)
      ∧ r.2.mem ((c.tc : Thread Cert.Inlet.nD Cert.Inlet.τ).loc Cert.Inlet.main_arg2) = m ((c.tc : Thread Cert.Inlet.nD Cert.Inlet.τ).loc Cert.Inlet.main_arg2)
      ∧ r.2.mem ((c.tc : Thread Cert.Inlet.nD Cert.Inlet.τ).loc Cert.Inlet.main_arg3) = m ((c.tc : Thread Cert.Inlet.nD Cert.Inlet.τ).loc Cert.Inlet.main_arg3)
      ∧ r.2.mem ((c.tc : Thread Cert.Inlet.nD Cert.Inlet.τ).loc Cert.Inlet.main_arg4) = m ((c.tc : Thread Cert.Inlet.nD Cert.Inlet.τ).loc Cert.Inlet.main_arg4)
      ∧ r.2.mem ((c.tc : Thread Cert.Inlet.nD Cert.Inlet.τ).loc Cert.Inlet.main_arg5) = m ((c.tc : Thread Cert.Inlet.nD Cert.Inlet.τ).loc Cert.Inlet.main_arg5)
      ∧ r.2.mem ((c.tc : Thread Cert.Inlet.nD Cert.Inlet.τ).loc Cert.Inlet.main_arg6) = m ((c.tc : Thread Cert.Inlet.nD Cert.Inlet.τ).loc Cert.Inlet.main_arg6)
      ∧ r.2.mem ((c.tc : Thread Cert.Inlet.nD Cert.Inlet.τ).loc Cert.Inlet.main_arg7) = m ((c.tc : Thread Cert.Inlet.nD Cert.Inlet.τ).loc Cert.Inlet.main_arg7))
      ∧ r.2.sem = fun _ => 0)

def quiescent_InletIdeal [hInletIdeal : Cert.InletIdeal.Facts] : Prop :=
  ∀ (m : (ℓ : Loc Cert.InletIdeal.nD Cert.InletIdeal.τ Cert.InletIdeal.sig) → Buf (Elt Ideal) ℓ) (g : Dev Cert.InletIdeal.nD → PrngReg), Pre_InletIdeal m →
    θ_run (Cert.InletIdeal.defs (F := Ideal)) (onTc (τ := Cert.InletIdeal.τ) (Cert.InletIdeal.main (F := Ideal))) ⟨m, fun _ => 0, g⟩ (fun r => (∀ c : Dev Cert.InletIdeal.nD,
      r.2.mem ((c.tc : Thread Cert.InletIdeal.nD Cert.InletIdeal.τ).loc Cert.InletIdeal.main_arg0) = m ((c.tc : Thread Cert.InletIdeal.nD Cert.InletIdeal.τ).loc Cert.InletIdeal.main_arg0)
      ∧ r.2.mem ((c.tc : Thread Cert.InletIdeal.nD Cert.InletIdeal.τ).loc Cert.InletIdeal.main_arg1) = m ((c.tc : Thread Cert.InletIdeal.nD Cert.InletIdeal.τ).loc Cert.InletIdeal.main_arg1)
      ∧ r.2.mem ((c.tc : Thread Cert.InletIdeal.nD Cert.InletIdeal.τ).loc Cert.InletIdeal.main_arg2) = m ((c.tc : Thread Cert.InletIdeal.nD Cert.InletIdeal.τ).loc Cert.InletIdeal.main_arg2)
      ∧ r.2.mem ((c.tc : Thread Cert.InletIdeal.nD Cert.InletIdeal.τ).loc Cert.InletIdeal.main_arg3) = m ((c.tc : Thread Cert.InletIdeal.nD Cert.InletIdeal.τ).loc Cert.InletIdeal.main_arg3)
      ∧ r.2.mem ((c.tc : Thread Cert.InletIdeal.nD Cert.InletIdeal.τ).loc Cert.InletIdeal.main_arg4) = m ((c.tc : Thread Cert.InletIdeal.nD Cert.InletIdeal.τ).loc Cert.InletIdeal.main_arg4)
      ∧ r.2.mem ((c.tc : Thread Cert.InletIdeal.nD Cert.InletIdeal.τ).loc Cert.InletIdeal.main_arg5) = m ((c.tc : Thread Cert.InletIdeal.nD Cert.InletIdeal.τ).loc Cert.InletIdeal.main_arg5)
      ∧ r.2.mem ((c.tc : Thread Cert.InletIdeal.nD Cert.InletIdeal.τ).loc Cert.InletIdeal.main_arg6) = m ((c.tc : Thread Cert.InletIdeal.nD Cert.InletIdeal.τ).loc Cert.InletIdeal.main_arg6)
      ∧ r.2.mem ((c.tc : Thread Cert.InletIdeal.nD Cert.InletIdeal.τ).loc Cert.InletIdeal.main_arg7) = m ((c.tc : Thread Cert.InletIdeal.nD Cert.InletIdeal.τ).loc Cert.InletIdeal.main_arg7))
      ∧ r.2.sem = fun _ => 0)

def quiescent_InletRefIdeal [hInletRefIdeal : Cert.InletRefIdeal.Facts] : Prop :=
  ∀ (m : (ℓ : Loc Cert.InletRefIdeal.nD Cert.InletRefIdeal.τ Cert.InletRefIdeal.sig) → Buf (Elt Ideal) ℓ) (g : Dev Cert.InletRefIdeal.nD → PrngReg), Pre_InletRefIdeal m →
    θ_run (Cert.InletRefIdeal.defs (F := Ideal)) (onTc (τ := Cert.InletRefIdeal.τ) (Cert.InletRefIdeal.main (F := Ideal))) ⟨m, fun _ => 0, g⟩ (fun r => (∀ c : Dev Cert.InletRefIdeal.nD,
      r.2.mem ((c.tc : Thread Cert.InletRefIdeal.nD Cert.InletRefIdeal.τ).loc Cert.InletRefIdeal.main_arg0) = m ((c.tc : Thread Cert.InletRefIdeal.nD Cert.InletRefIdeal.τ).loc Cert.InletRefIdeal.main_arg0)
      ∧ r.2.mem ((c.tc : Thread Cert.InletRefIdeal.nD Cert.InletRefIdeal.τ).loc Cert.InletRefIdeal.main_arg1) = m ((c.tc : Thread Cert.InletRefIdeal.nD Cert.InletRefIdeal.τ).loc Cert.InletRefIdeal.main_arg1)
      ∧ r.2.mem ((c.tc : Thread Cert.InletRefIdeal.nD Cert.InletRefIdeal.τ).loc Cert.InletRefIdeal.main_arg2) = m ((c.tc : Thread Cert.InletRefIdeal.nD Cert.InletRefIdeal.τ).loc Cert.InletRefIdeal.main_arg2)
      ∧ r.2.mem ((c.tc : Thread Cert.InletRefIdeal.nD Cert.InletRefIdeal.τ).loc Cert.InletRefIdeal.main_arg3) = m ((c.tc : Thread Cert.InletRefIdeal.nD Cert.InletRefIdeal.τ).loc Cert.InletRefIdeal.main_arg3)
      ∧ r.2.mem ((c.tc : Thread Cert.InletRefIdeal.nD Cert.InletRefIdeal.τ).loc Cert.InletRefIdeal.main_arg4) = m ((c.tc : Thread Cert.InletRefIdeal.nD Cert.InletRefIdeal.τ).loc Cert.InletRefIdeal.main_arg4)
      ∧ r.2.mem ((c.tc : Thread Cert.InletRefIdeal.nD Cert.InletRefIdeal.τ).loc Cert.InletRefIdeal.main_arg5) = m ((c.tc : Thread Cert.InletRefIdeal.nD Cert.InletRefIdeal.τ).loc Cert.InletRefIdeal.main_arg5)
      ∧ r.2.mem ((c.tc : Thread Cert.InletRefIdeal.nD Cert.InletRefIdeal.τ).loc Cert.InletRefIdeal.main_arg6) = m ((c.tc : Thread Cert.InletRefIdeal.nD Cert.InletRefIdeal.τ).loc Cert.InletRefIdeal.main_arg6)
      ∧ r.2.mem ((c.tc : Thread Cert.InletRefIdeal.nD Cert.InletRefIdeal.τ).loc Cert.InletRefIdeal.main_arg7) = m ((c.tc : Thread Cert.InletRefIdeal.nD Cert.InletRefIdeal.τ).loc Cert.InletRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_MixtureIdeal [hExpertsIdeal : Cert.ExpertsIdeal.Facts] [hMixtureIdeal : Cert.MixtureIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.MixtureIdeal.nD Cert.MixtureIdeal.τ Cert.MixtureIdeal.sig) → Buf (Elt Ideal) ℓ) (g' : Dev Cert.MixtureIdeal.nD → PrngReg), Pre_ExpertsIdeal m →
    (∀ c : Dev Cert.ExpertsIdeal.nD,
      m' ((c.tc : Thread Cert.MixtureIdeal.nD Cert.MixtureIdeal.τ).loc Cert.MixtureIdeal.main_arg0) = m ((c.tc : Thread Cert.ExpertsIdeal.nD Cert.ExpertsIdeal.τ).loc Cert.ExpertsIdeal.main_arg0)
      ∧ m' ((c.tc : Thread Cert.MixtureIdeal.nD Cert.MixtureIdeal.τ).loc Cert.MixtureIdeal.main_arg1) = m ((c.tc : Thread Cert.ExpertsIdeal.nD Cert.ExpertsIdeal.τ).loc Cert.ExpertsIdeal.main_arg1)
      ∧ m' ((c.tc : Thread Cert.MixtureIdeal.nD Cert.MixtureIdeal.τ).loc Cert.MixtureIdeal.main_arg2) = m ((c.tc : Thread Cert.ExpertsIdeal.nD Cert.ExpertsIdeal.τ).loc Cert.ExpertsIdeal.main_arg2)
      ∧ m' ((c.tc : Thread Cert.MixtureIdeal.nD Cert.MixtureIdeal.τ).loc Cert.MixtureIdeal.main_arg3) = m ((c.tc : Thread Cert.ExpertsIdeal.nD Cert.ExpertsIdeal.τ).loc Cert.ExpertsIdeal.main_arg3)
      ∧ m' ((c.tc : Thread Cert.MixtureIdeal.nD Cert.MixtureIdeal.τ).loc Cert.MixtureIdeal.main_arg4) = m ((c.tc : Thread Cert.ExpertsIdeal.nD Cert.ExpertsIdeal.τ).loc Cert.ExpertsIdeal.main_arg4)
      ∧ m' ((c.tc : Thread Cert.MixtureIdeal.nD Cert.MixtureIdeal.τ).loc Cert.MixtureIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v28)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v28) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.MixtureIdeal.defs (F := Ideal)) (onTc (τ := Cert.MixtureIdeal.τ) (Cert.MixtureIdeal.main (F := Ideal))) ⟨m', fun _ => 0, g'⟩ (fun r => ∀ c : Dev Cert.MixtureIdeal.nD,
          r.2.mem ((c.tc : Thread Cert.MixtureIdeal.nD Cert.MixtureIdeal.τ).loc Cert.MixtureIdeal.main_v55) = v0 c
          ∧ r.2.mem ((c.tc : Thread Cert.MixtureIdeal.nD Cert.MixtureIdeal.τ).loc Cert.MixtureIdeal.main_arg0) = m' ((c.tc : Thread Cert.MixtureIdeal.nD Cert.MixtureIdeal.τ).loc Cert.MixtureIdeal.main_arg0)
          ∧ r.2.mem ((c.tc : Thread Cert.MixtureIdeal.nD Cert.MixtureIdeal.τ).loc Cert.MixtureIdeal.main_arg1) = m' ((c.tc : Thread Cert.MixtureIdeal.nD Cert.MixtureIdeal.τ).loc Cert.MixtureIdeal.main_arg1)
          ∧ r.2.mem ((c.tc : Thread Cert.MixtureIdeal.nD Cert.MixtureIdeal.τ).loc Cert.MixtureIdeal.main_arg2) = m' ((c.tc : Thread Cert.MixtureIdeal.nD Cert.MixtureIdeal.τ).loc Cert.MixtureIdeal.main_arg2)
          ∧ r.2.mem ((c.tc : Thread Cert.MixtureIdeal.nD Cert.MixtureIdeal.τ).loc Cert.MixtureIdeal.main_arg3) = m' ((c.tc : Thread Cert.MixtureIdeal.nD Cert.MixtureIdeal.τ).loc Cert.MixtureIdeal.main_arg3)
          ∧ r.2.mem ((c.tc : Thread Cert.MixtureIdeal.nD Cert.MixtureIdeal.τ).loc Cert.MixtureIdeal.main_arg4) = m' ((c.tc : Thread Cert.MixtureIdeal.nD Cert.MixtureIdeal.τ).loc Cert.MixtureIdeal.main_arg4)
          ∧ r.2.mem ((c.tc : Thread Cert.MixtureIdeal.nD Cert.MixtureIdeal.τ).loc Cert.MixtureIdeal.main_arg5) = m' ((c.tc : Thread Cert.MixtureIdeal.nD Cert.MixtureIdeal.τ).loc Cert.MixtureIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v7) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Outlet_OutletIdeal : Prop :=
  True

def algebraic_OutletIdeal_OutletRefIdeal [hOutletIdeal : Cert.OutletIdeal.Facts] [hOutletRefIdeal : Cert.OutletRefIdeal.Facts] : Prop :=
  ∀ (m : (ℓ : Loc Cert.OutletIdeal.nD Cert.OutletIdeal.τ Cert.OutletIdeal.sig) → Buf (Elt Ideal) ℓ) (g : Dev Cert.OutletIdeal.nD → PrngReg)
    (m' : (ℓ : Loc Cert.OutletRefIdeal.nD Cert.OutletRefIdeal.τ Cert.OutletRefIdeal.sig) → Buf (Elt Ideal) ℓ) (g' : Dev Cert.OutletRefIdeal.nD → PrngReg), Pre_OutletIdeal m →
    (∀ c : Dev Cert.OutletIdeal.nD,
      m' ((c.tc : Thread Cert.OutletRefIdeal.nD Cert.OutletRefIdeal.τ).loc Cert.OutletRefIdeal.main_arg0) = m ((c.tc : Thread Cert.OutletIdeal.nD Cert.OutletIdeal.τ).loc Cert.OutletIdeal.main_arg0)
      ∧ m' ((c.tc : Thread Cert.OutletRefIdeal.nD Cert.OutletRefIdeal.τ).loc Cert.OutletRefIdeal.main_arg1) = m ((c.tc : Thread Cert.OutletIdeal.nD Cert.OutletIdeal.τ).loc Cert.OutletIdeal.main_arg1)
      ∧ m' ((c.tc : Thread Cert.OutletRefIdeal.nD Cert.OutletRefIdeal.τ).loc Cert.OutletRefIdeal.main_arg2) = m ((c.tc : Thread Cert.OutletIdeal.nD Cert.OutletIdeal.τ).loc Cert.OutletIdeal.main_arg2)
      ∧ m' ((c.tc : Thread Cert.OutletRefIdeal.nD Cert.OutletRefIdeal.τ).loc Cert.OutletRefIdeal.main_arg3) = m ((c.tc : Thread Cert.OutletIdeal.nD Cert.OutletIdeal.τ).loc Cert.OutletIdeal.main_arg3)
      ∧ m' ((c.tc : Thread Cert.OutletRefIdeal.nD Cert.OutletRefIdeal.τ).loc Cert.OutletRefIdeal.main_arg4) = m ((c.tc : Thread Cert.OutletIdeal.nD Cert.OutletIdeal.τ).loc Cert.OutletIdeal.main_arg4)) →
    ∃ (v0 : (c : Dev Cert.OutletIdeal.nD) → Buf (Elt Ideal) ((c.tc : Thread Cert.OutletIdeal.nD Cert.OutletIdeal.τ).loc Cert.OutletIdeal.main_v6)),
      θ_run (Cert.OutletIdeal.defs (F := Ideal)) (onTc (τ := Cert.OutletIdeal.τ) (Cert.OutletIdeal.main (F := Ideal))) ⟨m, fun _ => 0, g⟩ (fun r => ∀ c : Dev Cert.OutletIdeal.nD,
          r.2.mem ((c.tc : Thread Cert.OutletIdeal.nD Cert.OutletIdeal.τ).loc Cert.OutletIdeal.main_v6) = v0 c
          ∧ r.2.mem ((c.tc : Thread Cert.OutletIdeal.nD Cert.OutletIdeal.τ).loc Cert.OutletIdeal.main_arg0) = m ((c.tc : Thread Cert.OutletIdeal.nD Cert.OutletIdeal.τ).loc Cert.OutletIdeal.main_arg0)
          ∧ r.2.mem ((c.tc : Thread Cert.OutletIdeal.nD Cert.OutletIdeal.τ).loc Cert.OutletIdeal.main_arg1) = m ((c.tc : Thread Cert.OutletIdeal.nD Cert.OutletIdeal.τ).loc Cert.OutletIdeal.main_arg1)
          ∧ r.2.mem ((c.tc : Thread Cert.OutletIdeal.nD Cert.OutletIdeal.τ).loc Cert.OutletIdeal.main_arg2) = m ((c.tc : Thread Cert.OutletIdeal.nD Cert.OutletIdeal.τ).loc Cert.OutletIdeal.main_arg2)
          ∧ r.2.mem ((c.tc : Thread Cert.OutletIdeal.nD Cert.OutletIdeal.τ).loc Cert.OutletIdeal.main_arg3) = m ((c.tc : Thread Cert.OutletIdeal.nD Cert.OutletIdeal.τ).loc Cert.OutletIdeal.main_arg3)
          ∧ r.2.mem ((c.tc : Thread Cert.OutletIdeal.nD Cert.OutletIdeal.τ).loc Cert.OutletIdeal.main_arg4) = m ((c.tc : Thread Cert.OutletIdeal.nD Cert.OutletIdeal.τ).loc Cert.OutletIdeal.main_arg4))
      ∧ θ_run (Cert.OutletRefIdeal.defs (F := Ideal)) (onTc (τ := Cert.OutletRefIdeal.τ) (Cert.OutletRefIdeal.main (F := Ideal))) ⟨m', fun _ => 0, g'⟩ (fun r => ∀ c : Dev Cert.OutletRefIdeal.nD,
          r.2.mem ((c.tc : Thread Cert.OutletRefIdeal.nD Cert.OutletRefIdeal.τ).loc Cert.OutletRefIdeal.main_v7) = v0 c
          ∧ r.2.mem ((c.tc : Thread Cert.OutletRefIdeal.nD Cert.OutletRefIdeal.τ).loc Cert.OutletRefIdeal.main_arg0) = m' ((c.tc : Thread Cert.OutletRefIdeal.nD Cert.OutletRefIdeal.τ).loc Cert.OutletRefIdeal.main_arg0)
          ∧ r.2.mem ((c.tc : Thread Cert.OutletRefIdeal.nD Cert.OutletRefIdeal.τ).loc Cert.OutletRefIdeal.main_arg1) = m' ((c.tc : Thread Cert.OutletRefIdeal.nD Cert.OutletRefIdeal.τ).loc Cert.OutletRefIdeal.main_arg1)
          ∧ r.2.mem ((c.tc : Thread Cert.OutletRefIdeal.nD Cert.OutletRefIdeal.τ).loc Cert.OutletRefIdeal.main_arg2) = m' ((c.tc : Thread Cert.OutletRefIdeal.nD Cert.OutletRefIdeal.τ).loc Cert.OutletRefIdeal.main_arg2)
          ∧ r.2.mem ((c.tc : Thread Cert.OutletRefIdeal.nD Cert.OutletRefIdeal.τ).loc Cert.OutletRefIdeal.main_arg3) = m' ((c.tc : Thread Cert.OutletRefIdeal.nD Cert.OutletRefIdeal.τ).loc Cert.OutletRefIdeal.main_arg3)
          ∧ r.2.mem ((c.tc : Thread Cert.OutletRefIdeal.nD Cert.OutletRefIdeal.τ).loc Cert.OutletRefIdeal.main_arg4) = m' ((c.tc : Thread Cert.OutletRefIdeal.nD Cert.OutletRefIdeal.τ).loc Cert.OutletRefIdeal.main_arg4))

def preserves_Inlet_InletIdeal : Prop :=
  True

def algebraic_InletIdeal_InletRefIdeal [hInletIdeal : Cert.InletIdeal.Facts] [hInletRefIdeal : Cert.InletRefIdeal.Facts] : Prop :=
  ∀ (m : (ℓ : Loc Cert.InletIdeal.nD Cert.InletIdeal.τ Cert.InletIdeal.sig) → Buf (Elt Ideal) ℓ) (g : Dev Cert.InletIdeal.nD → PrngReg)
    (m' : (ℓ : Loc Cert.InletRefIdeal.nD Cert.InletRefIdeal.τ Cert.InletRefIdeal.sig) → Buf (Elt Ideal) ℓ) (g' : Dev Cert.InletRefIdeal.nD → PrngReg), Pre_InletIdeal m →
    (∀ c : Dev Cert.InletIdeal.nD,
      m' ((c.tc : Thread Cert.InletRefIdeal.nD Cert.InletRefIdeal.τ).loc Cert.InletRefIdeal.main_arg0) = m ((c.tc : Thread Cert.InletIdeal.nD Cert.InletIdeal.τ).loc Cert.InletIdeal.main_arg0)
      ∧ m' ((c.tc : Thread Cert.InletRefIdeal.nD Cert.InletRefIdeal.τ).loc Cert.InletRefIdeal.main_arg1) = m ((c.tc : Thread Cert.InletIdeal.nD Cert.InletIdeal.τ).loc Cert.InletIdeal.main_arg1)
      ∧ m' ((c.tc : Thread Cert.InletRefIdeal.nD Cert.InletRefIdeal.τ).loc Cert.InletRefIdeal.main_arg2) = m ((c.tc : Thread Cert.InletIdeal.nD Cert.InletIdeal.τ).loc Cert.InletIdeal.main_arg2)
      ∧ m' ((c.tc : Thread Cert.InletRefIdeal.nD Cert.InletRefIdeal.τ).loc Cert.InletRefIdeal.main_arg3) = m ((c.tc : Thread Cert.InletIdeal.nD Cert.InletIdeal.τ).loc Cert.InletIdeal.main_arg3)
      ∧ m' ((c.tc : Thread Cert.InletRefIdeal.nD Cert.InletRefIdeal.τ).loc Cert.InletRefIdeal.main_arg4) = m ((c.tc : Thread Cert.InletIdeal.nD Cert.InletIdeal.τ).loc Cert.InletIdeal.main_arg4)
      ∧ m' ((c.tc : Thread Cert.InletRefIdeal.nD Cert.InletRefIdeal.τ).loc Cert.InletRefIdeal.main_arg5) = m ((c.tc : Thread Cert.InletIdeal.nD Cert.InletIdeal.τ).loc Cert.InletIdeal.main_arg5)
      ∧ m' ((c.tc : Thread Cert.InletRefIdeal.nD Cert.InletRefIdeal.τ).loc Cert.InletRefIdeal.main_arg6) = m ((c.tc : Thread Cert.InletIdeal.nD Cert.InletIdeal.τ).loc Cert.InletIdeal.main_arg6)
      ∧ m' ((c.tc : Thread Cert.InletRefIdeal.nD Cert.InletRefIdeal.τ).loc Cert.InletRefIdeal.main_arg7) = m ((c.tc : Thread Cert.InletIdeal.nD Cert.InletIdeal.τ).loc Cert.InletIdeal.main_arg7)) →
    ∃ (v0 : (c : Dev Cert.InletIdeal.nD) → Buf (Elt Ideal) ((c.tc : Thread Cert.InletIdeal.nD Cert.InletIdeal.τ).loc Cert.InletIdeal.main_v7_0)) (v1 : (c : Dev Cert.InletIdeal.nD) → Buf (Elt Ideal) ((c.tc : Thread Cert.InletIdeal.nD Cert.InletIdeal.τ).loc Cert.InletIdeal.main_v7_1)) (v2 : (c : Dev Cert.InletIdeal.nD) → Buf (Elt Ideal) ((c.tc : Thread Cert.InletIdeal.nD Cert.InletIdeal.τ).loc Cert.InletIdeal.main_v7_2)),
      θ_run (Cert.InletIdeal.defs (F := Ideal)) (onTc (τ := Cert.InletIdeal.τ) (Cert.InletIdeal.main (F := Ideal))) ⟨m, fun _ => 0, g⟩ (fun r => ∀ c : Dev Cert.InletIdeal.nD,
          r.2.mem ((c.tc : Thread Cert.InletIdeal.nD Cert.InletIdeal.τ).loc Cert.InletIdeal.main_v7_0) = v0 c
          ∧ r.2.mem ((c.tc : Thread Cert.InletIdeal.nD Cert.InletIdeal.τ).loc Cert.InletIdeal.main_v7_1) = v1 c
          ∧ r.2.mem ((c.tc : Thread Cert.InletIdeal.nD Cert.InletIdeal.τ).loc Cert.InletIdeal.main_v7_2) = v2 c
          ∧ r.2.mem ((c.tc : Thread Cert.InletIdeal.nD Cert.InletIdeal.τ).loc Cert.InletIdeal.main_arg0) = m ((c.tc : Thread Cert.InletIdeal.nD Cert.InletIdeal.τ).loc Cert.InletIdeal.main_arg0)
          ∧ r.2.mem ((c.tc : Thread Cert.InletIdeal.nD Cert.InletIdeal.τ).loc Cert.InletIdeal.main_arg1) = m ((c.tc : Thread Cert.InletIdeal.nD Cert.InletIdeal.τ).loc Cert.InletIdeal.main_arg1)
          ∧ r.2.mem ((c.tc : Thread Cert.InletIdeal.nD Cert.InletIdeal.τ).loc Cert.InletIdeal.main_arg2) = m ((c.tc : Thread Cert.InletIdeal.nD Cert.InletIdeal.τ).loc Cert.InletIdeal.main_arg2)
          ∧ r.2.mem ((c.tc : Thread Cert.InletIdeal.nD Cert.InletIdeal.τ).loc Cert.InletIdeal.main_arg3) = m ((c.tc : Thread Cert.InletIdeal.nD Cert.InletIdeal.τ).loc Cert.InletIdeal.main_arg3)
          ∧ r.2.mem ((c.tc : Thread Cert.InletIdeal.nD Cert.InletIdeal.τ).loc Cert.InletIdeal.main_arg4) = m ((c.tc : Thread Cert.InletIdeal.nD Cert.InletIdeal.τ).loc Cert.InletIdeal.main_arg4)
          ∧ r.2.mem ((c.tc : Thread Cert.InletIdeal.nD Cert.InletIdeal.τ).loc Cert.InletIdeal.main_arg5) = m ((c.tc : Thread Cert.InletIdeal.nD Cert.InletIdeal.τ).loc Cert.InletIdeal.main_arg5)
          ∧ r.2.mem ((c.tc : Thread Cert.InletIdeal.nD Cert.InletIdeal.τ).loc Cert.InletIdeal.main_arg6) = m ((c.tc : Thread Cert.InletIdeal.nD Cert.InletIdeal.τ).loc Cert.InletIdeal.main_arg6)
          ∧ r.2.mem ((c.tc : Thread Cert.InletIdeal.nD Cert.InletIdeal.τ).loc Cert.InletIdeal.main_arg7) = m ((c.tc : Thread Cert.InletIdeal.nD Cert.InletIdeal.τ).loc Cert.InletIdeal.main_arg7))
      ∧ θ_run (Cert.InletRefIdeal.defs (F := Ideal)) (onTc (τ := Cert.InletRefIdeal.τ) (Cert.InletRefIdeal.main (F := Ideal))) ⟨m', fun _ => 0, g'⟩ (fun r => ∀ c : Dev Cert.InletRefIdeal.nD,
          r.2.mem ((c.tc : Thread Cert.InletRefIdeal.nD Cert.InletRefIdeal.τ).loc Cert.InletRefIdeal.main_v49) = v0 c
          ∧ r.2.mem ((c.tc : Thread Cert.InletRefIdeal.nD Cert.InletRefIdeal.τ).loc Cert.InletRefIdeal.main_v50) = v1 c
          ∧ r.2.mem ((c.tc : Thread Cert.InletRefIdeal.nD Cert.InletRefIdeal.τ).loc Cert.InletRefIdeal.main_v51) = v2 c
          ∧ r.2.mem ((c.tc : Thread Cert.InletRefIdeal.nD Cert.InletRefIdeal.τ).loc Cert.InletRefIdeal.main_arg0) = m' ((c.tc : Thread Cert.InletRefIdeal.nD Cert.InletRefIdeal.τ).loc Cert.InletRefIdeal.main_arg0)
          ∧ r.2.mem ((c.tc : Thread Cert.InletRefIdeal.nD Cert.InletRefIdeal.τ).loc Cert.InletRefIdeal.main_arg1) = m' ((c.tc : Thread Cert.InletRefIdeal.nD Cert.InletRefIdeal.τ).loc Cert.InletRefIdeal.main_arg1)
          ∧ r.2.mem ((c.tc : Thread Cert.InletRefIdeal.nD Cert.InletRefIdeal.τ).loc Cert.InletRefIdeal.main_arg2) = m' ((c.tc : Thread Cert.InletRefIdeal.nD Cert.InletRefIdeal.τ).loc Cert.InletRefIdeal.main_arg2)
          ∧ r.2.mem ((c.tc : Thread Cert.InletRefIdeal.nD Cert.InletRefIdeal.τ).loc Cert.InletRefIdeal.main_arg3) = m' ((c.tc : Thread Cert.InletRefIdeal.nD Cert.InletRefIdeal.τ).loc Cert.InletRefIdeal.main_arg3)
          ∧ r.2.mem ((c.tc : Thread Cert.InletRefIdeal.nD Cert.InletRefIdeal.τ).loc Cert.InletRefIdeal.main_arg4) = m' ((c.tc : Thread Cert.InletRefIdeal.nD Cert.InletRefIdeal.τ).loc Cert.InletRefIdeal.main_arg4)
          ∧ r.2.mem ((c.tc : Thread Cert.InletRefIdeal.nD Cert.InletRefIdeal.τ).loc Cert.InletRefIdeal.main_arg5) = m' ((c.tc : Thread Cert.InletRefIdeal.nD Cert.InletRefIdeal.τ).loc Cert.InletRefIdeal.main_arg5)
          ∧ r.2.mem ((c.tc : Thread Cert.InletRefIdeal.nD Cert.InletRefIdeal.τ).loc Cert.InletRefIdeal.main_arg6) = m' ((c.tc : Thread Cert.InletRefIdeal.nD Cert.InletRefIdeal.τ).loc Cert.InletRefIdeal.main_arg6)
          ∧ r.2.mem ((c.tc : Thread Cert.InletRefIdeal.nD Cert.InletRefIdeal.τ).loc Cert.InletRefIdeal.main_arg7) = m' ((c.tc : Thread Cert.InletRefIdeal.nD Cert.InletRefIdeal.τ).loc Cert.InletRefIdeal.main_arg7))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hMixtureIdeal : Cert.MixtureIdeal.Facts) (hMerge : Cert.Merge.Facts) (hMergeIdeal : Cert.MergeIdeal.Facts) (hMergeRefIdeal : Cert.MergeRefIdeal.Facts) (hOutlet : Cert.Outlet.Facts) (hOutletIdeal : Cert.OutletIdeal.Facts) (hOutletRefIdeal : Cert.OutletRefIdeal.Facts) (hInlet : Cert.Inlet.Facts) (hInletIdeal : Cert.InletIdeal.Facts) (hInletRefIdeal : Cert.InletRefIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_MixtureIdeal (hMixtureIdeal := hMixtureIdeal)
    ∧ quiescent_MixtureIdeal_pre_routed (hMixtureIdeal := hMixtureIdeal) (hPre_routed := hPre_routed)
    ∧ quiescent_Merge (hMerge := hMerge)
    ∧ quiescent_MergeIdeal (hMergeIdeal := hMergeIdeal)
    ∧ quiescent_MergeRefIdeal (hMergeRefIdeal := hMergeRefIdeal)
    ∧ quiescent_Outlet (hOutlet := hOutlet)
    ∧ quiescent_OutletIdeal (hOutletIdeal := hOutletIdeal)
    ∧ quiescent_OutletRefIdeal (hOutletRefIdeal := hOutletRefIdeal)
    ∧ quiescent_Inlet (hInlet := hInlet)
    ∧ quiescent_InletIdeal (hInletIdeal := hInletIdeal)
    ∧ quiescent_InletRefIdeal (hInletRefIdeal := hInletRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_MixtureIdeal (hExpertsIdeal := hExpertsIdeal) (hMixtureIdeal := hMixtureIdeal) (hPre_routed := hPre_routed)
    ∧ preserves_Merge_MergeIdeal
    ∧ algebraic_MergeIdeal_MergeRefIdeal (hMergeIdeal := hMergeIdeal) (hMergeRefIdeal := hMergeRefIdeal)
    ∧ preserves_Outlet_OutletIdeal
    ∧ algebraic_OutletIdeal_OutletRefIdeal (hOutletIdeal := hOutletIdeal) (hOutletRefIdeal := hOutletRefIdeal)
    ∧ preserves_Inlet_InletIdeal
    ∧ algebraic_InletIdeal_InletRefIdeal (hInletIdeal := hInletIdeal) (hInletRefIdeal := hInletRefIdeal)
-- ==== Pre_finite.lean ====
abbrev S1x16384x8x96 : Shape := ⟨4, ![1, 16384, 8, 96]⟩
abbrev S1x16640x8x96 : Shape := ⟨4, ![1, 16640, 8, 96]⟩
abbrev S1x16640x8x64 : Shape := ⟨4, ![1, 16640, 8, 64]⟩
abbrev S_ : Shape := ⟨0, ![]⟩

class Facts : Prop where
  bcast_S_S1x16384x8x96 : S_.BroadcastsInDim S1x16384x8x96 (![] : Fin 0 → Fin S1x16384x8x96.rank)
  bcast_S_S1x16640x8x96 : S_.BroadcastsInDim S1x16640x8x96 (![] : Fin 0 → Fin S1x16640x8x96.rank)
  bcast_S_S1x16640x8x64 : S_.BroadcastsInDim S1x16640x8x64 (![] : Fin 0 → Fin S1x16640x8x64.rank)

variable [Facts]

def fn {F : FTy → Type} [FloatOps F] (main_arg0 : FVec F S1x16384x8x96 .f32) (main_arg1 : FVec F S1x16640x8x96 .f32) (main_arg2 : FVec F S1x16640x8x64 .f32) : IVec S1x16384x8x96 1 × IVec S1x16640x8x96 1 × IVec S1x16640x8x64 1 :=
  let main_v0 : FVec F S1x16384x8x96 .f32 := Host.absf main_arg0
  let main_cst : FVec F S_ .f32 := constant S_ .f32 0x7F800000#32
  let main_v1 : FVec F S1x16384x8x96 .f32 := broadcastInDim S1x16384x8x96 ![] bcast_S_S1x16384x8x96 main_cst
  let main_v2 : IVec S1x16384x8x96 1 := cmpf .olt main_v0 main_v1
  let main_v3 : FVec F S1x16640x8x96 .f32 := Host.absf main_arg1
  let main_cst_0 : FVec F S_ .f32 := constant S_ .f32 0x7F800000#32
  let main_v4 : FVec F S1x16640x8x96 .f32 := broadcastInDim S1x16640x8x96 ![] bcast_S_S1x16640x8x96 main_cst_0
  let main_v5 : IVec S1x16640x8x96 1 := cmpf .olt main_v3 main_v4
  let main_v6 : FVec F S1x16640x8x64 .f32 := Host.absf main_arg2
  let main_cst_1 : FVec F S_ .f32 := constant S_ .f32 0x7F800000#32
  let main_v7 : FVec F S1x16640x8x64 .f32 := broadcastInDim S1x16640x8x64 ![] bcast_S_S1x16640x8x64 main_cst_1
  let main_v8 : IVec S1x16640x8x64 1 := cmpf .olt main_v6 main_v7
  (main_v2, main_v5, main_v8)
-- ==== Pre_routed.lean ====
abbrev S32 : Shape := ⟨1, ![32]⟩
abbrev S73728x1024 : Shape := ⟨2, ![73728, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S73728x1024 .f32) (main_arg2 : FVec F S2x32x1024x2048 .f32) (main_arg3 : FVec F S2x32x2048 .f32) (main_arg4 : FVec F S2x32x1024x1024 .f32) (main_arg5 : FVec F S2x32x1024 .f32) : IVec S32 1 × IVec S32 1 × IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 16384#32
  let main_v2 : IVec S32 32 := broadcastInDim S32 ![] bcast_S_S32 main_c_0
  let main_v3 : IVec S32 1 := cmpi .sle main_arg0 main_v2
  let main_c_1 : IVec S_ 32 := constantI S_ 32 0#32
  let main_v4 : IVec S_ 32 := (fun x v => Host.reduce IntOp.addi x v reducesTo_S32_S_d0 h_S_) main_arg0 main_c_1
  let main_c_2 : IVec S_ 32 := constantI S_ 32 1#32
  let main_v5 : IVec S_ 1 := cmpi .sge main_v4 main_c_2
  (main_v1, main_v3, main_v5)
-- ==== Kernel.lean ====
abbrev S1x16384x8x96 : Shape := ⟨4, ![1, 16384, 8, 96]⟩
abbrev S1x16640x8x96 : Shape := ⟨4, ![1, 16640, 8, 96]⟩
abbrev S1x16640x8x64 : Shape := ⟨4, ![1, 16640, 8, 64]⟩
abbrev S16384x8x96 : Shape := ⟨3, ![16384, 8, 96]⟩
abbrev S8x16384x96 : Shape := ⟨3, ![8, 16384, 96]⟩
abbrev S_ : Shape := ⟨0, ![]⟩
abbrev S8x16384x128 : Shape := ⟨3, ![8, 16384, 128]⟩
abbrev S16640x8x96 : Shape := ⟨3, ![16640, 8, 96]⟩
abbrev S8x16640x96 : Shape := ⟨3, ![8, 16640, 96]⟩
abbrev S8x16640x128 : Shape := ⟨3, ![8, 16640, 128]⟩
abbrev S16640x8x64 : Shape := ⟨3, ![16640, 8, 64]⟩
abbrev S16640x512 : Shape := ⟨2, ![16640, 512]⟩
abbrev S16384x512 : Shape := ⟨2, ![16384, 512]⟩
abbrev S2x1024x128 : Shape := ⟨3, ![2, 1024, 128]⟩
abbrev S2x3328x128 : Shape := ⟨3, ![2, 3328, 128]⟩
abbrev S3328x128 : Shape := ⟨2, ![3328, 128]⟩
abbrev S1024x128 : Shape := ⟨2, ![1024, 128]⟩
abbrev S2x1024x1 : Shape := ⟨3, ![2, 1024, 1]⟩
abbrev S2x1024x256 : Shape := ⟨3, ![2, 1024, 256]⟩
abbrev S3328x256 : Shape := ⟨2, ![3328, 256]⟩
abbrev S1x3328x128 : Shape := ⟨3, ![1, 3328, 128]⟩
abbrev S1x128x128 : Shape := ⟨3, ![1, 128, 128]⟩
abbrev S128x128 : Shape := ⟨2, ![128, 128]⟩
abbrev S128x3328 : Shape := ⟨2, ![128, 3328]⟩
abbrev S1x128x1 : Shape := ⟨3, ![1, 128, 1]⟩
abbrev S128x1 : Shape := ⟨2, ![128, 1]⟩
abbrev S128 : Shape := ⟨1, ![128]⟩
abbrev S1x128x256 : Shape := ⟨3, ![1, 128, 256]⟩
abbrev S128x256 : Shape := ⟨2, ![128, 256]⟩
abbrev S1x1024x128 : Shape := ⟨3, ![1, 1024, 128]⟩

abbrev nBuf : Space → Nat
  | .hbm => 30
  | .vmem => 10
  | .smem => 0
  | _ => 0

abbrev bufTy : (tb : Table) → Fin (tcTables nBuf tb) → BufTy
  | .hbm, ⟨0, _⟩ => ⟨S1x16384x8x96, .f32⟩
  | .hbm, ⟨1, _⟩ => ⟨S1x16640x8x96, .f32⟩
  | .hbm, ⟨2, _⟩ => ⟨S1x16640x8x64, .f32⟩
  | .hbm, ⟨3, _⟩ => ⟨S16384x8x96, .f32⟩
  | .hbm, ⟨4, _⟩ => ⟨S8x16384x96, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x16384x96, .f32⟩
  | .hbm, ⟨15, _⟩ => ⟨S8x16384x96, .f32⟩
  | .hbm, ⟨16, _⟩ => ⟨S_, .i32⟩
  | .hbm, ⟨17, _⟩ => ⟨S_, .f32⟩
  | .hbm, ⟨18, _⟩ => ⟨S8x16384x128, .f32⟩
  | .hbm, ⟨19, _⟩ => ⟨S8x16384x128, .bf16⟩
  | .hbm, ⟨20, _⟩ => ⟨S16640x8x96, .f32⟩
  | .hbm, ⟨21, _⟩ => ⟨S8x16640x96, .f32⟩
  | .hbm, ⟨22, _⟩ => ⟨S_, .i32⟩
  | .hbm, ⟨23, _⟩ => ⟨S_, .f32⟩
  | .hbm, ⟨24, _⟩ => ⟨S8x16640x128, .f32⟩
  | .hbm, ⟨25, _⟩ => ⟨S8x16640x128, .bf16⟩
  | .hbm, ⟨26, _⟩ => ⟨S16640x8x64, .f32⟩
  | .hbm, ⟨27, _⟩ => ⟨S16640x512, .f32⟩
  | .hbm, ⟨28, _⟩ => ⟨S16640x512, .bf16⟩
  | .hbm, ⟨29, _⟩ => ⟨S16384x512, .bf16⟩
  | .local _ .vmem, ⟨0, _⟩ => ⟨S2x1024x128, .bf16⟩
  | .local _ .vmem, ⟨1, _⟩ => ⟨S2x1024x128, .bf16⟩
  | .local _ .vmem, ⟨2, _⟩ => ⟨S2x3328x128, .bf16⟩
  | .local _ .vmem, ⟨3, _⟩ => ⟨S2x3328x128, .bf16⟩
  | .local _ .vmem, ⟨4, _⟩ => ⟨S3328x128, .bf16⟩
  | .local _ .vmem, ⟨5, _⟩ => ⟨S3328x128, .bf16⟩
  | .local _ .vmem, ⟨6, _⟩ => ⟨S1024x128, .bf16⟩
  | .local _ .vmem, ⟨7, _⟩ => ⟨S1024x128, .bf16⟩
  | .local _ .vmem, ⟨8, _⟩ => ⟨S2x1024x1, .f32⟩
  | .local _ .vmem, ⟨9, _⟩ => ⟨S2x1024x256, .f32⟩
  | _, _ => ⟨S1x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 5], ![false, false, false]⟩

def k0_cond2 (i : grid0.Coords) : BitVec 1 :=
  let arg2 : BitVec 32 := BitVec.ofNat 32 (i 2).val
  let c4_i32 : BitVec 32 := 4#32
  let v427 : BitVec 1 := Scalar.cmpi .eq arg2 c4_i32
  let v428 : BitVec 32 := Scalar.extui v427
  let c0_i32_288 : BitVec 32 := 0#32
  let v429 : BitVec 1 := Scalar.cmpi .ne v428 c0_i32_288
  v429

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x3328x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S3328x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S1x16384x8x96 : Shape := ⟨4, ![1, 16384, 8, 96]⟩
abbrev S1x16640x8x96 : Shape := ⟨4, ![1, 16640, 8, 96]⟩
abbrev S1x16640x8x64 : Shape := ⟨4, ![1, 16640, 8, 64]⟩
abbrev S_ : Shape := ⟨0, ![]⟩
abbrev S1x8x16384x16640 : Shape := ⟨4, ![1, 8, 16384, 16640]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S1x16384x8x64 : Shape := ⟨4, ![1, 16384, 8, 64]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S1x16384x8x96, .f32⟩
  | .hbm, ⟨1, _⟩ => ⟨S1x16640x8x96, .f32⟩
  | .hbm, ⟨2, _⟩ => ⟨S1x16640x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x8x16384x16640, .f32⟩
  | .hbm, ⟨8, _⟩ => ⟨S1x8x16384x16640, .f32⟩
  | .hbm, ⟨9, _⟩ => ⟨S1x8x16384x16640, .f32⟩
  | .hbm, ⟨10, _⟩ => ⟨S_, .f32⟩
  | .hbm, ⟨11, _⟩ => ⟨S1x8x16384, .f32⟩
  | .hbm, ⟨12, _⟩ => ⟨S_, .f32⟩
  | .hbm, ⟨13, _⟩ => ⟨S1x8x16384, .f32⟩
  | .hbm, ⟨14, _⟩ => ⟨S1x8x16384, .f32⟩
  | .hbm, ⟨15, _⟩ => ⟨S1x8x16384x1, .f32⟩
  | .hbm, ⟨16, _⟩ => ⟨S1x8x16384x16640, .f32⟩
  | .hbm, ⟨17, _⟩ => ⟨S1x8x16384x16640, .f32⟩
  | .hbm, ⟨18, _⟩ => ⟨S1x8x16384x16640, .f32⟩
  | .hbm, ⟨19, _⟩ => ⟨S_, .f32⟩
  | .hbm, ⟨20, _⟩ => ⟨S1x8x16384, .f32⟩
  | .hbm, ⟨21, _⟩ => ⟨S1x8x16384x1, .f32⟩
  | .hbm, ⟨22, _⟩ => ⟨S1x8x16384x16640, .f32⟩
  | .hbm, ⟨23, _⟩ => ⟨S1x8x16384x16640, .f32⟩
  | .hbm, ⟨24, _⟩ => ⟨S1x8x64x16384, .f32⟩
  | .hbm, ⟨25, _⟩ => ⟨S1x16384x8x64, .f32⟩
  | .hbm, ⟨26, _⟩ => ⟨S16384x512, .f32⟩
  | .hbm, ⟨27, _⟩ => ⟨S16384x512, .bf16⟩
  | _, _ => ⟨S1x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Experts.lean ====
abbrev S32 : Shape := ⟨1, ![32]⟩
abbrev S73728x1024 : Shape := ⟨2, ![73728, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S1 : Shape := ⟨1, ![1]⟩
abbrev S288 : Shape := ⟨1, ![288]⟩
abbrev S288x1 : Shape := ⟨2, ![288, 1]⟩
abbrev S1x32 : Shape := ⟨2, ![1, 32]⟩
abbrev S288x32 : Shape := ⟨2, ![288, 32]⟩
abbrev S2x32x1x2048 : Shape := ⟨4, ![2, 32, 1, 2048]⟩
abbrev S2x32x1x1024 : Shape := ⟨4, ![2, 32, 1, 1024]⟩
abbrev S256x1024 : Shape := ⟨2, ![256, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 76
  | .vmem => 14
  | .smem => 2
  | _ => 0

abbrev bufTy : (tb : Table) → Fin (tcTables nBuf tb) → BufTy
  | .hbm, ⟨0, _⟩ => ⟨S32, .i32⟩
  | .hbm, ⟨1, _⟩ => ⟨S73728x1024, .f32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i1⟩
  | .hbm, ⟨44, _⟩ => ⟨S32, .i32⟩
  | .hbm, ⟨45, _⟩ => ⟨S32, .i32⟩
  | .hbm, ⟨46, _⟩ => ⟨S_, .i32⟩
  | .hbm, ⟨47, _⟩ => ⟨S32, .i32⟩
  | .hbm, ⟨48, _⟩ => ⟨S32, .i1⟩
  | .hbm, ⟨49, _⟩ => ⟨S32, .i1⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S1, .i32⟩
  | .hbm, ⟨55, _⟩ => ⟨S_, .i32⟩
  | .hbm, ⟨56, _⟩ => ⟨S288, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S288, .i32⟩
  | .hbm, ⟨62, _⟩ => ⟨S288, .i32⟩
  | .hbm, ⟨63, _⟩ => ⟨S288x1, .i32⟩
  | .hbm, ⟨64, _⟩ => ⟨S1x32, .i32⟩
  | .hbm, ⟨65, _⟩ => ⟨S288x32, .i32⟩
  | .hbm, ⟨66, _⟩ => ⟨S288x32, .i32⟩
  | .hbm, ⟨67, _⟩ => ⟨S288x32, .i1⟩
  | .hbm, ⟨68, _⟩ => ⟨S288x32, .i32⟩
  | .hbm, ⟨69, _⟩ => ⟨S_, .i32⟩
  | .hbm, ⟨70, _⟩ => ⟨S288, .i32⟩
  | .hbm, ⟨71, _⟩ => ⟨S_, .i32⟩
  | .hbm, ⟨72, _⟩ => ⟨S288, .i32⟩
  | .hbm, ⟨73, _⟩ => ⟨S2x32x1x2048, .f32⟩
  | .hbm, ⟨74, _⟩ => ⟨S2x32x1x1024, .f32⟩
  | .hbm, ⟨75, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_c_4 : Ref sig .tc := ⟨.hbm, 57, rfl⟩
abbrev main_v12 : Ref sig .tc := ⟨.hbm, 58, rfl⟩
abbrev main_c_5 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_c_6 : Ref sig .tc := ⟨.hbm, 69, rfl⟩
abbrev main_v22 : Ref sig .tc := ⟨.hbm, 70, rfl⟩
abbrev main_c_7 : Ref sig .tc := ⟨.hbm, 71, rfl⟩
abbrev main_v23 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v24 : Ref sig .tc := ⟨.smem, 0, rfl⟩
abbrev main_v25 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v24.idx, main_v25.idx], fun | 0 => main_v24.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixtureIdeal.lean ====
abbrev S32 : Shape := ⟨1, ![32]⟩
abbrev S73728x1024 : Shape := ⟨2, ![73728, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S73728 : Shape := ⟨1, ![73728]⟩
abbrev S73728x1 : Shape := ⟨2, ![73728, 1]⟩
abbrev S1x32 : Shape := ⟨2, ![1, 32]⟩
abbrev S73728x32 : Shape := ⟨2, ![73728, 32]⟩
abbrev S1x32x1024x2048 : Shape := ⟨4, ![1, 32, 1024, 2048]⟩
abbrev S32x1024x2048 : Shape := ⟨3, ![32, 1024, 2048]⟩
abbrev S73728x32x2048 : Shape := ⟨3, ![73728, 32, 2048]⟩
abbrev S1x32x2048 : Shape := ⟨3, ![1, 32, 2048]⟩
abbrev S32x2048 : Shape := ⟨2, ![32, 2048]⟩
abbrev S73728x32x1024 : Shape := ⟨3, ![73728, 32, 1024]⟩
abbrev S1x32x1024x1024 : Shape := ⟨4, ![1, 32, 1024, 1024]⟩
abbrev S32x1024x1024 : Shape := ⟨3, ![32, 1024, 1024]⟩
abbrev S32x1024x73728 : Shape := ⟨3, ![32, 1024, 73728]⟩
abbrev S1x32x1024 : Shape := ⟨3, ![1, 32, 1024]⟩
abbrev S32x1024 : Shape := ⟨2, ![32, 1024]⟩

abbrev nBuf : Space → Nat
  | .hbm => 96
  | .vmem => 0
  | .smem => 0
  | _ => 0

abbrev bufTy : (tb : Table) → Fin (tcTables nBuf tb) → BufTy
  | .hbm, ⟨0, _⟩ => ⟨S32, .i32⟩
  | .hbm, ⟨1, _⟩ => ⟨S73728x1024, .f32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S73728, .i32⟩
  | .hbm, ⟨34, _⟩ => ⟨S73728x1, .i32⟩
  | .hbm, ⟨35, _⟩ => ⟨S1x32, .i32⟩
  | .hbm, ⟨36, _⟩ => ⟨S73728x32, .i32⟩
  | .hbm, ⟨37, _⟩ => ⟨S73728x32, .i32⟩
  | .hbm, ⟨38, _⟩ => ⟨S73728x32, .i1⟩
  | .hbm, ⟨39, _⟩ => ⟨S73728x32, .i32⟩
  | .hbm, ⟨40, _⟩ => ⟨S_, .i32⟩
  | .hbm, ⟨41, _⟩ => ⟨S73728, .i32⟩
  | .hbm, ⟨42, _⟩ => ⟨S73728x1, .i32⟩
  | .hbm, ⟨43, _⟩ => ⟨S32, .i32⟩
  | .hbm, ⟨44, _⟩ => ⟨S1x32, .i32⟩
  | .hbm, ⟨45, _⟩ => ⟨S73728x32, .i32⟩
  | .hbm, ⟨46, _⟩ => ⟨S73728x32, .i32⟩
  | .hbm, ⟨47, _⟩ => ⟨S73728x32, .i1⟩
  | .hbm, ⟨48, _⟩ => ⟨S73728x32, .f32⟩
  | .hbm, ⟨49, _⟩ => ⟨S1x32x1024x2048, .f32⟩
  | .hbm, ⟨50, _⟩ => ⟨S32x1024x2048, .f32⟩
  | .hbm, ⟨51, _⟩ => ⟨S73728x32x2048, .f32⟩
  | .hbm, ⟨52, _⟩ => ⟨S1x32x2048, .f32⟩
  | .hbm, ⟨53, _⟩ => ⟨S32x2048, .f32⟩
  | .hbm, ⟨54, _⟩ => ⟨S1x32x2048, .f32⟩
  | .hbm, ⟨55, _⟩ => ⟨S73728x32x2048, .f32⟩
  | .hbm, ⟨56, _⟩ => ⟨S73728x32x2048, .f32⟩
  | .hbm, ⟨57, _⟩ => ⟨S73728x32x1024, .f32⟩
  | .hbm, ⟨58, _⟩ => ⟨S_, .f32⟩
  | .hbm, ⟨59, _⟩ => ⟨S73728x32x1024, .f32⟩
  | .hbm, ⟨60, _⟩ => ⟨S73728x32x1024, .f32⟩
  | .hbm, ⟨61, _⟩ => ⟨S73728x32x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S73728x32x1024, .f32⟩
  | .hbm, ⟨66, _⟩ => ⟨S73728x32x1024, .f32⟩
  | .hbm, ⟨67, _⟩ => ⟨S_, .f32⟩
  | .hbm, ⟨68, _⟩ => ⟨S73728x32x1024, .f32⟩
  | .hbm, ⟨69, _⟩ => ⟨S73728x32x1024, .f32⟩
  | .hbm, ⟨70, _⟩ => ⟨S_, .f32⟩
  | .hbm, ⟨71, _⟩ => ⟨S73728x32x1024, .f32⟩
  | .hbm, ⟨72, _⟩ => ⟨S73728x32x1024, .f32⟩
  | .hbm, ⟨73, _⟩ => ⟨S73728x32x1024, .f32⟩
  | .hbm, ⟨74, _⟩ => ⟨S73728x32x1024, .f32⟩
  | .hbm, ⟨75, _⟩ => ⟨S_, .f32⟩
  | .hbm, ⟨76, _⟩ => ⟨S73728x32x1024, .f32⟩
  | .hbm, ⟨77, _⟩ => ⟨S73728x32x1024, .f32⟩
  | .hbm, ⟨78, _⟩ => ⟨S_, .f32⟩
  | .hbm, ⟨79, _⟩ => ⟨S73728x32x1024, .f32⟩
  | .hbm, ⟨80, _⟩ => ⟨S73728x32x1024, .f32⟩
  | .hbm, ⟨81, _⟩ => ⟨S73728x32x1024, .f32⟩
  | .hbm, ⟨82, _⟩ => ⟨S_, .f32⟩
  | .hbm, ⟨83, _⟩ => ⟨S73728x32x1024, .f32⟩
  | .hbm, ⟨84, _⟩ => ⟨S73728x32x1024, .f32⟩
  | .hbm, ⟨85, _⟩ => ⟨S73728x32x1024, .f32⟩
  | .hbm, ⟨86, _⟩ => ⟨S1x32x1024x1024, .f32⟩
  | .hbm, ⟨87, _⟩ => ⟨S32x1024x1024, .f32⟩
  | .hbm, ⟨88, _⟩ => ⟨S32x1024x73728, .f32⟩
  | .hbm, ⟨89, _⟩ => ⟨S73728x32x1024, .f32⟩
  | .hbm, ⟨90, _⟩ => ⟨S1x32x1024, .f32⟩
  | .hbm, ⟨91, _⟩ => ⟨S32x1024, .f32⟩
  | .hbm, ⟨92, _⟩ => ⟨S1x32x1024, .f32⟩
  | .hbm, ⟨93, _⟩ => ⟨S73728x32x1024, .f32⟩
  | .hbm, ⟨94, _⟩ => ⟨S73728x32x1024, .f32⟩
  | .hbm, ⟨95, _⟩ => ⟨S73728x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_cst_4 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v33 : Ref sig .tc := ⟨.hbm, 69, rfl⟩
abbrev main_cst_5 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_6 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_8 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩

abbrev nD : Nat := 1
abbrev τ : Topo := Topo.v7x

variable {F : FTy → Type} [FloatOps F]
-- ==== Merge.lean ====
abbrev S1x16384x8x64 : Shape := ⟨4, ![1, 16384, 8, 64]⟩
abbrev S1024x1024 : Shape := ⟨2, ![1024, 1024]⟩
abbrev S1x16384x1024 : Shape := ⟨3, ![1, 16384, 1024]⟩
abbrev S1x1x1024 : Shape := ⟨3, ![1, 1, 1024]⟩
abbrev S16384x512 : Shape := ⟨2, ![16384, 512]⟩
abbrev S512x1024 : Shape := ⟨2, ![512, 1024]⟩
abbrev S16384x1024 : Shape := ⟨2, ![16384, 1024]⟩
abbrev S1x1024 : Shape := ⟨2, ![1, 1024]⟩
abbrev S512x512 : Shape := ⟨2, ![512, 512]⟩

abbrev nBuf : Space → Nat
  | .hbm => 15
  | .vmem => 11
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1024x1024, .f32⟩
  | .hbm, ⟨3, _⟩ => ⟨S1x16384x1024, .f32⟩
  | .hbm, ⟨4, _⟩ => ⟨S1x1x1024, .f32⟩
  | .hbm, ⟨5, _⟩ => ⟨S16384x512, .f32⟩
  | .hbm, ⟨6, _⟩ => ⟨S16384x512, .bf16⟩
  | .hbm, ⟨7, _⟩ => ⟨S16384x512, .f32⟩
  | .hbm, ⟨8, _⟩ => ⟨S16384x512, .bf16⟩
  | .hbm, ⟨9, _⟩ => ⟨S1024x1024, .bf16⟩
  | .hbm, ⟨10, _⟩ => ⟨S512x1024, .bf16⟩
  | .hbm, ⟨11, _⟩ => ⟨S512x1024, .bf16⟩
  | .hbm, ⟨12, _⟩ => ⟨S16384x1024, .f32⟩
  | .hbm, ⟨13, _⟩ => ⟨S1x1024, .f32⟩
  | .hbm, ⟨14, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S1x16384x8x64 : Shape := ⟨4, ![1, 16384, 8, 64]⟩
abbrev S1024x1024 : Shape := ⟨2, ![1024, 1024]⟩
abbrev S1x16384x1024 : Shape := ⟨3, ![1, 16384, 1024]⟩
abbrev S1x1x1024 : Shape := ⟨3, ![1, 1, 1024]⟩
abbrev S1x16384x512 : Shape := ⟨3, ![1, 16384, 512]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1024x1024, .f32⟩
  | .hbm, ⟨3, _⟩ => ⟨S1x16384x1024, .f32⟩
  | .hbm, ⟨4, _⟩ => ⟨S1x1x1024, .f32⟩
  | .hbm, ⟨5, _⟩ => ⟨S1x16384x512, .f32⟩
  | .hbm, ⟨6, _⟩ => ⟨S1x16384x512, .f32⟩
  | .hbm, ⟨7, _⟩ => ⟨S1x16384x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S1x16384x1024, .f32⟩
  | .hbm, ⟨12, _⟩ => ⟨S16384x1024, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Outlet.lean ====
abbrev S1x16384x1024 : Shape := ⟨3, ![1, 16384, 1024]⟩
abbrev S1024x1024 : Shape := ⟨2, ![1024, 1024]⟩
abbrev S1024 : Shape := ⟨1, ![1024]⟩
abbrev S1x1x1024 : Shape := ⟨3, ![1, 1, 1024]⟩
abbrev S16384x1024 : Shape := ⟨2, ![16384, 1024]⟩
abbrev S1x1024 : Shape := ⟨2, ![1, 1024]⟩
abbrev S512x1024 : Shape := ⟨2, ![512, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1024, .f32⟩
  | .hbm, ⟨3, _⟩ => ⟨S1x16384x1024, .f32⟩
  | .hbm, ⟨4, _⟩ => ⟨S1x1x1024, .f32⟩
  | .hbm, ⟨5, _⟩ => ⟨S16384x1024, .f32⟩
  | .hbm, ⟨6, _⟩ => ⟨S16384x1024, .bf16⟩
  | .hbm, ⟨7, _⟩ => ⟨S1024x1024, .bf16⟩
  | .hbm, ⟨8, _⟩ => ⟨S1x1024, .f32⟩
  | .hbm, ⟨9, _⟩ => ⟨S16384x1024, .f32⟩
  | .hbm, ⟨10, _⟩ => ⟨S1x1024, .f32⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutletRefIdeal.lean ====
abbrev S1x16384x1024 : Shape := ⟨3, ![1, 16384, 1024]⟩
abbrev S1024x1024 : Shape := ⟨2, ![1024, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1024, .f32⟩
  | .hbm, ⟨3, _⟩ => ⟨S1x16384x1024, .f32⟩
  | .hbm, ⟨4, _⟩ => ⟨S1x1x1024, .f32⟩
  | .hbm, ⟨5, _⟩ => ⟨S1x16384x1024, .f32⟩
  | .hbm, ⟨6, _⟩ => ⟨S1x1x1024, .f32⟩
  | .hbm, ⟨7, _⟩ => ⟨S1x16384x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S1x16384x1024, .f32⟩
  | .hbm, ⟨12, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Inlet.lean ====
abbrev S1x16384x1024 : Shape := ⟨3, ![1, 16384, 1024]⟩
abbrev S1024 : Shape := ⟨1, ![1024]⟩
abbrev S1x1x1024 : Shape := ⟨3, ![1, 1, 1024]⟩
abbrev S1024x3072 : Shape := ⟨2, ![1024, 3072]⟩
abbrev S3072 : Shape := ⟨1, ![3072]⟩
abbrev S3x3072 : Shape := ⟨2, ![3, 3072]⟩
abbrev S16384x1024 : Shape := ⟨2, ![16384, 1024]⟩
abbrev S1x1024 : Shape := ⟨2, ![1, 1024]⟩
abbrev S1x3072 : Shape := ⟨2, ![1, 3072]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x3072 : Shape := ⟨2, ![272, 3072]⟩
abbrev S256x3072 : Shape := ⟨2, ![256, 3072]⟩

abbrev nBuf : Space → Nat
  | .hbm => 18
  | .vmem => 19
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x3072, .f32⟩
  | .hbm, ⟨5, _⟩ => ⟨S3072, .f32⟩
  | .hbm, ⟨6, _⟩ => ⟨S3x3072, .f32⟩
  | .hbm, ⟨7, _⟩ => ⟨S3072, .f32⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x3072, .bf16⟩
  | .hbm, ⟨13, _⟩ => ⟨S1x3072, .f32⟩
  | .hbm, ⟨14, _⟩ => ⟨S1x3072, .f32⟩
  | .hbm, ⟨15, _⟩ => ⟨S16384x1024, .bf16⟩
  | .hbm, ⟨16, _⟩ => ⟨S16384x1024, .bf16⟩
  | .hbm, ⟨17, _⟩ => ⟨S16384x1024, .bf16⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S3x3072, .f32⟩
  | .local _ .vmem, ⟨12, _⟩ => ⟨S1x3072, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InletRefIdeal.lean ====
abbrev S1x16384x1024 : Shape := ⟨3, ![1, 16384, 1024]⟩
abbrev S1024 : Shape := ⟨1, ![1024]⟩
abbrev S1x1x1024 : Shape := ⟨3, ![1, 1, 1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩
abbrev S1x16384 : Shape := ⟨2, ![1, 16384]⟩
abbrev S1x16384x1 : Shape := ⟨3, ![1, 16384, 1]⟩
abbrev S1x16384x3072 : Shape := ⟨3, ![1, 16384, 3072]⟩
abbrev S1x1x3072 : Shape := ⟨3, ![1, 1, 3072]⟩
abbrev S1x16386x3072 : Shape := ⟨3, ![1, 16386, 3072]⟩
abbrev S1x3072 : Shape := ⟨2, ![1, 3072]⟩
abbrev S16384x3072 : Shape := ⟨2, ![16384, 3072]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x3072, .f32⟩
  | .hbm, ⟨5, _⟩ => ⟨S3072, .f32⟩
  | .hbm, ⟨6, _⟩ => ⟨S3x3072, .f32⟩
  | .hbm, ⟨7, _⟩ => ⟨S3072, .f32⟩
  | .hbm, ⟨8, _⟩ => ⟨S1x16384x1024, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S1x16384x3072, .f32⟩
  | .hbm, ⟨32, _⟩ => ⟨S1x1x3072, .f32⟩
  | .hbm, ⟨33, _⟩ => ⟨S1x16384x3072, .f32⟩
  | .hbm, ⟨34, _⟩ => ⟨S1x16384x3072, .f32⟩
  | .hbm, ⟨35, _⟩ => ⟨S_, .i32⟩
  | .hbm, ⟨36, _⟩ => ⟨S_, .f32⟩
  | .hbm, ⟨37, _⟩ => ⟨S1x16386x3072, .f32⟩
  | .hbm, ⟨38, _⟩ => ⟨S1x16384x3072, .f32⟩
  | .hbm, ⟨39, _⟩ => ⟨S1x3072, .f32⟩
  | .hbm, ⟨40, _⟩ => ⟨S3072, .f32⟩
  | .hbm, ⟨41, _⟩ => ⟨S1x1x3072, .f32⟩
  | .hbm, ⟨42, _⟩ => ⟨S1x16384x3072, .f32⟩
  | .hbm, ⟨43, _⟩ => ⟨S1x16384x3072, .f32⟩
  | .hbm, ⟨44, _⟩ => ⟨S1x16384x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S1x16384x3072, .f32⟩
  | .hbm, ⟨49, _⟩ => ⟨S1x16384x3072, .f32⟩
  | .hbm, ⟨50, _⟩ => ⟨S1x16384x3072, .f32⟩
  | .hbm, ⟨51, _⟩ => ⟨S1x16384x3072, .f32⟩
  | .hbm, ⟨52, _⟩ => ⟨S1x3072, .f32⟩
  | .hbm, ⟨53, _⟩ => ⟨S3072, .f32⟩
  | .hbm, ⟨54, _⟩ => ⟨S1x1x3072, .f32⟩
  | .hbm, ⟨55, _⟩ => ⟨S1x16384x3072, .f32⟩
  | .hbm, ⟨56, _⟩ => ⟨S1x16384x3072, .f32⟩
  | .hbm, ⟨57, _⟩ => ⟨S1x16384x3072, .f32⟩
  | .hbm, ⟨58, _⟩ => ⟨S1x1x3072, .f32⟩
  | .hbm, ⟨59, _⟩ => ⟨S1x16384x3072, .f32⟩
  | .hbm, ⟨60, _⟩ => ⟨S1x16384x3072, .f32⟩
  | .hbm, ⟨61, _⟩ => ⟨S16384x3072, .f32⟩
  | .hbm, ⟨62, _⟩ => ⟨S16384x3072, .bf16⟩
  | .hbm, ⟨63, _⟩ => ⟨S16384x1024, .bf16⟩
  | .hbm, ⟨64, _⟩ => ⟨S16384x1024, .bf16⟩
  | .hbm, ⟨65, _⟩ => ⟨S16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Proof.Mla.Chain.lean ====
module

public import proofs.«01_k».proof.Proof.Gen.KernelIdeal.Value
public import Idealize.ShloMosaic.Lib.Pipeline.ValueKit
public import Idealize.ShloMosaic.Lib.Pipeline.ReadBack
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.KernelIdeal.Mla

open Cert.KernelIdeal Cert.KernelIdeal.Gen
open Idealize.ShloMosaic hiding ix1 ix2 ix3 ix4 maximumf_apply addf_apply mulf_apply subf_apply divf_apply truncf_apply constant_apply
open Idealize.ShloMosaic.TcCoe Idealize.SL.Sem
open Idealize.ShloMosaic.ValueIdx

/-- The accumulator's initial word of a maximum denotes the bottom of the extended reals. -/
theorem ofBits_neg_inf : (FloatOps.ofBits (F := Ideal) .f32 0xFF800000#32 : EReal) = ⊥ := by
  simp [Ideal.ofBits, Ideal.ieee]

/-- The word of one in bf16. -/
theorem ofBits_one_bf16 : (FloatOps.ofBits (F := Ideal) .bf16 0x3F80#16 : EReal) = 1 := by
  simp [Ideal.ofBits, Ideal.ieee]
  rw [← EReal.coe_mul]
  norm_num

variable (vv : Vec Ideal S3328x128 .bf16) (kk : Vec Ideal S1x3328x128 .bf16) (qq : Vec Ideal S1x128x128 .bf16)
  (mm : Vec Ideal S1x128x1 .f32) (aa : Vec Ideal S1x128x256 .f32)

/-- The score of row `r` of a query sub-block against key `k` of a key block. -/
def tileScore (r : Fin 128) (k : Fin 3328) : EReal := ∑ d : Fin 128, qq (ix3 0 r d) * kk (ix3 0 k d)

/-- A row's new running maximum. -/
def tileMax (r : Fin 128) : EReal := max (mm (ix3 0 r 0)) ((Finset.univ : Finset (Fin 3328)).fold max ⊥ (tileScore kk qq r))

/-- The values with the ones beside them. -/
def tileVal (k : Fin 3328) (l : Fin 256) : EReal := if h : l.val < 128 then vv (ix2 k ⟨l.val, h⟩) else 1

theorem scores_apply (r : Fin 128) (k : Fin 3328) : k0_pay5 kk qq (ix2 r k) = tileScore kk qq r k := by
  unfold k0_pay5 k0_pay4 tileScore
  simp only [matmul]
  rw [Ideal.matmul_constant_zero_apply, ← Equiv.sum_comp (contrEquiv1 dot_S128x128_S3328x128_S128x3328_1_1_0_0_n_n 128 rfl rfl).symm]
  refine Finset.sum_congr rfl fun d _ => ?_
  have hk := contrEquiv1_symm_val dot_S128x128_S3328x128_S128x3328_1_1_0_0_n_n 128 rfl rfl d
  have el : dot_S128x128_S3328x128_S128x3328_1_1_0_0_n_n.lhsIdx (ix2 r k) ((contrEquiv1 dot_S128x128_S3328x128_S128x3328_1_1_0_0_n_n 128 rfl rfl).symm d) = ix2 r d := by
    funext a; apply Fin.ext
    match a with
    | ⟨0, _⟩ => rfl
    | ⟨1, _⟩ => exact (DotDims.lhsIdx_val_of_single _ rfl _ _).trans hk
  have er : dot_S128x128_S3328x128_S128x3328_1_1_0_0_n_n.rhsIdx (ix2 r k) ((contrEquiv1 dot_S128x128_S3328x128_S128x3328_1_1_0_0_n_n 128 rfl rfl).symm d) = ix2 k d := by
    funext a; apply Fin.ext
    match a with
    | ⟨0, _⟩ => rfl
    | ⟨1, _⟩ => exact (DotDims.rhsIdx_val_of_single _ rfl _ _).trans hk
  rw [el, er, shapeCast_1ab_ab_apply, shapeCast_1ab_ab_apply]

theorem max_apply (r : Fin 128) : k0_pay7 kk qq mm (ix2 r 0) = tileMax kk qq mm r := by
  unfold k0_pay7 k0_pay6 tileMax
  simp only
  rw [maximumf_apply, shapeCast_a_a1_apply]
  refine congrArg₂ max (shapeCast_1ab_ab_apply _ _ _ _) ((Ideal.multiReduction_maximumf_single _ _ _ _ _ _).trans ?_)
  rw [ofBits_neg_inf]
  congr 1
  funext k
  refine Eq.trans (congrArg (k0_pay5 kk qq) (?_ : _ = ix2 r k)) (scores_apply kk qq r k)
  funext a
  match a with
  | ⟨0, _⟩ => rfl
  | ⟨1, _⟩ => rfl

theorem max_tile_apply (r : Fin 128) : k0_pay9 (k0_pay7 kk qq mm) (ix3 0 r 0) = tileMax kk qq mm r := by
  unfold k0_pay9
  rw [shapeCast_ab_1ab_apply, max_apply]

theorem vals_apply (k : Fin 3328) (l : Fin 256) : k0_pay3 vv (ix2 k l) = tileVal vv k l := by
  unfold k0_pay3 tileVal
  split
  · rename_i h
    refine (concatenate_pair_apply_left (t := S3328x256) (s₁ := S3328x128) (s₂ := S3328x128) _ _ _ _ _ rfl (ix2 k ⟨l.val, h⟩) ?_).trans ?_
    · intro b
      match b with
      | ⟨0, _⟩ => rfl
      | ⟨1, _⟩ => rfl
    · exact congrFun (shapeCast_self _ _) _
  · rename_i h
    refine (concatenate_pair_apply_right (t := S3328x256) (s₁ := S3328x128) (s₂ := S3328x128) _ _ _ _ _ rfl rfl (ix2 k ⟨l.val - 128, by omega⟩) ?_ ?_).trans ?_
    · intro b hb
      match b with
      | ⟨0, _⟩ => rfl
      | ⟨1, _⟩ => exact absurd rfl hb
    · show l.val - 128 + 128 = l.val
      omega
    · exact ofBits_one_bf16

theorem acc_tile_apply (r : Fin 128) (l : Fin 256) :
    k0_pay8 vv kk qq mm aa (ix3 0 r l)
      = Ideal.exp2 (mm (ix3 0 r 0) - tileMax kk qq mm r) * aa (ix3 0 r l)
        + ∑ k : Fin 3328, Ideal.exp2 (tileScore kk qq r k - tileMax kk qq mm r) * tileVal vv k l := by
  unfold k0_pay8
  simp only [matmul]
  rw [shapeCast_ab_1ab_apply, addf_apply, mulf_apply, Ideal.matmul_constant_zero_apply, ← Equiv.sum_comp (contrEquiv1 dot_S128x3328_S3328x256_S128x256_1_0_0_1_n_n 3328 rfl rfl).symm]
  congr 1
  · refine congrArg₂ (· * ·) ?_ (shapeCast_1ab_ab_apply _ _ _ _)
    refine (broadcastTo_apply _ _ _ (ix2 r 0) ?_).trans ?_
    · intro a
      match a with
      | ⟨0, _⟩ => rfl
      | ⟨1, _⟩ => rfl
    · show Ideal.exp2 (k0_pay6 mm (ix2 r 0) - k0_pay7 kk qq mm (ix2 r 0)) = _
      rw [max_apply]
      exact congrArg (fun z => Ideal.exp2 (z - _)) (shapeCast_1ab_ab_apply _ _ _ _)
  refine Finset.sum_congr rfl fun d _ => ?_
  have hk := contrEquiv1_symm_val dot_S128x3328_S3328x256_S128x256_1_0_0_1_n_n 3328 rfl rfl d
  have el : dot_S128x3328_S3328x256_S128x256_1_0_0_1_n_n.lhsIdx (ix2 r l) ((contrEquiv1 dot_S128x3328_S3328x256_S128x256_1_0_0_1_n_n 3328 rfl rfl).symm d) = ix2 r d := by
    funext a; apply Fin.ext
    match a with
    | ⟨0, _⟩ => rfl
    | ⟨1, _⟩ => exact (DotDims.lhsIdx_val_of_single _ rfl _ _).trans hk
  have er : dot_S128x3328_S3328x256_S128x256_1_0_0_1_n_n.rhsIdx (ix2 r l) ((contrEquiv1 dot_S128x3328_S3328x256_S128x256_1_0_0_1_n_n 3328 rfl rfl).symm d) = ix2 d l := by
    funext a; apply Fin.ext
    match a with
    | ⟨0, _⟩ => exact (DotDims.rhsIdx_val_of_single _ rfl _ _).trans hk
    | ⟨1, _⟩ => rfl
  rw [el, er, vals_apply, truncf_apply]
  refine congrArg (· * _) ?_
  show Ideal.exp2 (k0_pay5 kk qq (ix2 r d) - broadcastTo S128x3328 (k0_pay7 kk qq mm) broadcasts_S128x1_S128x3328 (ix2 r d)) = _
  rw [scores_apply, broadcastTo_apply _ _ _ (ix2 r 0), max_apply]
  intro a
  match a with
  | ⟨0, _⟩ => rfl
  | ⟨1, _⟩ => rfl

end Cert.KernelIdeal.Mla
-- ==== Proof.Mla.Step.lean ====
module

public import proofs.«01_k».proof.Proof.Mla.Chain

@[expose] public section

set_option maxRecDepth 16384

noncomputable section

namespace Cert.KernelIdeal.Mla

open Cert.KernelIdeal Cert.KernelIdeal.Gen
open Idealize.ShloMosaic hiding ix1 ix2 ix3 ix4 maximumf_apply addf_apply mulf_apply subf_apply divf_apply truncf_apply constant_apply
open Idealize.ShloMosaic.TcCoe Idealize.SL.Sem
open Idealize.ShloMosaic.ValueIdx

section Full

variable (Q : Vec Ideal S2x1024x128 .bf16) (K : Vec Ideal S2x3328x128 .bf16) (V : Vec Ideal S3328x128 .bf16)
  (M : Vec Ideal S2x1024x1 .f32) (A : Vec Ideal S2x1024x256 .f32)

/-- The score of query row `r` of head `hh` of a block against key `k` of a key block. -/
def score (hh : Fin 2) (r : Fin 1024) (k : Fin 3328) : EReal := ∑ d : Fin 128, Q (ix3 hh r d) * K (ix3 hh k d)

/-- The running maximum after one key block. -/
def newMax (hh : Fin 2) (r : Fin 1024) : EReal := max (M (ix3 hh r 0)) ((Finset.univ : Finset (Fin 3328)).fold max ⊥ (score Q K hh r))

/-- The same as an array. -/
def stepMax : Vec Ideal S2x1024x1 .f32 := fun y => newMax Q K M (y 0) (y 1)

/-- The accumulator after one key block. -/
def stepAcc : Vec Ideal S2x1024x256 .f32 := fun y =>
  Ideal.exp2 (M (ix3 (y 0) (y 1) 0) - newMax Q K M (y 0) (y 1)) * A y
    + ∑ k : Fin 3328, Ideal.exp2 (score Q K (y 0) (y 1) k - newMax Q K M (y 0) (y 1)) * tileVal V k (y 2)

variable (hh r0 : ℕ)
  (ik : ∀ a : Fin 3, (![hh, 0, 0] : Fin 3 → ℕ) a + (![1, 3328, 128] : Fin 3 → ℕ) a ≤ S2x3328x128.size a)
  (iq : ∀ a : Fin 3, (![hh, r0, 0] : Fin 3 → ℕ) a + (![1, 128, 128] : Fin 3 → ℕ) a ≤ S2x1024x128.size a)
  (im : ∀ a : Fin 3, (![hh, r0, 0] : Fin 3 → ℕ) a + (![1, 128, 1] : Fin 3 → ℕ) a ≤ S2x1024x1.size a)
  (ia : ∀ a : Fin 3, (![hh, r0, 0] : Fin 3 → ℕ) a + (![1, 128, 256] : Fin 3 → ℕ) a ≤ S2x1024x256.size a)

theorem ld_score (h : Fin 2) (r : Fin 128) (r' : Fin 1024) (e0 : h.val = hh) (e1 : r'.val = r0 + r.val) :
    tileScore (View.ld K (Rect.unit ![hh, 0, 0] ![1, 3328, 128] ik)) (View.ld Q (Rect.unit ![hh, r0, 0] ![1, 128, 128] iq)) r
      = score Q K h r' := by
  funext k
  refine Finset.sum_congr rfl fun d _ => congrArg₂ (· * ·) (View.ld_unit_apply_of _ _ _ _ _ _ ?_) (View.ld_unit_apply_of _ _ _ _ _ _ ?_)
  · intro a
    match a with
    | ⟨0, _⟩ => exact e0
    | ⟨1, _⟩ => exact e1
    | ⟨2, _⟩ => exact (Nat.zero_add _).symm
  · intro a
    match a with
    | ⟨0, _⟩ => exact e0
    | ⟨1, _⟩ => exact (Nat.zero_add _).symm
    | ⟨2, _⟩ => exact (Nat.zero_add _).symm

theorem ld_prev (h : Fin 2) (r : Fin 128) (r' : Fin 1024) (e0 : h.val = hh) (e1 : r'.val = r0 + r.val) :
    View.ld M (Rect.unit ![hh, r0, 0] ![1, 128, 1] im) (ix3 0 r 0) = M (ix3 h r' 0) := by
  refine View.ld_unit_apply_of _ _ _ _ _ _ ?_
  intro a
  match a with
  | ⟨0, _⟩ => exact e0
  | ⟨1, _⟩ => exact e1
  | ⟨2, _⟩ => rfl

theorem ld_newMax (h : Fin 2) (r : Fin 128) (r' : Fin 1024) (e0 : h.val = hh) (e1 : r'.val = r0 + r.val) :
    tileMax (View.ld K (Rect.unit ![hh, 0, 0] ![1, 3328, 128] ik)) (View.ld Q (Rect.unit ![hh, r0, 0] ![1, 128, 128] iq))
        (View.ld M (Rect.unit ![hh, r0, 0] ![1, 128, 1] im)) r = newMax Q K M h r' := by
  unfold tileMax newMax
  rw [ld_score Q K hh r0 ik iq h r r' e0 e1, ld_prev M hh r0 im h r r' e0 e1]

theorem piece_max (x : (Rect.unit (s := S2x1024x1) ![hh, r0, 0] ![1, 128, 1] im).shape.Idx) :
    k0_pay9 (k0_pay7 (View.ld K (Rect.unit ![hh, 0, 0] ![1, 3328, 128] ik)) (View.ld Q (Rect.unit ![hh, r0, 0] ![1, 128, 128] iq))
        (View.ld M (Rect.unit ![hh, r0, 0] ![1, 128, 1] im))) x
      = stepMax Q K M ((Rect.unit ![hh, r0, 0] ![1, 128, 1] im).emb x) := by
  have hx : x = ix3 0 (x 1) 0 := by
    funext a
    match a with
    | ⟨0, _⟩ => exact Subsingleton.elim (α := Fin 1) _ _
    | ⟨1, _⟩ => rfl
    | ⟨2, _⟩ => exact Subsingleton.elim (α := Fin 1) _ _
  have h0 : (x 0).val = 0 := by have := (x 0).isLt; exact Nat.lt_one_iff.mp this
  refine (congrArg _ hx).trans ((max_tile_apply _ _ _ (x 1)).trans ?_)
  refine ld_newMax Q K M hh r0 ik iq im _ _ _ ?_ ?_
  · show hh + 1 * (x 0).val = hh
    omega
  · show r0 + 1 * (x 1).val = r0 + (x 1).val
    omega

theorem piece_acc (x : (Rect.unit (s := S2x1024x256) ![hh, r0, 0] ![1, 128, 256] ia).shape.Idx) :
    k0_pay8 V (View.ld K (Rect.unit ![hh, 0, 0] ![1, 3328, 128] ik)) (View.ld Q (Rect.unit ![hh, r0, 0] ![1, 128, 128] iq))
        (View.ld M (Rect.unit ![hh, r0, 0] ![1, 128, 1] im)) (View.ld A (Rect.unit ![hh, r0, 0] ![1, 128, 256] ia)) x
      = stepAcc Q K V M A ((Rect.unit (s := S2x1024x256) ![hh, r0, 0] ![1, 128, 256] ia).emb x) := by
  have hx : x = ix3 0 (x 1) (x 2) := by
    funext a
    match a with
    | ⟨0, _⟩ => exact Subsingleton.elim (α := Fin 1) _ _
    | ⟨1, _⟩ => rfl
    | ⟨2, _⟩ => rfl
  have h0 : (x 0).val = 0 := by have := (x 0).isLt; exact Nat.lt_one_iff.mp this
  have e0 : ((Rect.unit (s := S2x1024x256) ![hh, r0, 0] ![1, 128, 256] ia).emb x 0).val = hh := by
    show hh + 1 * (x 0).val = hh
    omega
  have e1 : ((Rect.unit (s := S2x1024x256) ![hh, r0, 0] ![1, 128, 256] ia).emb x 1).val = r0 + (x 1).val := by
    show r0 + 1 * (x 1).val = r0 + (x 1).val
    omega
  have e2 : (Rect.unit (s := S2x1024x256) ![hh, r0, 0] ![1, 128, 256] ia).emb x 2 = x 2 := by
    apply Fin.ext
    show 0 + 1 * (x 2).val = (x 2).val
    omega
  refine (congrArg _ hx).trans ((acc_tile_apply _ _ _ _ _ (x 1) (x 2)).trans ?_)
  unfold stepAcc
  have ea : View.ld A (Rect.unit ![hh, r0, 0] ![1, 128, 256] ia) (ix3 0 (x 1) (x 2)) = A ((Rect.unit (s := S2x1024x256) ![hh, r0, 0] ![1, 128, 256] ia).emb x) :=
    congrArg (View.ld A (Rect.unit ![hh, r0, 0] ![1, 128, 256] ia)) hx.symm
  rw [ld_newMax Q K M hh r0 ik iq im _ (x 1) _ e0 e1, ld_score Q K hh r0 ik iq _ (x 1) _ e0 e1, ld_prev M hh r0 im _ (x 1) _ e0 e1, e2, ea]

theorem canon_of_piecesOf {s : Shape} {e : EltTy} (G : s.Idx → Elt Ideal e) (L : List (View.Piece (Elt Ideal) s e)) (size : Fin s.rank → ℕ)
    (h : View.PiecesOf G L) (hc : View.Piece.tiledL L size = true) : View.canon L = G := by
  funext y
  have := View.canon_append_of_piecesOf G [] L h y (View.cover_of_tiledL L size hc y)
  rwa [List.append_nil] at this

end Full

variable (c : Dev nD) (i : grid0.Coords) (arg3 : Memref sig .tc .vmem S2x1024x128 .bf16) (harg3 : arg3.IsWhole) (arg4 : Memref sig .tc .vmem S2x3328x128 .bf16) (harg4 : arg4.IsWhole) (arg5 : Memref sig .tc .vmem S3328x128 .bf16) (harg5 : arg5.IsWhole) (arg6 : Memref sig .tc .vmem S1024x128 .bf16) (harg6 : arg6.IsWhole)
  (Q : Vec Ideal S2x1024x128 .bf16) (K : Vec Ideal S2x3328x128 .bf16) (V : Vec Ideal S3328x128 .bf16)
  (M : Vec Ideal S2x1024x1 .f32) (A : Vec Ideal S2x1024x256 .f32)

open View in
theorem max_B (h0 : ¬ cond0_0 i) (h1 : ¬ cond0_1 i) :
    sout0_B_0 c i arg3 harg3 arg4 harg4 arg5 harg5 arg6 harg6 scM0_0 (Memref.isWhole_whole _) scM0_1 (Memref.isWhole_whole _) h0 h1 Q K V M A = stepMax Q K M := by
  funext y
  frame_open
  simp (disch := decide) only [↓ View.readCov_skip]
  frame_out
  try simp only [read_unread_whole]
  refine congrFun (canon_of_piecesOf (stepMax Q K M) [_, _, _, _, _, _, _, _, _, _, _, _, _, _, _, _] S1x128x1.size ⟨?_, ?_, ?_, ?_, ?_, ?_, ?_, ?_, ?_, ?_, ?_, ?_, ?_, ?_, ?_, ?_, trivial⟩ (by sl_kernel_rfl)) y <;>
    exact piece_max Q K M _ _ _ _ _

open View in
theorem acc_B (h0 : ¬ cond0_0 i) (h1 : ¬ cond0_1 i) :
    sout0_B_1 c i arg3 harg3 arg4 harg4 arg5 harg5 arg6 harg6 scM0_0 (Memref.isWhole_whole _) scM0_1 (Memref.isWhole_whole _) h0 h1 Q K V M A = stepAcc Q K V M A := by
  funext y
  frame_open
  simp (disch := decide) only [↓ View.readCov_skip]
  frame_out
  try simp only [read_unread_whole]
  refine congrFun (canon_of_piecesOf (stepAcc Q K V M A) [_, _, _, _, _, _, _, _, _, _, _, _, _, _, _, _] S1x128x256.size ⟨?_, ?_, ?_, ?_, ?_, ?_, ?_, ?_, ?_, ?_, ?_, ?_, ?_, ?_, ?_, ?_, trivial⟩ (by sl_kernel_rfl)) y <;>
    exact piece_acc Q K V M A _ _ _ _ _ _

open View in
theorem max_C (h0 : ¬ cond0_0 i) (h1 : cond0_1 i) :
    sout0_C_0 c i arg3 harg3 arg4 harg4 arg5 harg5 arg6 harg6 scM0_0 (Memref.isWhole_whole _) scM0_1 (Memref.isWhole_whole _) h0 h1 Q K V M A = stepMax Q K M := by
  funext y
  frame_open
  simp (disch := decide) only [↓ View.readCov_skip]
  frame_out
  try simp only [read_unread_whole]
  refine congrFun (canon_of_piecesOf (stepMax Q K M) [_, _, _, _, _, _, _, _, _, _, _, _, _, _, _, _] S1x128x1.size ⟨?_, ?_, ?_, ?_, ?_, ?_, ?_, ?_, ?_, ?_, ?_, ?_, ?_, ?_, ?_, ?_, trivial⟩ (by sl_kernel_rfl)) y <;>
    exact piece_max Q K M _ _ _ _ _

open View in
theorem acc_C (h0 : ¬ cond0_0 i) (h1 : cond0_1 i) :
    sout0_C_1 c i arg3 harg3 arg4 harg4 arg5 harg5 arg6 harg6 scM0_0 (Memref.isWhole_whole _) scM0_1 (Memref.isWhole_whole _) h0 h1 Q K V M A = stepAcc Q K V M A := by
  funext y
  frame_open
  simp (disch := decide) only [↓ View.readCov_skip]
  frame_out
  try simp only [read_unread_whole]
  refine congrFun (canon_of_piecesOf (stepAcc Q K V M A) [_, _, _, _, _, _, _, _, _, _, _, _, _, _, _, _] S1x128x256.size ⟨?_, ?_, ?_, ?_, ?_, ?_, ?_, ?_, ?_, ?_, ?_, ?_, ?_, ?_, ?_, ?_, trivial⟩ (by sl_kernel_rfl)) y <;>
    exact piece_acc Q K V M A _ _ _ _ _ _

open View in
theorem max_A (h0 : cond0_0 i) (h1 : ¬ cond0_1 i) :
    sout0_A_0 c i arg3 harg3 arg4 harg4 arg5 harg5 arg6 harg6 scM0_0 (Memref.isWhole_whole _) scM0_1 (Memref.isWhole_whole _) h0 h1 Q K V = stepMax Q K (k0_pay1 (F := Ideal)) := by
  funext y
  frame_open
  simp (disch := decide) only [↓ View.readCov_skip, ↓ View.readCov_fill]
  frame_out
  try simp only [read_unread_whole]
  refine canon_append_of_piecesOf _ [_] [_, _, _, _, _, _, _, _, _, _, _, _, _, _, _, _] ⟨?_, ?_, ?_, ?_, ?_, ?_, ?_, ?_, ?_, ?_, ?_, ?_, ?_, ?_, ?_, ?_, trivial⟩ y (cover_of_tiledL (s := S2x1024x1) _ S1x128x1.size (by sl_kernel_rfl) y) <;>
    exact piece_max Q K _ _ _ _ _ _

open View in
theorem acc_A (h0 : cond0_0 i) (h1 : ¬ cond0_1 i) :
    sout0_A_1 c i arg3 harg3 arg4 harg4 arg5 harg5 arg6 harg6 scM0_0 (Memref.isWhole_whole _) scM0_1 (Memref.isWhole_whole _) h0 h1 Q K V = stepAcc Q K V (k0_pay1 (F := Ideal)) (k0_pay2 (F := Ideal)) := by
  funext y
  frame_open
  simp (disch := decide) only [↓ View.readCov_skip, ↓ View.readCov_fill]
  frame_out
  try simp only [read_unread_whole]
  refine canon_append_of_piecesOf _ [_] [_, _, _, _, _, _, _, _, _, _, _, _, _, _, _, _] ⟨?_, ?_, ?_, ?_, ?_, ?_, ?_, ?_, ?_, ?_, ?_, ?_, ?_, ?_, ?_, ?_, trivial⟩ y (cover_of_tiledL (s := S2x1024x256) _ S1x128x256.size (by sl_kernel_rfl) y) <;>
    exact piece_acc Q K V _ _ _ _ _ _ _ _

end Cert.KernelIdeal.Mla
-- ==== Proof.Mla.Last.lean ====
module

public import proofs.«01_k».proof.Proof.Mla.Step

@[expose] public section

set_option maxRecDepth 16384

noncomputable section

namespace Cert.KernelIdeal.Mla

open Cert.KernelIdeal Cert.KernelIdeal.Gen
open Idealize.ShloMosaic hiding ix1 ix2 ix3 ix4 maximumf_apply addf_apply mulf_apply subf_apply divf_apply truncf_apply constant_apply
open Idealize.ShloMosaic.TcCoe Idealize.SL.Sem
open Idealize.ShloMosaic.ValueIdx

variable (c : Dev nD) (i : grid0.Coords) (arg3 : Memref sig .tc .vmem S2x1024x128 .bf16) (harg3 : arg3.IsWhole) (arg4 : Memref sig .tc .vmem S2x3328x128 .bf16) (harg4 : arg4.IsWhole) (arg5 : Memref sig .tc .vmem S3328x128 .bf16) (harg5 : arg5.IsWhole) (arg6 : Memref sig .tc .vmem S1024x128 .bf16) (harg6 : arg6.IsWhole)
  (Q : Vec Ideal S2x1024x128 .bf16) (K : Vec Ideal S2x3328x128 .bf16) (V : Vec Ideal S3328x128 .bf16)
  (M : Vec Ideal S2x1024x1 .f32) (A : Vec Ideal S2x1024x256 .f32)

/-- The weighted values over the weights of one head. -/
def ratio (hh : Fin 2) (r : Fin 1024) (l : Fin 128) : EReal :=
  Ideal.div (A (ix3 hh r ⟨l.val, by omega⟩)) (A (ix3 hh r ⟨128 + l.val, by omega⟩))

/-- The block's result: the first head's ratio on the first half of the lanes, the second head's on the rest. -/
def lastOut : Vec Ideal S1024x128 .bf16 := fun y => if (y 1).val < 64 then ratio A 0 (y 0) (y 1) else ratio A 1 (y 0) (y 1)

/-- The final division and lane choice at an index, of four loads of the accumulator. -/
theorem last_apply (p q p' q' : Vec Ideal S1x1024x128 .f32)
    (hp : ∀ (r : Fin 1024) (l : Fin 128), p (ix3 0 r l) = A (ix3 0 r ⟨l.val, by omega⟩))
    (hq : ∀ (r : Fin 1024) (l : Fin 128), q (ix3 0 r l) = A (ix3 0 r ⟨128 + l.val, by omega⟩))
    (hp' : ∀ (r : Fin 1024) (l : Fin 128), p' (ix3 0 r l) = A (ix3 1 r ⟨l.val, by omega⟩))
    (hq' : ∀ (r : Fin 1024) (l : Fin 128), q' (ix3 0 r l) = A (ix3 1 r ⟨128 + l.val, by omega⟩))
    (y : S1024x128.Idx) : k0_pay95 p q p' q' y = lastOut A y := by
  obtain ⟨r, l, rfl⟩ : ∃ (r : Fin 1024) (l : Fin 128), y = ix2 r l := ⟨y 0, y 1, ValueIdx.eq_ix2 y⟩
  unfold k0_pay95 lastOut ratio
  simp only [truncf_apply, divf_apply, ValueIdx.select_apply, shapeCast_1ab_ab_apply, hp, hq, hp', hq']
  have key : ∀ l : Fin 128, Scalar.cmpi .slt (BitVec.ofNat 32 (0 * 128 + l.val)) 64#32 = if l.val < 64 then 1#1 else 0#1 := by decide +kernel
  rw [cmpi_apply, iota_apply]
  refine (congrArg (fun z => Scalar.select z _ _) (key l)).trans ?_
  show _ = if l.val < 64 then _ else _
  by_cases h : l.val < 64
  · simp only [if_pos h]
    rfl
  · simp only [if_neg h]
    rfl

open View in
set_option maxHeartbeats 1000000 in
theorem out_C (h0 : ¬ cond0_0 i) (h1 : cond0_1 i) :
    out0_C_3 c i arg3 harg3 arg4 harg4 arg5 harg5 arg6 harg6 scM0_0 (Memref.isWhole_whole _) scM0_1 (Memref.isWhole_whole _) h0 h1 Q K V M A = lastOut (stepAcc Q K V M A) := by
  funext y
  frame_open
  rw [readCov_eq_canon' _ _ (Rect.unit (s := S2x1024x256) ![0, 0, 0] S1x1024x128.size inb_S2x1024x256_S1x1024x128_0_0_0).toLoadRect]
  rw [readCov_eq_canon' _ _ (Rect.unit (s := S2x1024x256) ![0, 0, 128] S1x1024x128.size inb_S2x1024x256_S1x1024x128_0_0_128).toLoadRect]
  rw [readCov_eq_canon' _ _ (Rect.unit (s := S2x1024x256) ![1, 0, 0] S1x1024x128.size inb_S2x1024x256_S1x1024x128_1_0_0).toLoadRect]
  rw [readCov_eq_canon' _ _ (Rect.unit (s := S2x1024x256) ![1, 0, 128] S1x1024x128.size inb_S2x1024x256_S1x1024x128_1_0_128).toLoadRect]
  simp (disch := decide) only [↓ View.readCov_skip]
  frame_out
  simp only [read_unread_whole]
  refine last_apply (stepAcc Q K V M A) _ _ _ _ (fun r l => ?_) (fun r l => ?_) (fun r l => ?_) (fun r l => ?_) y
  all_goals
    refine (congrFun (canon_of_piecesOf (stepAcc Q K V M A) [_, _, _, _, _, _, _, _, _, _, _, _, _, _, _, _] S1x128x256.size
      ⟨?_, ?_, ?_, ?_, ?_, ?_, ?_, ?_, ?_, ?_, ?_, ?_, ?_, ?_, ?_, ?_, trivial⟩ (by sl_kernel_rfl)) _).trans (congrArg (stepAcc Q K V M A) ?_)
    iterate 16 exact piece_acc Q K V M A _ _ _ _ _ _
    funext a
    apply Fin.ext
    match a with
    | ⟨0, _⟩ => rfl
    | ⟨1, _⟩ =>
      show 0 + 1 * r.val = r.val
      omega
    | ⟨2, _⟩ =>
      show _ + 1 * l.val = _
      simp

end Cert.KernelIdeal.Mla
-- ==== Proof.Mla.Host.lean ====
module

public import proofs.«01_k».proof.Proof.Mla.Chain
public import Idealize.ShloMosaic.Lib.Claim
public import Idealize.ShloMosaic.Lib.KernelVsHost
public import Idealize.ShloMosaic.Lib.Pointwise

@[expose] public section

set_option maxRecDepth 16384

noncomputable section

namespace Cert.KernelIdeal.Mla

open Cert.KernelIdeal Cert.KernelIdeal.Gen
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

variable (m : (ℓ : Loc nD τ sig) → Buf (Elt Ideal) ℓ) (c : Dev nD)

/-- The queries as launched. -/
def argQ : FVec Ideal S1x16384x8x96 .f32 := m ((c : Thread nD τ).loc main_arg0)

/-- The keys as launched. -/
def argK : FVec Ideal S1x16640x8x96 .f32 := m ((c : Thread nD τ).loc main_arg1)

/-- The values as launched. -/
def argV : FVec Ideal S1x16640x8x64 .f32 := m ((c : Thread nD τ).loc main_arg2)

/-- The queries' factor as the host computes it, the reciprocal of a square root over a logarithm. -/
def queryScale : FVec Ideal S_ .f32 :=
  mulf (Host.divf (constant S_ .f32 0x3F800000#32) (Host.sqrt (constant S_ .f32 0x42C00000#32)))
    (Host.divf (constant S_ .f32 0x3F800000#32) (Host.log (constant S_ .f32 0x40000000#32)))

theorem q_entry (h : Fin 8) (r : Fin 16384) (d : Fin 128) :
    (V m c main_v10 : S8x16384x128.Idx → EReal) (ix3 h r d)
      = (if hd : d.val < 96 then argQ m c (ix4 0 r h ⟨d.val, hd⟩) * queryScale ix0 else 0 : EReal) := by
  simp only [V, hostOps0, hostOps0_1, hostOps0_2, hostOps0_3, hostOps0_4, List.flatten_cons, List.flatten_nil, List.append_nil, List.cons_append, List.nil_append]
  after_results
  change pad S8x16384x128 ![0, 0, 0] ![0, 0, 32] ![0, 0, 0]
    (mulf (transpose S8x16384x96 [1, 0, 2] (shapeCast S16384x8x96 (argQ m c) shapeCasts_S1x16384x8x96_S16384x8x96) transposes_S16384x8x96_S8x16384x96_1_0_2) (broadcastInDim S8x16384x96 ![] bcast_S_S8x16384x96 queryScale))
    (sitofp .f32 (constantI S_ 32 0#32)) pads_S8x16384x96_S8x16384x128_000_000_0320 h_S_ (ix3 h r d) = _
  split
  · rename_i hd
    rw [pad_apply_of_inside _ _ _ _ _ _ _ (ix3 h r d) (ix3 h r ⟨d.val, hd⟩)]
    · pointwise
      rfl
    · intro a
      match a with
      | ⟨0, _⟩ => show h.val = 0 + h.val * 1; omega
      | ⟨1, _⟩ => show r.val = 0 + r.val * 1; omega
      | ⟨2, _⟩ => show d.val = 0 + d.val * 1; omega
  · rename_i hd
    rw [pad_apply_of_not_inside _ _ _ _ _ _ _ (ix3 h r d) 2]
    · show (((0#32 : BitVec 32).toInt : ℝ) : EReal) = 0
      simp
    · intro hin
      have : (d.val - 0) / 1 < 96 := hin.2.2
      omega

theorem k_entry (h : Fin 8) (r : Fin 16640) (d : Fin 128) :
    (V m c main_v14 : S8x16640x128.Idx → EReal) (ix3 h r d)
      = (if hd : d.val < 96 then argK m c (ix4 0 r h ⟨d.val, hd⟩) else 0 : EReal) := by
  simp only [V, hostOps0, hostOps0_1, hostOps0_2, hostOps0_3, hostOps0_4, List.flatten_cons, List.flatten_nil, List.append_nil, List.cons_append, List.nil_append]
  after_results
  change pad S8x16640x128 ![0, 0, 0] ![0, 0, 32] ![0, 0, 0]
    (transpose S8x16640x96 [1, 0, 2] (shapeCast S16640x8x96 (argK m c) shapeCasts_S1x16640x8x96_S16640x8x96) transposes_S16640x8x96_S8x16640x96_1_0_2)
    (sitofp .f32 (constantI S_ 32 0#32)) pads_S8x16640x96_S8x16640x128_000_000_0320 h_S_ (ix3 h r d) = _
  split
  · rename_i hd
    rw [pad_apply_of_inside _ _ _ _ _ _ _ (ix3 h r d) (ix3 h r ⟨d.val, hd⟩)]
    · pointwise
      rfl
    · intro a
      match a with
      | ⟨0, _⟩ => show h.val = 0 + h.val * 1; omega
      | ⟨1, _⟩ => show r.val = 0 + r.val * 1; omega
      | ⟨2, _⟩ => show d.val = 0 + d.val * 1; omega
  · rename_i hd
    rw [pad_apply_of_not_inside _ _ _ _ _ _ _ (ix3 h r d) 2]
    · show (((0#32 : BitVec 32).toInt : ℝ) : EReal) = 0
      simp
    · intro hin
      have : (d.val - 0) / 1 < 96 := hin.2.2
      omega

theorem v_entry (r : Fin 16640) (l : Fin 512) :
    (V m c main_v17 : S16640x512.Idx → EReal) (ix2 r l)
      = argV m c (ix4 0 r ⟨l.val / 64, by omega⟩ ⟨l.val % 64, by omega⟩) := by
  simp only [V, hostOps0, hostOps0_1, hostOps0_2, hostOps0_3, hostOps0_4, List.flatten_cons, List.flatten_nil, List.append_nil, List.cons_append, List.nil_append]
  after_results
  pointwise
  rfl

end Cert.KernelIdeal.Mla
-- ==== Proof.Mla.Blocks.lean ====
module

public import proofs.«01_k».proof.Proof.Mla.Host

@[expose] public section

set_option maxRecDepth 16384

noncomputable section

namespace Cert.KernelIdeal.Mla

open Cert.KernelIdeal Cert.KernelIdeal.Gen
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

variable (m : (ℓ : Loc nD τ sig) → Buf (Elt Ideal) ℓ) (c : Dev nD)

theorem index_q : ∀ t : Fin cfg0.N, win0_0.index t = ![t.val / 80, t.val / 5 % 16, 0] := by decide +kernel
theorem index_k : ∀ t : Fin cfg0.N, win0_1.index t = ![t.val / 80, t.val % 5, 0] := by decide +kernel
theorem index_v : ∀ t : Fin cfg0.N, win0_2.index t = ![t.val % 5, t.val / 80] := by decide +kernel

theorem point_lt (t : Fin cfg0.N) : t.val < 320 := lt_of_lt_of_eq t.isLt (show cfg0.N = 320 from N_0)

/-- A block of the queries, at an index of the array. -/
theorem q_block (t : Fin cfg0.N) (hh : Fin 2) (r : Fin 1024) (d : Fin 128) :
    (iblk m c 0 t : Vec Ideal S2x1024x128 .bf16) (ix3 hh r d)
      = (V m c main_v10 : S8x16384x128.Idx → EReal) (ix3 ⟨2 * (t.val / 80) + hh.val, by have := point_lt t; omega⟩ ⟨1024 * (t.val / 5 % 16) + r.val, by omega⟩ d) := by
  refine congrArg (V m c main_v10 : S8x16384x128.Idx → EReal) ?_
  funext a
  apply Fin.ext
  refine (Pipeline.Window.rect_emb_val win0_0 t (ix3 hh r d) a).trans ?_
  rw [index_q]
  match a with
  | ⟨0, _⟩ => show (t.val / 80) * 2 + hh.val = 2 * (t.val / 80) + hh.val; omega
  | ⟨1, _⟩ => show (t.val / 5 % 16) * 1024 + r.val = 1024 * (t.val / 5 % 16) + r.val; omega
  | ⟨2, _⟩ => show 0 * 128 + d.val = d.val; omega

/-- A block of the keys, at an index of the array. -/
theorem k_block (t : Fin cfg0.N) (hh : Fin 2) (k : Fin 3328) (d : Fin 128) :
    (iblk m c 1 t : Vec Ideal S2x3328x128 .bf16) (ix3 hh k d)
      = (V m c main_v14 : S8x16640x128.Idx → EReal) (ix3 ⟨2 * (t.val / 80) + hh.val, by have := point_lt t; omega⟩ ⟨3328 * (t.val % 5) + k.val, by omega⟩ d) := by
  refine congrArg (V m c main_v14 : S8x16640x128.Idx → EReal) ?_
  funext a
  apply Fin.ext
  refine (Pipeline.Window.rect_emb_val win0_1 t (ix3 hh k d) a).trans ?_
  rw [index_k]
  match a with
  | ⟨0, _⟩ => show (t.val / 80) * 2 + hh.val = 2 * (t.val / 80) + hh.val; omega
  | ⟨1, _⟩ => show (t.val % 5) * 3328 + k.val = 3328 * (t.val % 5) + k.val; omega
  | ⟨2, _⟩ => show 0 * 128 + d.val = d.val; omega

/-- A block of the values, at an index of the array. -/
theorem v_block (t : Fin cfg0.N) (k : Fin 3328) (l : Fin 128) :
    (iblk m c 2 t : Vec Ideal S3328x128 .bf16) (ix2 k l)
      = (V m c main_v17 : S16640x512.Idx → EReal) (ix2 ⟨3328 * (t.val % 5) + k.val, by omega⟩ ⟨128 * (t.val / 80) + l.val, by have := point_lt t; omega⟩) := by
  refine congrArg (V m c main_v17 : S16640x512.Idx → EReal) ?_
  funext a
  apply Fin.ext
  refine (Pipeline.Window.rect_emb_val win0_2 t (ix2 k l) a).trans ?_
  rw [index_v]
  match a with
  | ⟨0, _⟩ => show (t.val % 5) * 3328 + k.val = 3328 * (t.val % 5) + k.val; omega
  | ⟨1, _⟩ => show (t.val / 80) * 128 + l.val = 128 * (t.val / 80) + l.val; omega

end Cert.KernelIdeal.Mla
-- ==== Proof.Mla.Row.lean ====
module

public import Idealize.ShloMosaic.PureOps.Ideal.Laws

@[expose] public section

noncomputable section

namespace Cert.Mla.Row

open Idealize.ShloMosaic

/-- A finite sum of reals, taken in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of at least one real, begun at the bottom, is a real. -/
theorem fold_max_coe {ι : Type} (s : Finset ι) (hs : s.Nonempty) (f : ι → ℝ) :
    ∃ μ : ℝ, s.fold max ⊥ (fun k => (f k : EReal)) = μ := by
  classical
  induction hs using Finset.Nonempty.cons_induction with
  | singleton a => exact ⟨f a, by simp⟩
  | cons a s ha hs ih =>
    obtain ⟨μ, h⟩ := ih
    refine ⟨max (f a) μ, ?_⟩
    rw [Finset.fold_cons, h]
    exact (EReal.coe_strictMono.monotone.map_max).symm

section Step

variable {κ Λ : Type} [Fintype κ] [Nonempty κ] (σ : κ → ℝ) (w : Λ → κ → ℝ)

/-- What a row keeps after some keys: a real `μ` as its maximum, and on every lane the weights' sum `S` scaled by `2^(-μ)`. -/
def Kept (m : EReal) (a : Λ → EReal) (S : Λ → ℝ) : Prop :=
  ∃ μ : ℝ, m = μ ∧ ∀ l, a l = ((Real.rpow 2 (-μ) * S l : ℝ) : EReal)

/-- A row's next maximum. -/
def nextMax (s : κ → EReal) (m : EReal) : EReal := max m ((Finset.univ : Finset κ).fold max ⊥ s)

/-- A row's next accumulator. -/
def nextAcc (s : κ → EReal) (v : κ → EReal) (m a : EReal) : EReal :=
  Ideal.exp2 (m - nextMax s m) * a + ∑ k, Ideal.exp2 (s k - nextMax s m) * v k

theorem rpow_two_add (x y : ℝ) : Real.rpow 2 (x + y) = Real.rpow 2 x * Real.rpow 2 y := Real.rpow_add (by norm_num) x y

theorem weights_coe (μ : ℝ) (u : κ → ℝ) :
    ∑ k, Ideal.exp2 ((σ k : EReal) - (μ : EReal)) * (u k : EReal) = ((Real.rpow 2 (-μ) * ∑ k, Real.rpow 2 (σ k) * u k : ℝ) : EReal) := by
  rw [Finset.mul_sum, coe_sum]
  refine Finset.sum_congr rfl fun k _ => ?_
  rw [← EReal.coe_sub, Ideal.exp2_coe, ← EReal.coe_mul]
  refine congrArg _ ?_
  rw [sub_eq_add_neg, rpow_two_add]
  ring

theorem kept_first : Kept (nextMax (fun k => (σ k : EReal)) ⊥) (fun l => nextAcc (fun k => (σ k : EReal)) (fun k => (w l k : EReal)) ⊥ 0)
    (fun l => ∑ k, Real.rpow 2 (σ k) * w l k) := by
  obtain ⟨μ, h⟩ := fold_max_coe Finset.univ Finset.univ_nonempty σ
  have hm : nextMax (fun k => (σ k : EReal)) ⊥ = μ := by
    unfold nextMax
    rw [h]
    exact max_eq_right bot_le
  refine ⟨μ, hm, fun l => ?_⟩
  show nextAcc _ _ _ _ = _
  unfold nextAcc
  rw [hm, weights_coe, mul_zero, zero_add]

theorem kept_next (m : EReal) (a : Λ → EReal) (S : Λ → ℝ) (hk : Kept m a S) :
    Kept (nextMax (fun k => (σ k : EReal)) m) (fun l => nextAcc (fun k => (σ k : EReal)) (fun k => (w l k : EReal)) m (a l))
      (fun l => S l + ∑ k, Real.rpow 2 (σ k) * w l k) := by
  obtain ⟨μ₀, rfl, ha⟩ := hk
  obtain ⟨μ₁, h⟩ := fold_max_coe Finset.univ Finset.univ_nonempty σ
  have hm : nextMax (fun k => (σ k : EReal)) (μ₀ : EReal) = ((max μ₀ μ₁ : ℝ) : EReal) := by
    unfold nextMax
    rw [h]
    exact (EReal.coe_strictMono.monotone.map_max).symm
  refine ⟨max μ₀ μ₁, hm, fun l => ?_⟩
  show nextAcc _ _ _ _ = _
  unfold nextAcc
  rw [hm, weights_coe, ha, ← EReal.coe_sub, Ideal.exp2_coe, ← EReal.coe_mul, ← EReal.coe_add]
  refine congrArg _ ?_
  rw [mul_add, ← mul_assoc, ← rpow_two_add]
  congr 3
  ring

end Step

/-- The ratio of two lanes of a kept row is the ratio of their sums. -/
theorem kept_div {Λ : Type} (m : EReal) (a : Λ → EReal) (S : Λ → ℝ) (hk : Kept m a S) (l l' : Λ) (h : S l' ≠ 0) :
    Ideal.div (a l) (a l') = ((S l / S l' : ℝ) : EReal) := by
  obtain ⟨μ, -, ha⟩ := hk
  have hp : Real.rpow 2 (-μ) ≠ 0 := (Real.rpow_pos_of_pos (by norm_num) _).ne'
  rw [ha, ha, Ideal.div_coe (mul_ne_zero hp h), ← EReal.coe_mul, mul_one_div]
  refine congrArg _ ?_
  exact mul_div_mul_left _ _ hp

section Softmax

variable {κ : Type} [Fintype κ] [Nonempty κ] (τ : κ → ℝ) (u : κ → ℝ)

/-- The values weighted by the exponentials, over the exponentials' sum. -/
def attend : ℝ := (∑ k, Real.exp (τ k) * u k) / ∑ k, Real.exp (τ k)

/-- The softmax's weighted sum, its weights shifted by any real and divided by their sum, is `attend`. -/
theorem softmax_coe (μ : ℝ) :
    ∑ k, (u k : EReal) * Ideal.div (Ideal.exp ((τ k : EReal) - (μ : EReal))) (∑ k', Ideal.exp ((τ k' : EReal) - (μ : EReal))) = (attend τ u : EReal) := by
  have he : ∀ k, Ideal.exp ((τ k : EReal) - (μ : EReal)) = ((Real.exp (-μ) * Real.exp (τ k) : ℝ) : EReal) := fun k => by
    rw [← EReal.coe_sub, Ideal.exp_coe, sub_eq_neg_add, Real.exp_add]
  have hs : ∑ k', Ideal.exp ((τ k' : EReal) - (μ : EReal)) = ((Real.exp (-μ) * ∑ k, Real.exp (τ k) : ℝ) : EReal) := by
    rw [Finset.mul_sum, coe_sum]
    exact Finset.sum_congr rfl fun k _ => he k
  have h0 : (∑ k, Real.exp (τ k)) ≠ 0 := (Finset.sum_pos (fun k _ => Real.exp_pos _) Finset.univ_nonempty).ne'
  have h1 : Real.exp (-μ) ≠ 0 := (Real.exp_pos _).ne'
  rw [hs]
  unfold attend
  rw [Finset.sum_div, coe_sum]
  refine Finset.sum_congr rfl fun k _ => ?_
  rw [he, Ideal.div_coe (mul_ne_zero h1 h0), ← EReal.coe_mul, mul_one_div, ← EReal.coe_mul]
  refine congrArg _ ?_
  rw [mul_div_mul_left _ _ h1]
  ring

end Softmax

/-- Head `H` of the attention at query `R`, over the reals: scores are inner products over the root of 96. -/
def mla (q : Fin 16384 → Fin 8 → Fin 96 → ℝ) (k : Fin 16640 → Fin 8 → Fin 96 → ℝ) (v : Fin 16640 → Fin 8 → Fin 64 → ℝ)
    (R : Fin 16384) (H : Fin 8) (j : Fin 64) : ℝ :=
  attend (fun n : Fin 16640 => 1 / Real.sqrt 96 * ∑ d : Fin 96, q R H d * k n H d) (fun n => v n H j)

end Cert.Mla.Row
-- ==== Proof.Mla.Fold.lean ====
module

public import proofs.«01_k».proof.Proof.Mla.Last
public import proofs.«01_k».proof.Proof.Mla.Blocks
public import proofs.«01_k».proof.Proof.Mla.Row

@[expose] public section

set_option maxRecDepth 16384

noncomputable section

namespace Cert.KernelIdeal.Mla

open Cert.KernelIdeal Cert.KernelIdeal.Gen
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx
open Cert.Mla.Row

variable (m : (ℓ : Loc nD τ sig) → Buf (Elt Ideal) ℓ) (c : Dev nD)

/-! ## The three kinds of point, as one step of every row -/

theorem fill_max (y : S2x1024x1.Idx) : (k0_pay1 (F := Ideal)) y = (⊥ : EReal) := by
  unfold k0_pay1
  exact ofBits_neg_inf

theorem fill_acc (y : S2x1024x256.Idx) : (k0_pay2 (F := Ideal)) y = (0 : EReal) := by
  unfold k0_pay2
  exact Ideal.ofBits_zero_f32

theorem after_A (t : Fin cfg0.N) (h0 : t.val % 5 = 0) (h1 : ¬t.val % 5 = 4) :
    (outsAt0 m c t.val t.isLt).2 = (stepMax (iblk m c 0 t) (iblk m c 1 t) (k0_pay1 (F := Ideal)),
      stepAcc (iblk m c 0 t) (iblk m c 1 t) (iblk m c 2 t) (k0_pay1 (F := Ideal)) (k0_pay2 (F := Ideal))) := by
  rw [outsAt0_A m c t h0 h1]
  dsimp only
  rw [max_A, acc_A]

theorem after_B (t : Fin cfg0.N) (h0 : ¬t.val % 5 = 0) (h1 : ¬t.val % 5 = 4) (p) (hp : p = (outsAt0 m c (t.val - 1) (lt_of_le_of_lt (Nat.sub_le _ _) t.isLt)).2) :
    (outsAt0 m c t.val t.isLt).2 = (stepMax (iblk m c 0 t) (iblk m c 1 t) p.1, stepAcc (iblk m c 0 t) (iblk m c 1 t) (iblk m c 2 t) p.1 p.2) := by
  subst hp
  rw [outsAt0_B m c t h0 h1]
  dsimp only
  rw [max_B, acc_B]

theorem after_C (t : Fin cfg0.N) (h0 : ¬t.val % 5 = 0) (h1 : t.val % 5 = 4) (p) (hp : p = (outsAt0 m c (t.val - 1) (lt_of_le_of_lt (Nat.sub_le _ _) t.isLt)).2) :
    outsAt0 m c t.val t.isLt = (lastOut (stepAcc (iblk m c 0 t) (iblk m c 1 t) (iblk m c 2 t) p.1 p.2),
      stepMax (iblk m c 0 t) (iblk m c 1 t) p.1, stepAcc (iblk m c 0 t) (iblk m c 1 t) (iblk m c 2 t) p.1 p.2) := by
  subst hp
  rw [outsAt0_C m c t h0 h1]
  rw [out_C, max_C, acc_C]

/-! ## What a row keeps after every point, over real arguments -/

section Kept

variable (qr : S1x16384x8x96.Idx → ℝ) (kr : S1x16640x8x96.Idx → ℝ) (vr : S1x16640x8x64.Idx → ℝ) (sc : ℝ)

/-- The inner product of a query with key `n`. -/
def dotR (H : Fin 8) (R : Fin 16384) (n : ℕ) : ℝ := if h : n < 16640 then ∑ d : Fin 96, qr (ix4 0 R H d) * kr (ix4 0 ⟨n, h⟩ H d) else 0

/-- What lane `l` of a pair of heads holds beside key `n`: a value on the first half of the lanes, one on the rest. -/
def laneR (G : Fin 4) (l : Fin 256) (n : ℕ) : ℝ :=
  if l.val < 128 then (if h : n < 16640 then vr (ix4 0 ⟨n, h⟩ ⟨(128 * G.val + l.val) % 512 / 64, by omega⟩ ⟨(128 * G.val + l.val) % 64, by omega⟩) else 0) else 1

/-- The weighted lanes of the first `J` blocks of keys. -/
def sumR (H : Fin 8) (R : Fin 16384) (G : Fin 4) (l : Fin 256) (J : ℕ) : ℝ :=
  ∑ b ∈ Finset.range J, ∑ k : Fin 3328, Real.rpow 2 (sc * dotR qr kr H R (3328 * b + k.val)) * laneR vr G l (3328 * b + k.val)

variable {qr kr vr sc} (hq : ∀ i, argQ m c i = (qr i : EReal)) (hk : ∀ i, argK m c i = (kr i : EReal)) (hv : ∀ i, argV m c i = (vr i : EReal))
  (hs : queryScale ix0 = (sc : EReal))

include hq hk hs in
theorem score_block (t : Fin cfg0.N) (hh : Fin 2) (r : Fin 1024) (k : Fin 3328) (H : Fin 8) (R : Fin 16384)
    (hH : H.val = 2 * (t.val / 80) + hh.val) (hR : R.val = 1024 * (t.val / 5 % 16) + r.val) :
    score (iblk m c 0 t) (iblk m c 1 t) hh r k = ((sc * dotR qr kr H R (3328 * (t.val % 5) + k.val) : ℝ) : EReal) := by
  have eH : (⟨2 * (t.val / 80) + hh.val, by have := point_lt t; omega⟩ : Fin 8) = H := Fin.ext hH.symm
  have eR : (⟨1024 * (t.val / 5 % 16) + r.val, by omega⟩ : Fin 16384) = R := Fin.ext hR.symm
  have hn : 3328 * (t.val % 5) + k.val < 16640 := by omega
  unfold score dotR
  rw [dif_pos hn, Finset.mul_sum, coe_sum]
  rw [← Finset.sum_subset (Finset.subset_univ (Finset.univ.map (Fin.castLEEmb (by decide : 96 ≤ 128))))]
  · rw [Finset.sum_map]
    refine Finset.sum_congr rfl fun d _ => ?_
    have hd : ((Fin.castLEEmb (by decide : 96 ≤ 128)) d : Fin 128).val < 96 := d.isLt
    rw [q_block, k_block, eH, eR, q_entry, k_entry, dif_pos hd, dif_pos hd, hq, hk, hs]
    show (qr (ix4 0 R H d) : EReal) * (sc : EReal) * (kr (ix4 0 ⟨3328 * (t.val % 5) + k.val, hn⟩ H d) : EReal) = _
    rw [← EReal.coe_mul, ← EReal.coe_mul]
    exact congrArg _ (by ring)
  · intro d _ hd
    have hd' : ¬ d.val < 96 := fun h => hd (Finset.mem_map.mpr ⟨⟨d.val, h⟩, Finset.mem_univ _, rfl⟩)
    rw [q_block, q_entry, dif_neg hd', zero_mul]

include hv in
theorem lane_block (t : Fin cfg0.N) (k : Fin 3328) (l : Fin 256) (G : Fin 4) (hG : G.val = t.val / 80) :
    tileVal (iblk m c 2 t) k l = ((laneR vr G l (3328 * (t.val % 5) + k.val) : ℝ) : EReal) := by
  have hn : 3328 * (t.val % 5) + k.val < 16640 := by omega
  unfold tileVal laneR
  split
  · rename_i h
    rw [v_block, v_entry, hv]
    refine congrArg (fun i => ((vr i : ℝ) : EReal)) ?_
    have e : (128 * G.val + l.val) % 512 = 128 * (t.val / 80) + l.val := by omega
    have e' : (128 * G.val + l.val) % 64 = (128 * (t.val / 80) + l.val) % 64 := by omega
    simp only [e, e']
  · rename_i h
    rfl

include hq hk hv hs in
/-- One point's step of a row, over the extended reals, is the step over the reals. -/
theorem step_row (t : Fin cfg0.N) (hh : Fin 2) (r : Fin 1024) (H : Fin 8) (R : Fin 16384) (G : Fin 4)
    (hH : H.val = 2 * (t.val / 80) + hh.val) (hR : R.val = 1024 * (t.val / 5 % 16) + r.val) (hG : G.val = t.val / 80)
    (M : Vec Ideal S2x1024x1 .f32) (A : Vec Ideal S2x1024x256 .f32) :
    stepMax (iblk m c 0 t) (iblk m c 1 t) M (ix3 hh r 0)
        = nextMax (fun k : Fin 3328 => ((sc * dotR qr kr H R (3328 * (t.val % 5) + k.val) : ℝ) : EReal)) (M (ix3 hh r 0))
      ∧ (fun l : Fin 256 => stepAcc (iblk m c 0 t) (iblk m c 1 t) (iblk m c 2 t) M A (ix3 hh r l))
        = fun l => nextAcc (fun k : Fin 3328 => ((sc * dotR qr kr H R (3328 * (t.val % 5) + k.val) : ℝ) : EReal))
            (fun k => ((laneR vr G l (3328 * (t.val % 5) + k.val) : ℝ) : EReal)) (M (ix3 hh r 0)) (A (ix3 hh r l)) := by
  have es : score (iblk m c 0 t) (iblk m c 1 t) hh r = fun k : Fin 3328 => ((sc * dotR qr kr H R (3328 * (t.val % 5) + k.val) : ℝ) : EReal) :=
    funext fun k => score_block m c hq hk hs t hh r k H R hH hR
  have ev : ∀ l, (fun k => tileVal (iblk m c 2 t) k l) = fun k => ((laneR vr G l (3328 * (t.val % 5) + k.val) : ℝ) : EReal) :=
    fun l => funext fun k => lane_block m c hv t k l G hG
  rw [← es]
  refine ⟨rfl, funext fun l => ?_⟩
  rw [← ev]
  rfl

include hq hk hv hs in
theorem kept_begin (t : Fin cfg0.N) (h0 : t.val % 5 = 0) (hh : Fin 2) (r : Fin 1024) (H : Fin 8) (R : Fin 16384) (G : Fin 4)
    (hH : H.val = 2 * (t.val / 80) + hh.val) (hR : R.val = 1024 * (t.val / 5 % 16) + r.val) (hG : G.val = t.val / 80) :
    Kept ((outsAt0 m c t.val t.isLt).2.1 (ix3 hh r 0)) (fun l : Fin 256 => (outsAt0 m c t.val t.isLt).2.2 (ix3 hh r l))
      (fun l => sumR qr kr vr sc H R G l (t.val % 5 + 1)) := by
  rw [after_A m c t h0 (by omega)]
  obtain ⟨e1, e2⟩ := step_row m c hq hk hv hs t hh r H R G hH hR hG (k0_pay1 (F := Ideal)) (k0_pay2 (F := Ideal))
  have key := kept_first (fun k : Fin 3328 => sc * dotR qr kr H R (3328 * (t.val % 5) + k.val)) (fun l : Fin 256 => fun k => laneR vr G l (3328 * (t.val % 5) + k.val))
  have ef : ∀ l, sumR qr kr vr sc H R G l (t.val % 5 + 1)
      = ∑ k : Fin 3328, Real.rpow 2 (sc * dotR qr kr H R (3328 * (t.val % 5) + k.val)) * laneR vr G l (3328 * (t.val % 5) + k.val) := fun l => by
    unfold sumR
    rw [h0, Finset.sum_range_succ, Finset.sum_range_zero, zero_add]
  simp only [ef]
  show Kept (stepMax (iblk m c 0 t) (iblk m c 1 t) (k0_pay1 (F := Ideal)) (ix3 hh r 0))
    (fun l : Fin 256 => stepAcc (iblk m c 0 t) (iblk m c 1 t) (iblk m c 2 t) (k0_pay1 (F := Ideal)) (k0_pay2 (F := Ideal)) (ix3 hh r l)) _
  rw [e1, e2, fill_max]
  simp only [fill_acc]
  exact key

include hq hk hv hs in
theorem kept_go (t : Fin cfg0.N) (h0 : ¬t.val % 5 = 0) (hh : Fin 2) (r : Fin 1024) (H : Fin 8) (R : Fin 16384) (G : Fin 4)
    (hH : H.val = 2 * (t.val / 80) + hh.val) (hR : R.val = 1024 * (t.val / 5 % 16) + r.val) (hG : G.val = t.val / 80)
    (p : Vec Ideal S2x1024x1 .f32 × Vec Ideal S2x1024x256 .f32) (hp : p = (outsAt0 m c (t.val - 1) (lt_of_le_of_lt (Nat.sub_le _ _) t.isLt)).2)
    (ih : Kept (p.1 (ix3 hh r 0)) (fun l : Fin 256 => p.2 (ix3 hh r l)) (fun l => sumR qr kr vr sc H R G l (t.val % 5))) :
    Kept ((outsAt0 m c t.val t.isLt).2.1 (ix3 hh r 0)) (fun l : Fin 256 => (outsAt0 m c t.val t.isLt).2.2 (ix3 hh r l))
      (fun l => sumR qr kr vr sc H R G l (t.val % 5 + 1)) := by
  have ea : (outsAt0 m c t.val t.isLt).2 = (stepMax (iblk m c 0 t) (iblk m c 1 t) p.1, stepAcc (iblk m c 0 t) (iblk m c 1 t) (iblk m c 2 t) p.1 p.2) := by
    by_cases h1 : t.val % 5 = 4
    · rw [after_C m c t h0 h1 p hp]
    · exact after_B m c t h0 h1 p hp
  obtain ⟨e1, e2⟩ := step_row m c hq hk hv hs t hh r H R G hH hR hG p.1 p.2
  have key := kept_next (fun k : Fin 3328 => sc * dotR qr kr H R (3328 * (t.val % 5) + k.val)) (fun l : Fin 256 => fun k => laneR vr G l (3328 * (t.val % 5) + k.val)) _ _ _ ih
  have ef : ∀ l, sumR qr kr vr sc H R G l (t.val % 5 + 1) = sumR qr kr vr sc H R G l (t.val % 5)
      + ∑ k : Fin 3328, Real.rpow 2 (sc * dotR qr kr H R (3328 * (t.val % 5) + k.val)) * laneR vr G l (3328 * (t.val % 5) + k.val) := fun l =>
    Finset.sum_range_succ _ _
  simp only [ef]
  rw [ea]
  show Kept (stepMax (iblk m c 0 t) (iblk m c 1 t) p.1 (ix3 hh r 0))
    (fun l : Fin 256 => stepAcc (iblk m c 0 t) (iblk m c 1 t) (iblk m c 2 t) p.1 p.2 (ix3 hh r l)) _
  rw [e1, e2]
  exact key

include hq hk hv hs in
theorem kept_after : ∀ (n : ℕ) (hn : n < cfg0.N) (hh : Fin 2) (r : Fin 1024) (H : Fin 8) (R : Fin 16384) (G : Fin 4),
    H.val = 2 * (n / 80) + hh.val → R.val = 1024 * (n / 5 % 16) + r.val → G.val = n / 80 →
    Kept ((outsAt0 m c n hn).2.1 (ix3 hh r 0)) (fun l : Fin 256 => (outsAt0 m c n hn).2.2 (ix3 hh r l))
      (fun l => sumR qr kr vr sc H R G l (n % 5 + 1)) := by
  intro n
  induction n with
  | zero =>
    intro hn hh r H R G hH hR hG
    exact kept_begin m c hq hk hv hs ⟨0, hn⟩ rfl hh r H R G hH hR hG
  | succ n ih =>
    intro hn hh r H R G hH hR hG
    by_cases h0 : (n + 1) % 5 = 0
    · exact kept_begin m c hq hk hv hs ⟨n + 1, hn⟩ h0 hh r H R G hH hR hG
    · refine kept_go m c hq hk hv hs ⟨n + 1, hn⟩ h0 hh r H R G hH hR hG _ rfl ?_
      have e5 : (n + 1) % 5 = n % 5 + 1 := by omega
      have h := ih (Nat.lt_of_succ_lt hn) hh r H R G (by omega) (by omega) (by omega)
      show Kept _ _ (fun l => sumR qr kr vr sc H R G l ((n + 1) % 5))
      rw [e5]
      exact h

end Kept

end Cert.KernelIdeal.Mla
-- ==== Proof.Mla.Final.lean ====
/- What the kernel leaves in its result, over real arguments. -/
module

public import proofs.«01_k».proof.Proof.Mla.Fold

@[expose] public section

set_option maxRecDepth 16384

noncomputable section

namespace Cert.KernelIdeal.Mla

open Cert.KernelIdeal Cert.KernelIdeal.Gen Cert.KernelIdeal.Value Cert.Mla.Row
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

/-- The scale of the queries, as a real number. -/
def scaleR : ℝ := 1 / Real.sqrt 96 * (1 / Real.log 2)

theorem queryScale_eq : queryScale ix0 = (scaleR : EReal) := by
  have h1 : Ideal.ofBits .f32 0x3F800000#32 = ((1 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have h96 : Ideal.ofBits .f32 0x42C00000#32 = ((96 : ℝ) : EReal) := by
    simp [Ideal.ofBits, Ideal.ieee]
    rw [← EReal.coe_mul]; norm_num
  have hs : Real.sqrt 96 ≠ 0 := (Real.sqrt_pos.mpr (by norm_num)).ne'
  have hl : Real.log 2 ≠ 0 := (Real.log_pos (by norm_num)).ne'
  show Ideal.div (Ideal.ofBits .f32 0x3F800000#32) (Ideal.sqrt (Ideal.ofBits .f32 0x42C00000#32))
    * Ideal.div (Ideal.ofBits .f32 0x3F800000#32) (Ideal.log (Ideal.ofBits .f32 0x40000000#32)) = _
  rw [h1, h2, h96, Ideal.sqrt_coe, Ideal.log_coe, if_neg (by norm_num : ¬(2 : ℝ) ≤ 0), if_neg (by norm_num : ¬(96 : ℝ) < 0), Ideal.div_coe hs, Ideal.div_coe hl, ← EReal.coe_mul, ← EReal.coe_mul, ← EReal.coe_mul]
  refine congrArg _ ?_
  unfold scaleR
  ring

theorem rpow_scale (x : ℝ) : Real.rpow 2 (scaleR * x) = Real.exp (1 / Real.sqrt 96 * x) := by
  have hl : Real.log 2 ≠ 0 := (Real.log_pos (by norm_num)).ne'
  refine (Real.rpow_def_of_pos (by norm_num) _).trans (congrArg _ ?_)
  unfold scaleR
  field_simp

variable (m : (ℓ : Loc nD τ sig) → Buf (Elt Ideal) ℓ) (c : Dev nD)
variable {qr : S1x16384x8x96.Idx → ℝ} {kr : S1x16640x8x96.Idx → ℝ} {vr : S1x16640x8x64.Idx → ℝ}
  (hq : ∀ i, argQ m c i = (qr i : EReal)) (hk : ∀ i, argK m c i = (kr i : EReal)) (hv : ∀ i, argV m c i = (vr i : EReal))

/-- Five blocks of keys are all the keys. -/
theorem sumR_all (H : Fin 8) (R : Fin 16384) (G : Fin 4) (l : Fin 256) :
    sumR qr kr vr scaleR H R G l 5
      = ∑ n : Fin 16640, Real.exp (1 / Real.sqrt 96 * ∑ d : Fin 96, qr (ix4 0 R H d) * kr (ix4 0 n H d)) * laneR vr G l n.val := by
  let f : ℕ → ℝ := fun n => Real.rpow 2 (scaleR * dotR qr kr H R n) * laneR vr G l n
  have e1 : sumR qr kr vr scaleR H R G l 5 = ∑ b ∈ Finset.range 5, ∑ k ∈ Finset.range 3328, f (b * 3328 + k) := by
    unfold sumR
    refine Finset.sum_congr rfl fun b _ => ?_
    rw [← Fin.sum_univ_eq_sum_range (fun k => f (b * 3328 + k)) 3328]
    refine Finset.sum_congr rfl fun k _ => ?_
    rw [mul_comm 3328 b]
  rw [e1, Finset.sum_range_range_mul_add, ← Fin.sum_univ_eq_sum_range f (5 * 3328)]
  refine Finset.sum_congr rfl fun n _ => ?_
  show Real.rpow 2 (scaleR * dotR qr kr H R n.val) * _ = _
  rw [rpow_scale, dotR, dif_pos (show n.val < 16640 from n.isLt)]

include hq hk hv in
/-- At a row's last point the ratio of a value lane and its weight lane is the head's attention. -/
theorem ratio_last (t : Fin cfg0.N) (h1 : t.val % 5 = 4) (hh : Fin 2) (r : Fin 1024) (l : Fin 128) (H : Fin 8) (R : Fin 16384) (j : Fin 64)
    (hH : H.val = 2 * (t.val / 80) + hh.val) (hR : R.val = 1024 * (t.val / 5 % 16) + r.val) (hl : l.val = 64 * hh.val + j.val) :
    ratio (outsAt0 m c t.val t.isLt).2.2 hh r l
      = ((mla (fun R H d => qr (ix4 0 R H d)) (fun n H d => kr (ix4 0 n H d)) (fun n H j => vr (ix4 0 n H j)) R H j : ℝ) : EReal) := by
  have ht := point_lt t
  have hG : t.val / 80 < 4 := by omega
  have key := kept_after m c hq hk hv queryScale_eq t.val t.isLt hh r H R ⟨t.val / 80, hG⟩ hH hR rfl
  rw [h1] at key
  have hpos : sumR qr kr vr scaleR H R ⟨t.val / 80, hG⟩ ⟨128 + l.val, by omega⟩ 5
      = ∑ n : Fin 16640, Real.exp (1 / Real.sqrt 96 * ∑ d : Fin 96, qr (ix4 0 R H d) * kr (ix4 0 n H d)) := by
    rw [sumR_all]
    refine Finset.sum_congr rfl fun n _ => ?_
    rw [laneR, if_neg (by show ¬ 128 + l.val < 128; omega), mul_one]
  have hval : sumR qr kr vr scaleR H R ⟨t.val / 80, hG⟩ ⟨l.val, by omega⟩ 5
      = ∑ n : Fin 16640, Real.exp (1 / Real.sqrt 96 * ∑ d : Fin 96, qr (ix4 0 R H d) * kr (ix4 0 n H d)) * vr (ix4 0 n H j) := by
    rw [sumR_all]
    refine Finset.sum_congr rfl fun n _ => ?_
    rw [laneR, if_pos (by show l.val < 128; omega), dif_pos n.isLt]
    have eH : (⟨(128 * (t.val / 80) + l.val) % 512 / 64, by omega⟩ : Fin 8) = H := Fin.ext (by show (128 * (t.val / 80) + l.val) % 512 / 64 = H.val; omega)
    have ej : (⟨(128 * (t.val / 80) + l.val) % 64, by omega⟩ : Fin 64) = j := Fin.ext (by show (128 * (t.val / 80) + l.val) % 64 = j.val; omega)
    show _ * vr (ix4 0 n ⟨(128 * (t.val / 80) + l.val) % 512 / 64, _⟩ ⟨(128 * (t.val / 80) + l.val) % 64, _⟩) = _
    rw [eH, ej]
  have hne : sumR qr kr vr scaleR H R ⟨t.val / 80, hG⟩ ⟨128 + l.val, by omega⟩ 5 ≠ 0 := by
    rw [hpos]
    exact (Finset.sum_pos (fun n _ => Real.exp_pos _) ⟨0, Finset.mem_univ _⟩).ne'
  refine (kept_div _ _ _ key ⟨l.val, by omega⟩ ⟨128 + l.val, by omega⟩ hne).trans (congrArg _ ?_)
  show sumR qr kr vr scaleR H R ⟨t.val / 80, hG⟩ ⟨l.val, _⟩ 5 / sumR qr kr vr scaleR H R ⟨t.val / 80, hG⟩ ⟨128 + l.val, _⟩ 5 = _
  rw [hpos, hval]
  rfl

theorem block_last (t : Fin cfg0.N) (h1 : t.val % 5 = 4) : (outsAt0 m c t.val t.isLt).1 = lastOut (outsAt0 m c t.val t.isLt).2.2 := by
  rw [after_C m c t (by omega) h1 _ rfl]

include hq hk hv in
/-- The kernel's result: entry `(R, 64 H + j)` is lane `j` of head `H` of the attention at query `R`. -/
theorem result_entry (i : S16384x512.Idx) :
    G3 m c i = ((mla (fun R H d => qr (ix4 0 R H d)) (fun n H d => kr (ix4 0 n H d)) (fun n H j => vr (ix4 0 n H j))
      (i 0) ⟨(i 1).val / 64, by have := (i 1).isLt; change (i 1).val < 512 at this; omega⟩ ⟨(i 1).val % 64, by omega⟩ : ℝ) : EReal) := by
  have h0 : (i 0).val < 16384 := (i 0).isLt
  have h1 : (i 1).val < 512 := (i 1).isLt
  have hp : pt3Of i < cfg0.N := by
    rw [show cfg0.N = 320 from N_0]
    show 5 * (1 * ((i 0).val / 1024 - 0) + 16 * ((i 1).val / 128 - 0)) + 4 < 320
    omega
  have ep : pt3Of i = 5 * ((i 0).val / 1024 + 16 * ((i 1).val / 128)) + 4 := by
    show 5 * (1 * ((i 0).val / 1024 - 0) + 16 * ((i 1).val / 128 - 0)) + 4 = _
    omega
  have eb := block_last m c ⟨pt3Of i, hp⟩ (by show pt3Of i % 5 = 4; omega)
  unfold G3
  rw [dif_pos hp, ← outsAt0_sweep m c (pt3Of i) hp]
  refine (congrFun eb (loc3Of i)).trans ?_
  unfold lastOut
  show (if (i 1).val % 128 < 64 then _ else _) = _
  split
  · rename_i hlt
    exact ratio_last m c hq hk hv ⟨pt3Of i, hp⟩ (by show pt3Of i % 5 = 4; omega) 0 _ _ _ _ _
      (by show (i 1).val / 64 = 2 * (pt3Of i / 80) + 0; omega) (by show (i 0).val = 1024 * (pt3Of i / 5 % 16) + (i 0).val % 1024; omega)
      (by show (i 1).val % 128 = 64 * 0 + (i 1).val % 64; omega)
  · rename_i hlt
    exact ratio_last m c hq hk hv ⟨pt3Of i, hp⟩ (by show pt3Of i % 5 = 4; omega) 1 _ _ _ _ _
      (by show (i 1).val / 64 = 2 * (pt3Of i / 80) + 1; omega) (by show (i 0).val = 1024 * (pt3Of i / 5 % 16) + (i 0).val % 1024; omega)
      (by show (i 1).val % 128 = 64 * 1 + (i 1).val % 64; omega)

end Cert.KernelIdeal.Mla
-- ==== Proof.Mla.Ref.lean ====
/- What the reference's result holds, over real arguments. -/
module

public import proofs.«01_k».proof.Proof.Gen.ReferenceIdeal.Read
public import proofs.«01_k».proof.Proof.Mla.Row
public import Idealize.ShloMosaic.Lib.KernelVsHost

@[expose] public section

set_option maxRecDepth 16384

noncomputable section

namespace Cert.ReferenceIdeal.Mla

open Cert.ReferenceIdeal Cert.ReferenceIdeal.Gen Cert.ReferenceIdeal.Read Cert.Mla.Row
open Idealize.ShloMosaic Idealize.ShloMosaic.TcCoe Idealize.SL.Sem
open Idealize.ShloMosaic.ValueIdx

theorem neg_inf : Ideal.ofBits .f32 0xFF800000#32 = ⊥ := by simp [Ideal.ofBits, Ideal.ieee]

/-- The reference's scale, as a real number. -/
theorem scale_eq (i : S_.Idx) : val_main_v1 (F := Ideal) i = ((1 / Real.sqrt 96 : ℝ) : EReal) := by
  have h1 : Ideal.ofBits .f32 0x3F800000#32 = ((1 : ℝ) : EReal) := by
    simp [Ideal.ofBits, Ideal.ieee]
    rw [← EReal.coe_mul]; norm_num
  have h96 : Ideal.ofBits .f32 0x42C00000#32 = ((96 : ℝ) : EReal) := by
    simp [Ideal.ofBits, Ideal.ieee]
    rw [← EReal.coe_mul]; norm_num
  have hs : Real.sqrt 96 ≠ 0 := (Real.sqrt_pos.mpr (by norm_num)).ne'
  show Ideal.div (Ideal.ofBits .f32 0x3F800000#32) (Ideal.sqrt (Ideal.ofBits .f32 0x42C00000#32)) = _
  rw [h1, h96, Ideal.sqrt_coe, if_neg (by norm_num : ¬(96 : ℝ) < 0), Ideal.div_coe hs, ← EReal.coe_mul, one_mul]

variable (x0 : FVec Ideal S1x16384x8x96 .f32) (x1 : FVec Ideal S1x16640x8x96 .f32) (x2 : FVec Ideal S1x16640x8x64 .f32)
variable {qr : S1x16384x8x96.Idx → ℝ} {kr : S1x16640x8x96.Idx → ℝ} {vr : S1x16640x8x64.Idx → ℝ}
  (hq : ∀ i, x0 i = (qr i : EReal)) (hk : ∀ i, x1 i = (kr i : EReal)) (hv : ∀ i, x2 i = (vr i : EReal))

/-- The real scores. -/
def scoreR (qr : S1x16384x8x96.Idx → ℝ) (kr : S1x16640x8x96.Idx → ℝ) (i : S1x8x16384x16640.Idx) : ℝ :=
  1 / Real.sqrt 96 * ∑ d : Fin 96, qr (lidx_main_v2 i d) * kr (ridx_main_v2 i d)

include hq hk in
theorem score_entry (i : S1x8x16384x16640.Idx) : val_main_v4 (F := Ideal) x0 x1 i = (scoreR qr kr i : EReal) := by
  rw [val_main_v4_apply, val_main_v2_apply, val_main_v3_apply, scale_eq]
  have e : ∑ d : Fin 96, x0 (lidx_main_v2 i d) * x1 (ridx_main_v2 i d)
      = ((∑ d : Fin 96, qr (lidx_main_v2 i d) * kr (ridx_main_v2 i d) : ℝ) : EReal) := by
    rw [coe_sum]
    refine Finset.sum_congr rfl fun d _ => ?_
    rw [hq, hk, EReal.coe_mul]
  rw [e]
  refine (EReal.coe_mul _ _).symm.trans (congrArg _ ?_)
  exact mul_comm _ _

include hq hk in
/-- A row's largest score is a real number. -/
theorem max_real (j : S1x8x16384.Idx) : ∃ μ : ℝ, val_main_v7 (F := Ideal) x0 x1 j = (μ : EReal) := by
  have h' : S1x8x16384x16640.Reduces [3] S1x8x16384 := by decide
  have e5 : val_main_v5 (F := Ideal) x0 x1 j
      = (Finset.univ : Finset (Fin (S1x8x16384x16640.size 3))).fold max ⊥ (fun k => (scoreR qr kr (h'.lift j k) : EReal)) := by
    unfold val_main_v5 val_main_cst_1
    refine (congrFun (hostReduce_maximumf_eq_multiReduction (F := Ideal) (φ := .f32) (s := S1x8x16384x16640) (t := S1x8x16384) (axes := [3])
      _ 0xFF800000#32 _ _ h' (.inl rfl) rfl) j).trans ?_
    refine (Ideal.multiReduction_maximumf_single _ _ _ _ _ _).trans ?_
    refine (congrArg (fun b => Finset.fold max b _ _) neg_inf).trans ?_
    refine congrArg (fun f => Finset.fold max ⊥ f Finset.univ) (funext fun k => ?_)
    exact score_entry x0 x1 hq hk _
  obtain ⟨μ, hμ⟩ := fold_max_coe (Finset.univ : Finset (Fin (S1x8x16384x16640.size 3))) ⟨⟨0, by decide⟩, Finset.mem_univ _⟩ (fun k => scoreR qr kr (h'.lift j k))
  refine ⟨μ, ?_⟩
  rw [val_main_v7_apply, e5, hμ, val_main_v6_apply, val_main_cst_2_apply]
  show max (Ideal.ofBits .f32 0xFF800000#32) (μ : EReal) = _
  rw [neg_inf]
  exact max_eq_right bot_le

include hq hk in
theorem exp_entry (R : Fin 16384) (H : Fin 8) (n : Fin 16640) (μ : ℝ) (hμ : val_main_v7 (F := Ideal) x0 x1 (ix3 0 H R) = (μ : EReal)) :
    val_main_v11 (F := Ideal) x0 x1 (ix4 0 H R n) = Ideal.exp ((scoreR qr kr (ix4 0 H R n) : EReal) - (μ : EReal)) := by
  have e : idx_main_v8 (idx_main_v9 (ix4 0 H R n)) = ix3 0 H R := by
    funext a
    match a with
    | ⟨0, _⟩ => rfl
    | ⟨1, _⟩ => rfl
    | ⟨2, _⟩ => rfl
  rw [val_main_v11_apply, val_main_v10_apply, score_entry x0 x1 hq hk, val_main_v9_apply, val_main_v8_apply, e, hμ]
  rfl

include hq hk in
theorem sum_entry (R : Fin 16384) (H : Fin 8) (n : Fin 16640) (μ : ℝ) (hμ : val_main_v7 (F := Ideal) x0 x1 (ix3 0 H R) = (μ : EReal)) :
    val_main_v14 (F := Ideal) x0 x1 (ix4 0 H R n)
      = ∑ n' : Fin 16640, Ideal.exp ((scoreR qr kr (ix4 0 H R n') : EReal) - (μ : EReal)) := by
  have e : ∀ n' : Fin 16640, idx_main_v12 (idx_main_v13 (idx_main_v14 (ix4 0 H R n))) n' = ix4 0 H R n' := fun n' => by
    funext a
    match a with
    | ⟨0, _⟩ => rfl
    | ⟨1, _⟩ => rfl
    | ⟨2, _⟩ => rfl
    | ⟨3, _⟩ => rfl
  rw [val_main_v14_apply, val_main_v13_apply, val_main_v12_apply, val_main_cst_3_apply]
  refine (congrArg (· + _) Ideal.ofBits_zero_f32).trans ?_
  rw [zero_add]
  refine Finset.sum_congr rfl fun n' _ => ?_
  rw [e, exp_entry x0 x1 hq hk R H n' μ hμ]

theorem scoreR_apply (R : Fin 16384) (H : Fin 8) (n : Fin 16640) :
    scoreR qr kr (ix4 0 H R n) = 1 / Real.sqrt 96 * ∑ d : Fin 96, qr (ix4 0 R H d) * kr (ix4 0 n H d) := by
  unfold scoreR
  refine congrArg (_ * ·) (Finset.sum_congr rfl fun d _ => congrArg₂ (fun a b => qr a * kr b) ?_ ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

include hq hk hv in
theorem attend_entry (R : Fin 16384) (H : Fin 8) (j : Fin 64) :
    val_main_v16 (F := Ideal) x0 x1 x2 (ix4 0 H j R)
      = ((mla (fun R H d => qr (ix4 0 R H d)) (fun n H d => kr (ix4 0 n H d)) (fun n H j => vr (ix4 0 n H j)) R H j : ℝ) : EReal) := by
  obtain ⟨μ, hμ⟩ := max_real x0 x1 hq hk (ix3 0 H R)
  unfold mla
  rw [← softmax_coe _ _ μ]
  refine (val_main_v16_apply x0 x1 x2 _).trans (Finset.sum_congr rfl fun n _ => ?_)
  have er : ridx_main_v16 (ix4 0 H j R) n = ix4 0 H R n := by
    funext a
    match a with
    | ⟨0, _⟩ => rfl
    | ⟨1, _⟩ => rfl
    | ⟨2, _⟩ => rfl
    | ⟨3, _⟩ => rfl
  have el : lidx_main_v16 (ix4 0 H j R) n = ix4 0 n H j := by
    funext a
    match a with
    | ⟨0, _⟩ => rfl
    | ⟨1, _⟩ => rfl
    | ⟨2, _⟩ => rfl
    | ⟨3, _⟩ => rfl
  rw [er, el, hv]
  refine congrArg (_ * ·) ?_
  refine (val_main_v15_apply (F := Ideal) x0 x1 _).trans ?_
  refine congrArg₂ Ideal.div ((exp_entry x0 x1 hq hk R H n μ hμ).trans ?_) ((sum_entry x0 x1 hq hk R H n μ hμ).trans ?_)
  · rw [scoreR_apply]
  · exact Finset.sum_congr rfl fun n' _ => by rw [scoreR_apply]

include hq hk hv in
/-- The reference's result: entry `(R, 64 H + j)` is lane `j` of head `H` of the attention at query `R`. -/
theorem result_entry (i : S16384x512.Idx) :
    val_main_v19 (F := Ideal) x0 x1 x2 i
      = ((mla (fun R H d => qr (ix4 0 R H d)) (fun n H d => kr (ix4 0 n H d)) (fun n H j => vr (ix4 0 n H j))
          (i 0) ⟨(i 1).val / 64, by have := (i 1).isLt; change (i 1).val < 512 at this; omega⟩ ⟨(i 1).val % 64, by omega⟩ : ℝ) : EReal) := by
  have h0 : (i 0).val < 16384 := (i 0).isLt
  have h1 : (i 1).val < 512 := (i 1).isLt
  have e : idx_main_v17 (idx_main_v18 i) = ix4 0 ⟨(i 1).val / 64, by omega⟩ ⟨(i 1).val % 64, by omega⟩ (i 0) := by
    funext a
    match a with
    | ⟨0, _⟩ => rfl
    | ⟨1, _⟩ => exact Fin.ext (by show ((i 0).val * 512 + (i 1).val) / 64 % 8 = (i 1).val / 64; omega)
    | ⟨2, _⟩ => exact Fin.ext (by show ((i 0).val * 512 + (i 1).val) % 64 = (i 1).val % 64; omega)
    | ⟨3, _⟩ => exact Fin.ext (by show ((i 0).val * 512 + (i 1).val) / 512 % 16384 = (i 0).val; omega)
  rw [val_main_v19_apply, val_main_v18_apply, val_main_v17_apply, e]
  exact attend_entry x0 x1 x2 hq hk hv (i 0) _ _

end Cert.ReferenceIdeal.Mla
-- ==== Proof.Mla.Meet.lean ====
/- The kernel's result is the reference's, for finite arguments. -/
module

public import proofs.«01_k».proof.Proof.Mla.Final
public import proofs.«01_k».proof.Proof.Mla.Ref
public import proofs.«01_k».proof.Defs

@[expose] public section

set_option maxRecDepth 16384

noncomputable section

namespace Cert.Mla.Meet

open Idealize.ShloMosaic Idealize.ShloMosaic.TcCoe Idealize.SL.Sem

/-- The shape relations the precondition's printed function takes. -/
theorem pre_facts : Cert.Pre_finite.Facts := ⟨by decide, by decide, by decide⟩

theorem ofBits_inf : Ideal.ofBits .f32 0x7F800000#32 = ⊤ := by simp [Ideal.ofBits, Ideal.ieee]

/-- An extended real whose absolute value is below the top is a real. -/
theorem real_of_abs_lt (x : EReal) (h : Ideal.cmp .olt (max x (-x)) ⊤ = 1#1) : ∃ r : ℝ, x = (r : EReal) := by
  have hlt : max x (-x) < ⊤ := by
    by_contra hc
    unfold Ideal.cmp at h
    simp [hc] at h
  induction x using EReal.rec with
  | bot => simp at hlt
  | top => simp at hlt
  | coe r => exact ⟨r, rfl⟩

/-- An array whose entries all pass the printed test holds reals. -/
theorem real_array {s : Shape} (h : (⟨0, ![]⟩ : Shape).BroadcastsInDim s (![] : Fin 0 → Fin s.rank)) (x : FVec Ideal s .f32)
    (hx : cmpf .olt (Host.absf x) (broadcastInDim s ![] h (constant (F := Ideal) ⟨0, ![]⟩ .f32 0x7F800000#32)) = fun _ => 1#1) :
    ∃ r : s.Idx → ℝ, ∀ i, x i = (r i : EReal) := by
  have hi : ∀ i, ∃ r : ℝ, x i = (r : EReal) := fun i => by
    refine real_of_abs_lt (x i) ?_
    rw [← ofBits_inf]
    exact congrFun hx i
  exact ⟨fun i => (hi i).choose, fun i => (hi i).choose_spec⟩

attribute [local instance] pre_facts

theorem agree (m : (ℓ : Loc Cert.KernelIdeal.nD Cert.KernelIdeal.τ Cert.KernelIdeal.sig) → Buf (Elt Ideal) ℓ) (hpre : Cert.Pre_KernelIdeal_finite m)
    (c : Dev Cert.KernelIdeal.nD) :
    Cert.KernelIdeal.Value.G3 m c
      = Cert.ReferenceIdeal.Read.val_main_v19 (F := Ideal) (Cert.KernelIdeal.Mla.argQ m c) (Cert.KernelIdeal.Mla.argK m c) (Cert.KernelIdeal.Mla.argV m c) := by
  obtain ⟨p0, p1, p2⟩ := hpre c
  obtain ⟨qr, hq⟩ := real_array _ (Cert.KernelIdeal.Mla.argQ m c) p0
  obtain ⟨kr, hk⟩ := real_array _ (Cert.KernelIdeal.Mla.argK m c) p1
  obtain ⟨vr, hv⟩ := real_array _ (Cert.KernelIdeal.Mla.argV m c) p2
  funext i
  exact (Cert.KernelIdeal.Mla.result_entry m c hq hk hv i).trans (Cert.ReferenceIdeal.Mla.result_entry _ _ _ hq hk hv i).symm

theorem algebraic : Cert.algebraic_KernelIdeal_ReferenceIdeal_pre_finite := by
  intro m g m' g' hpre hargs
  refine ⟨fun c => Cert.KernelIdeal.Value.G3 m c, Cert.KernelIdeal.Value.run (F := Ideal) m g, ?_⟩
  refine (θ_run Cert.ReferenceIdeal.defs _ _).mono (fun r h c => ⟨(h c).1.trans ?_, (h c).2⟩) (Cert.ReferenceIdeal.Value.run (F := Ideal) m' g')
  obtain ⟨a0, a1, a2⟩ := hargs c
  refine (Cert.ReferenceIdeal.Read.val_main_v19_eq (F := Ideal) _ _ _).trans ?_
  refine Eq.trans ?_ (agree m hpre c).symm
  rw [a0, a1, a2]
  rfl

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

end Cert.Mla.Meet
-- ==== Proof.Moe.Runs.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model's algebra, as the region's launch takes it. -/
abbrev MM (F : FTy → Type) : Type := MT nD τ sig Unit (Elt F) ℕ (UR sig nD τ) ℕ

/-- The tile table and the used-tile count as the body is handed them. -/
abbrev tbT : Memref sig .tc .smem S288 .i32 := Memref.whole main_v24
abbrev tbU : Memref sig .tc .smem S1 .i32 := Memref.whole main_v25
abbrev TBuf (c : Dev nD) {S : Shape} {e : EltTy} (M : Memref sig .tc .smem S e) : Type := Buf (Elt F) (M.view.loc (c : Thread nD τ))
/-- A table's half, held by the body at contents `f`. -/
abbrev tPt (c : Dev nD) {S : Shape} {e : EltTy} (M : Memref sig .tc .smem S e) (f : TBuf (F := F) c M) : sProp (MM F) :=
  M.view.loc (c : Thread nD τ) ↦{fullShare.right} f

/-- The word a load of `M` at the unit rectangle `r` reads off contents `f`. -/
abbrev wordAt (c : Dev nD) {S : Shape} (M : Memref sig .tc .smem S .i32) (f : TBuf (F := F) c M) (r : Rect S) (h : r.shape.numel = 1) : BitVec 32 :=
  (M.access r).read (Elt F) f (Shape.Idx.first (h.symm ▸ Nat.one_pos))

/-- Whether the body reloads the weights at point `i`: the first point, or a tile of another expert than the one before. -/
def reload (i : grid0.Coords) (w w' : BitVec 32) : BitVec 1 :=
  Scalar.cmpi .ne (Scalar.extui (Scalar.ori (Scalar.cmpi .eq (BitVec.ofNat 32 (i 0).val) 0#32) (Scalar.cmpi .ne w w'))) 0#32

abbrev wTile (c : Dev nD) (i : grid0.Coords) (f1 : TBuf (F := F) c tbT) : BitVec 32 := wordAt c tbT f1 (Rect.unit (s := S288) (k0_off1 i) S1.size (k0_off1_inb i)) numel1_S1
abbrev wPrev (c : Dev nD) (i : grid0.Coords) (f1 : TBuf (F := F) c tbT) : BitVec 32 := wordAt c tbT f1 (Rect.unit (s := S288) (k0_off2 i) S1.size (k0_off2_inb i)) numel1_S1
abbrev wUsed (c : Dev nD) (f2 : TBuf (F := F) c tbU) : BitVec 32 := wordAt c tbU f2 (Rect.unit (s := S1) ![0] S1.size inb_S1_S1_0) numel1_S1

/-- What the body leaves in the two bf16 weight buffers and in the output's, the branches' conditions words. -/
def left9 (r : BitVec 1) (x1 : Vec F S1x1x1024x2048 .f32) (xs : Vec F S1024x2048 .bf16) : Vec F S1024x2048 .bf16 := if r = 1#1 then k0_pay1 x1 else xs
def left10 (r : BitVec 1) (x3 : Vec F S1x1x1024x1024 .f32) (xs : Vec F S1024x1024 .bf16) : Vec F S1024x1024 .bf16 := if r = 1#1 then k0_pay2 x3 else xs
def left8 (i : grid0.Coords) (u : BitVec 32) (x0 : Vec F S256x1024 .f32) (s9 : Vec F S1024x2048 .bf16) (x2 : Vec F S1x1x1x2048 .f32) (s10 : Vec F S1024x1024 .bf16) (x4 : Vec F S1x1x1x1024 .f32) (d : Vec F S256x1024 .f32) : Vec F S256x1024 .f32 :=
  if k0_cond3 i u = 1#1 then k0_pay4 else if k0_cond2 i u = 1#1 then k0_pay3 x0 s9 x2 s10 x4 else d

theorem two (n : ℕ) : (![0, 0] : Fin 2 → ℕ) = fun _ => 0 := by funext a; fin_cases a <;> rfl

set_option maxHeartbeats 1000000 in
/-- The body at any point, from whole memrefs at named contents: the inputs and the tables as they were, the weight
    buffers and the output at what it leaves. -/
theorem run (c : Dev nD) (i : grid0.Coords) (f1 : TBuf (F := F) c tbT) (f2 : TBuf (F := F) c tbU)
    (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32)
    (d : Vec F S256x1024 .f32) (s9 : Vec F S1024x2048 .bf16) (s10 : Vec F S1024x1024 .bf16)
    (E : Set ℕ) (K : PUnit → sProp (MM F)) :
    iprop(tPt c tbT f1 ∗ tPt c tbU f2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare d ∗ owns (c : Thread nD τ) arg9 fullShare s9 ∗ owns (c : Thread nD τ) arg10 fullShare s10
        ∗ (iprop(tPt c tbT f1 ∗ tPt c tbU f2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (left8 i (wUsed c f2) x0 (left9 (reload i (wTile c i f1) (wPrev c i f1)) x1 s9) x2 (left10 (reload i (wTile c i f1) (wPrev c i f1)) x3 s10) x4 d)
            ∗ owns (c : Thread nD τ) arg9 fullShare (left9 (reload i (wTile c i f1) (wPrev c i f1)) x1 s9)
            ∗ owns (c : Thread nD τ) arg10 fullShare (left10 (reload i (wTile c i f1) (wPrev c i f1)) x3 s10)) -∗ K ⟨⟩))
      ⊢ wp frame (wpE (defs₀ (F := F)) Variants.none c none) E (cc0_moe_experts i tbT (Memref.isWhole_whole _) tbU (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  iintro ⟨T1, T2, ⟨%g0, %hg0, H0⟩, ⟨%g1, %hg1, H1⟩, ⟨%g2, %hg2, H2⟩, ⟨%g3, %hg3, H3⟩, ⟨%g4, %hg4, H4⟩, ⟨%g5, %hg5, H5⟩, ⟨%fs0, %hs0, HS0⟩, ⟨%fs1, %hs1, HS1⟩, Hk⟩
  obtain rfl := harg3.eq_unread hg0; obtain rfl := harg4.eq_unread hg1; obtain rfl := harg5.eq_unread hg2; obtain rfl := harg6.eq_unread hg3; obtain rfl := harg7.eq_unread hg4
  sl_exec
  sl_step
  iapply Hk
  isplitl [T1]; · iexact T1
  isplitl [T2]; · iexact T2
  isplitl [H0]
  · iexists _; isplitr; · ipureintro; exact hg0
    iexact H0
  isplitl [H1]
  · iexists _; isplitr; · ipureintro; exact hg1
    iexact H1
  isplitl [H2]
  · iexists _; isplitr; · ipureintro; exact hg2
    iexact H2
  isplitl [H3]
  · iexists _; isplitr; · ipureintro; exact hg3
    iexact H3
  isplitl [H4]
  · iexists _; isplitr; · ipureintro; exact hg4
    iexact H4
  have e9 : ∀ (r : BitVec 1), View.read (Elt F) arg9.view (if hc : r = 1#1 then
      arg9.view.writes (Elt F) fs0 [⟨Rect.unit ![0, 0] S1024x2048.size inb_S1024x2048_S1024x2048_0_0,
        k0_pay1 (View.readAt (Elt F) arg4.view (Rect.unit ![0, 0, 0, 0] S1x1x1024x2048.size inb_S1x1x1024x2048_S1x1x1024x2048_0_0_0_0).toLoadRect (harg4.unread x1))⟩] else fs0) = left9 r x1 s9 := by
    intro r
    unfold left9
    split
    · rw [View.read_writes_full, View.readAt_full, hg1]
    · exact hs0
  have e10 : ∀ (r : BitVec 1), View.read (Elt F) arg10.view (if hc : r = 1#1 then
      arg10.view.writes (Elt F) fs1 [⟨Rect.unit ![0, 0] S1024x1024.size inb_S1024x1024_S1024x1024_0_0,
        k0_pay2 (View.readAt (Elt F) arg6.view (Rect.unit ![0, 0, 0, 0] S1x1x1024x1024.size inb_S1x1x1024x1024_S1x1x1024x1024_0_0_0_0).toLoadRect (harg6.unread x3))⟩] else fs1) = left10 r x3 s10 := by
    intro r
    unfold left10
    split
    · rw [View.read_writes_full, View.readAt_full, hg3]
    · exact hs1
  isplitl [H5]
  · iexists _; isplitr; swap; · iexact H5
    ipureintro
    unfold left8
    split
    · rename_i h
      exact (View.read_writes_full _ _ _ _ _).trans (if_pos h).symm
    · rename_i h
      refine Eq.trans ?_ (if_neg h).symm
      split
      · rename_i h'
        refine ((View.read_writes_full _ _ _ _ _).trans ?_).trans (if_pos h').symm
        rw [View.readAt_full, hg0, View.readAt_full, hg2, View.readAt_full, hg4]
        rw [show run.sl.v21 c i f1 arg4 harg4 arg9 x1 fs0 = _ from (View.readAt_full _ _ _).trans (e9 _),
          show run.sl.v45 c i f1 arg6 harg6 arg10 x3 fs1 = _ from (View.readAt_full _ _ _).trans (e10 _)]
        rfl
      · rename_i h'
        exact hg5.trans (if_neg h').symm
  isplitl [HS0]
  · iexists _; isplitr; swap; · iexact HS0
    ipureintro; exact e9 _
  · iexists _; isplitr; swap; · iexact HS1
    ipureintro; exact e10 _

end Cert.Moe
-- ==== Proof.Moe.Kit.lean ====
module

public import proofs.«01_k».proof.Proof.Moe.Runs

@[expose] public section

set_option maxRecDepth 16384

noncomputable section

namespace Cert.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The one index of a word of a table. -/
abbrev at1 {n : ℕ} (k : Fin n) : (⟨1, ![n]⟩ : Shape).Idx := fun a => match a with | ⟨0, _⟩ => k

variable {F : FTy → Type} [FloatOps F]
variable (m : (ℓ : Loc nD τ sig) → Buf (Elt F) ℓ) (ρ : Dev nD → PrngReg)

/-! ## What the region finds -/

/-- The host's lines before the region: the tables from the counts, and the two reshapes of the biases. -/
abbrev lines : List (List (HloOp τ sig (Elt F))) := [hostOps0, hostOps0_1, hostOps0_2, hostOps0_3, hostOps0_4, hostOps0_5, hostOps0_6]

/-- Core `c`'s buffers when the region is entered: after the host's lines. -/
def V (c : Dev nD) (b : Ref sig .tc) : Buf (Elt F) ((c : Thread nD τ).loc b) :=
  StableHlo.after (List.flatten lines) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; rfl
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

set_option maxHeartbeats 1600000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main lines
    (by simp only [lines, List.Forall]; exact ⟨hostOps0_sub, hostOps0_1_sub, hostOps0_2_sub, hostOps0_3_sub, hostOps0_4_sub, hostOps0_5_sub, hostOps0_6_sub⟩)
    (by simp only [lines, List.Forall]; exact ⟨fresh0, fresh1, fresh2, fresh3, fresh4, fresh5, fresh6⟩) main_chain

/-- The buffers that no host line writes are the arguments'. -/
theorem V_of_arg (c : Dev nD) (b : Ref sig .tc) (hb : b = main_arg0 ∨ b = main_arg1 ∨ b = main_arg2 ∨ b = main_arg3 ∨ b = main_arg4 ∨ b = main_arg5) :
    V m c b = m ((c : Thread nD τ).loc b) :=
  StableHlo.after_of_forall_not_mem (b := Proc.devRef .tc b) _ _ (List.forall_iff_forall_mem.mp (by
    simp only [lines, hostOps0, hostOps0_1, hostOps0_2, hostOps0_3, hostOps0_4, hostOps0_5, hostOps0_6, List.flatten_cons, List.flatten_nil, List.append_nil,
      List.cons_append, List.nil_append, List.Forall, StableHlo.nullary_writes, StableHlo.unary_writes, StableHlo.binary_writes, StableHlo.ternary_writes,
      StableHlo.reshape_writes, Finset.mem_singleton]
    rcases hb with rfl | rfl | rfl | rfl | rfl | rfl
    all_goals
      repeat' apply And.intro
      all_goals exact StableHlo.devRef_ne_of_ne (by decide)))

/-! ## The tables -/

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table's words and the count's, -/
def tileW : S288.Idx → BitVec 32 := tbl m 0
def usedW : S1.Idx → BitVec 32 := tbl m 1
/-- the expert of tile `n`, and the number of tiles in use. -/
def tile (n : Fin 288) : BitVec 32 := tileW m (at1 n)
def used : BitVec 32 := usedW m (at1 0)

theorem tPt_eq (c : Dev nD) : (Pipeline.ΦT pre0 (tbl m) c : sProp (MM F)) = iprop(tPt c tbT (tbl m 0) ∗ tPt c tbU (tbl m 1)) := by
  unfold Pipeline.ΦT Pipeline.prefHeld
  rw [show (Finset.univ : Finset (Fin 2)) = insert (0 : Fin 2) {(1 : Fin 2)} from by decide, bigSep_insert (by decide), bigSep_singleton]
  rfl

theorem prev_val : ∀ n : Fin 288, n.val ≠ 0 →
    (Scalar.indexCast (Scalar.maxsi (Scalar.subi (BitVec.ofNat 32 n.val) 1#32) 0#32)).toNat + 1 = n.val := by decide +kernel

theorem wTile_eq (c : Dev nD) (i : grid0.Coords) : wTile c i (tbl m 0) = tile m (i 0) := by
  refine congrArg (tileW m) (funext fun a => Fin.ext ?_)
  match a with
  | ⟨0, _⟩ =>
    show k0_off1 i 0 + 1 * 0 = (i 0).val
    rw [k0_off1_eq]; rfl

theorem wUsed_eq (c : Dev nD) : wUsed c (tbl m 1) = used m := by
  refine congrArg (usedW m) (funext fun a => Fin.ext ?_)
  match a with
  | ⟨0, _⟩ => rfl

theorem wPrev_eq (c : Dev nD) (i : grid0.Coords) (n : Fin 288) (h : n.val + 1 = (i 0).val) : wPrev c i (tbl m 0) = tile m n := by
  refine congrArg (tileW m) (funext fun a => Fin.ext ?_)
  match a with
  | ⟨0, _⟩ =>
    show (Scalar.indexCast (Scalar.maxsi (Scalar.subi (BitVec.ofNat 32 (i 0).val) 1#32) 0#32)).toNat + 1 * 0 = n.val
    have := prev_val (i 0) (by omega)
    omega

/-! ## The index maps -/

/-- The word the index maps of the weights and the biases read at point `i`, -/
theorem atTile (i : grid0.Coords) (off : Fin 1 → ℕ) (inb : ∀ a, off a + S1.size a ≤ S288.size a) (h : off 0 = (i 0).val) :
    (tbl m).at 0 (Rect.unit (s := S288) off S1.size inb) numel1_S1 = tile m (i 0) := by
  refine congrArg (tileW m) (funext fun a => Fin.ext ?_)
  match a with
  | ⟨0, _⟩ => show off 0 + 1 * 0 = (i 0).val; omega

/-- and the one the rows' reads. -/
theorem atUsed : (tbl m).at 1 (Rect.unit (s := S1) ![0] S1.size inb_S1_S1_0) numel1_S1 = used m := by
  refine congrArg (usedW m) (funext fun a => Fin.ext ?_)
  match a with
  | ⟨0, _⟩ => rfl

theorem off_val (i : grid0.Coords) : (![(Scalar.indexCast (BitVec.ofNat 32 (i 0).val)).toNat] : Fin 1 → ℕ) 0 = (i 0).val := by
  have := congrFun (k0_off1_eq i) 0
  exact this

/-- An expert's block index in its arrays. -/
abbrev words (w : BitVec 32) : Fin 4 → ℕ := ![0, w.toNat, 0, 0]

theorem map0 (i : grid0.Coords) : cc0_transform_0 inb_S1_S1_0 numel1_S1 (tbl m) i
    = ![(Scalar.minsi (BitVec.ofNat 32 (i 0).val) (Scalar.subi (used m) 1#32)).toNat, 0] := by
  exact congrArg (fun w : BitVec 32 => (![(Scalar.minsi (BitVec.ofNat 32 (i 0).val) (Scalar.subi w 1#32)).toNat, 0] : Fin 2 → ℕ)) (atUsed m)
theorem map1 (i : grid0.Coords) : cc0_transform_1 k0_off1_inb numel1_S1 (tbl m) i = ![0, (tile m (i 0)).toNat, 0, 0] := by
  exact congrArg words (atTile m i (k0_off1 i) (k0_off1_inb i) (off_val i))
theorem map2 (i : grid0.Coords) : cc0_transform_2 k0_off1_inb numel1_S1 (tbl m) i = ![0, (tile m (i 0)).toNat, 0, 0] := by
  exact congrArg words (atTile m i (k0_off1 i) (k0_off1_inb i) (off_val i))
theorem map3 (i : grid0.Coords) : cc0_transform_3 k0_off1_inb numel1_S1 (tbl m) i = ![0, (tile m (i 0)).toNat, 0, 0] := by
  exact congrArg words (atTile m i (k0_off1 i) (k0_off1_inb i) (off_val i))
theorem map4 (i : grid0.Coords) : cc0_transform_4 k0_off1_inb numel1_S1 (tbl m) i = ![0, (tile m (i 0)).toNat, 0, 0] := by
  exact congrArg words (atTile m i (k0_off1 i) (k0_off1_inb i) (off_val i))

/-- The row block point `n` fetches, of a count of at least one: at most `n`, and `n` itself on a tile in use. -/
theorem fetch (n : ℕ) (hn : n < 288) (u : BitVec 32) (hu : 1 ≤ u.toInt) :
    (Scalar.minsi (BitVec.ofNat 32 n) (Scalar.subi u 1#32)).toNat = if (n : ℤ) < u.toInt then n else u.toNat - 1 := by
  have hc := BitVec.toInt_eq_toNat_cond u
  have hlt := u.isLt
  have hs : (u - 1#32).toNat = u.toNat - 1 := by
    rw [BitVec.toNat_sub]
    split at hc <;> simp <;> omega
  have hsi : (u - 1#32).toInt = u.toInt - 1 := by
    rw [BitVec.toInt_eq_toNat_cond, hs]
    split <;> split at hc <;> omega
  have hni : (BitVec.ofNat 32 n).toInt = n := WordCmp.toInt_ofNat_of_lt (by omega)
  have hnn : (BitVec.ofNat 32 n).toNat = n := WordCmp.toNat_ofNat_of_lt (by omega)
  show (if (BitVec.ofNat 32 n).slt (u - 1#32) then BitVec.ofNat 32 n else u - 1#32).toNat = _
  rw [show (BitVec.ofNat 32 n).slt (u - 1#32) = decide ((n : ℤ) < u.toInt - 1) from by rw [BitVec.slt, hni, hsi]]
  split at hc
  · by_cases h : (n : ℤ) < u.toInt - 1
    · rw [if_pos (by simpa using h), if_pos (by omega), hnn]
    · rw [if_neg (by simpa using h), hs]
      split <;> omega
  · omega

/-- The tables of a routing meet the region's side condition: the tiles' experts are experts, a tile is in use. -/
theorem ok_of (ht : ∀ n, (tile m n).toNat < 32) (hu : 1 ≤ (used m).toInt) : Ok m := by
  refine ⟨fun i => ⟨?_, .inl rfl⟩, fun i => ⟨?_, .inl rfl⟩, fun i => ⟨?_, .inl rfl⟩, fun i => ⟨?_, .inl rfl⟩, fun i => ⟨?_, .inl rfl⟩⟩
  · rw [map0]
    have h' : (i 0).val < 288 := (i 0).isLt
    have h := fetch (i 0).val h' (used m) hu
    have hc := BitVec.toInt_eq_toNat_cond (used m)
    have hlt := (used m).isLt
    intro a
    match a with
    | ⟨0, _⟩ => show ((Scalar.minsi (BitVec.ofNat 32 (i 0).val) (Scalar.subi (used m) 1#32)).toNat + 1) * 256 ≤ 73728; rw [h]; split at hc <;> split <;> omega
    | ⟨1, _⟩ => show (0 + 1) * 1024 ≤ 1024; omega
  all_goals
    first | rw [map1] | rw [map2] | rw [map3] | rw [map4]
    have h := ht (i 0)
    intro a
    match a with
    | ⟨0, _⟩ => show (0 + 1) * 1 ≤ 2; omega
    | ⟨1, _⟩ => show ((tile m (i 0)).toNat + 1) * 1 ≤ 32; omega
    | ⟨2, _⟩ => exact Nat.le_of_eq (Nat.one_mul _)
    | ⟨3, _⟩ => exact Nat.le_of_eq (Nat.one_mul _)

/-! ## The branches' conditions -/

theorem cond_word (b : Bool) : Scalar.cmpi .ne (Scalar.extui (BitVec.ofBool b)) 0#32 = 1#1 ↔ b = true := by cases b <;> decide

theorem or_word (a b : Bool) : BitVec.ofBool a ||| BitVec.ofBool b = BitVec.ofBool (a || b) := by cases a <;> cases b <;> decide

theorem cond2_iff (i : grid0.Coords) (u : BitVec 32) : k0_cond2 i u = 1#1 ↔ ((i 0).val : ℤ) < u.toInt := by
  have h : (i 0).val < 288 := (i 0).isLt
  refine (cond_word ((BitVec.ofNat 32 (i 0).val).slt u)).trans ?_
  rw [BitVec.slt, WordCmp.toInt_ofNat_of_lt (by omega)]; simp

theorem cond3_iff (i : grid0.Coords) (u : BitVec 32) : k0_cond3 i u = 1#1 ↔ u.toInt ≤ ((i 0).val : ℤ) := by
  have h : (i 0).val < 288 := (i 0).isLt
  refine (cond_word (u.sle (BitVec.ofNat 32 (i 0).val))).trans ?_
  rw [BitVec.sle, WordCmp.toInt_ofNat_of_lt (by omega)]; simp

theorem reload_iff (i : grid0.Coords) (w w' : BitVec 32) : reload i w w' = 1#1 ↔ (i 0).val = 0 ∨ w ≠ w' := by
  have h : (i 0).val < 288 := (i 0).isLt
  have key : reload i w w' = Scalar.cmpi .ne (Scalar.extui (BitVec.ofBool ((BitVec.ofNat 32 (i 0).val == 0#32) || (w != w')))) 0#32 :=
    congrArg (fun x => Scalar.cmpi .ne (Scalar.extui x) 0#32) (or_word _ _)
  rw [key, cond_word]
  rw [Bool.or_eq_true, beq_iff_eq, bne_iff_ne]
  refine or_congr ?_ Iff.rfl
  rw [show (0#32 : BitVec 32) = BitVec.ofNat 32 0 from rfl, WordCmp.ofNat_eq_ofNat_iff (by omega) (by omega)]

attribute [irreducible] V tbl

end Cert.Moe
-- ==== Proof.Moe.Frame.lean ====
module

public import proofs.«01_k».proof.Proof.Moe.Kit
public import Idealize.ShloMosaic.Lib.KernelVsHost

@[expose] public section

set_option maxRecDepth 16384

noncomputable section

namespace Cert.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (hO : Ok m)

/-! ## The windows' blocks -/

/-- Window `w`'s block at point `t`, read off what the region finds. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The grid has 288 points, one a tile. -/
theorem N_eq : (cfgM m hO).N = 288 := N_0
def tileOf (t : Fin (cfgM m hO).N) : Fin 288 := ⟨t.val, lt_of_lt_of_eq t.isLt (N_eq m hO)⟩

theorem coord (t : Fin (cfgM m hO).N) : (grid0.coords t) 0 = tileOf m hO t := by
  apply Fin.ext
  have h : ((grid0.coords t) 0).val = t.val / 1 % 288 := Pipeline.Grid.coords_val t 0 (show grid0.stride 0 = 1 by decide) rfl
  have ht : t.val < 288 := lt_of_lt_of_eq t.isLt (N_eq m hO)
  exact h.trans (show t.val / 1 % 288 = t.val by omega)

/-- The two weights' blocks are their experts': points of one expert fetch the same. -/
theorem w1_same (c : Dev nD) (t t' : Fin (cfgM m hO).N) (h : tile m (tileOf m hO t) = tile m (tileOf m hO t')) :
    (iblk m hO c 1 t : Vec F S1x1x1024x2048 .f32) = iblk m hO c 1 t' := by
  funext y
  refine congrArg (V m c main_arg2 : S2x32x1024x2048.Idx → Elt F .f32) (funext fun a => Fin.ext ?_)
  refine (Pipeline.Window.rect_emb_val ((cfgM m hO).win 1) t y a).trans (Eq.trans ?_ (Pipeline.Window.rect_emb_val ((cfgM m hO).win 1) t' y a).symm)
  rw [show ((cfgM m hO).win 1).index t = words (tile m (tileOf m hO t)) from (map1 m _).trans (by rw [coord]),
    show ((cfgM m hO).win 1).index t' = words (tile m (tileOf m hO t')) from (map1 m _).trans (by rw [coord]), h]
theorem w2_same (c : Dev nD) (t t' : Fin (cfgM m hO).N) (h : tile m (tileOf m hO t) = tile m (tileOf m hO t')) :
    (iblk m hO c 3 t : Vec F S1x1x1024x1024 .f32) = iblk m hO c 3 t' := by
  funext y
  refine congrArg (V m c main_arg4 : S2x32x1024x1024.Idx → Elt F .f32) (funext fun a => Fin.ext ?_)
  refine (Pipeline.Window.rect_emb_val ((cfgM m hO).win 3) t y a).trans (Eq.trans ?_ (Pipeline.Window.rect_emb_val ((cfgM m hO).win 3) t' y a).symm)
  rw [show ((cfgM m hO).win 3).index t = words (tile m (tileOf m hO t)) from (map3 m _).trans (by rw [coord]),
    show ((cfgM m hO).win 3).index t' = words (tile m (tileOf m hO t')) from (map3 m _).trans (by rw [coord]), h]

/-! ## What the body leaves, point by point -/

/-- The output's block of tile `t`: its rows through its expert, or zeros past the tiles in use. -/
def leaves (c : Dev nD) (t : Fin (cfgM m hO).N) : Vec F S256x1024 .f32 :=
  left8 (grid0.coords t) (used m) (iblk m hO c 0 t) (k0_pay1 (iblk m hO c 1 t)) (iblk m hO c 2 t) (k0_pay2 (iblk m hO c 3 t)) (iblk m hO c 4 t) k0_pay4

theorem left8_any (i : grid0.Coords) (u : BitVec 32) (x0 : Vec F S256x1024 .f32) (s9 : Vec F S1024x2048 .bf16) (x2 : Vec F S1x1x1x2048 .f32) (s10 : Vec F S1024x1024 .bf16) (x4 : Vec F S1x1x1x1024 .f32) (d d' : Vec F S256x1024 .f32) :
    left8 i u x0 s9 x2 s10 x4 d = left8 i u x0 s9 x2 s10 x4 d' := by
  unfold left8
  split
  · rfl
  · rename_i h
    rw [cond3_iff] at h
    rw [if_pos ((cond2_iff i u).mpr (by omega)), if_pos ((cond2_iff i u).mpr (by omega))]

theorem leaves_eq (c : Dev nD) (t : Fin (cfgM m hO).N) (d : Vec F S256x1024 .f32) : leaves m hO c t
    = left8 (grid0.coords t) (used m) (iblk m hO c 0 t) (k0_pay1 (iblk m hO c 1 t)) (iblk m hO c 2 t) (k0_pay2 (iblk m hO c 3 t)) (iblk m hO c 4 t) d :=
  left8_any _ _ _ _ _ _ _ _ _

/-- Before point `n`, but for the first, the weight buffers hold the rounded weights of the point before. -/
def Held (c : Dev nD) (n : ℕ) (s9 : Vec F S1024x2048 .bf16) (s10 : Vec F S1024x1024 .bf16) : Prop :=
  ∀ k : Fin (cfgM m hO).N, n = k.val + 1 → s9 = k0_pay1 (iblk m hO c 1 k) ∧ s10 = k0_pay2 (iblk m hO c 3 k)

abbrev scM0_0 : Memref sig .tc .vmem S1024x2048 .bf16 := Memref.whole cc0_scratch0
abbrev scM0_1 : Memref sig .tc .vmem S1024x1024 .bf16 := Memref.whole cc0_scratch1

/-- What the region keeps between points: the weight buffers so, the generator's register, the tables' halves. -/
def Phi (c : Dev nD) (n : ℕ) : sProp (MM F) :=
  iprop((∃ s9, ∃ s10, ⌜Held m hO c n s9 s10⌝ ∗ owns (c : Thread nD τ) scM0_0 fullShare s9 ∗ owns (c : Thread nD τ) scM0_1 fullShare s10)
    ∗ (∃ r, prngReg c r) ∗ tPt c tbT (tbl m 0) ∗ tPt c tbU (tbl m 1))

theorem PhiA_eq (c : Dev nD) : (Pipeline.ΦA spec0 c : sProp (MM F))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The pipeline's data: the arrays as found, each input's block left in place, the output's as `leaves`. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => leaves m hO c t
  Φ t := Phi m hO c t.val
  q _ := fullShare
  owed _ := 0

theorem A_eq (c : Dev nD) (w : Fin (cfgM m hO).W) : (dats m hO 0 c).A w = V m c (Pipeline.arrRef spec0 w) := by
  dsimp only [dats]

theorem after_0 (c : Dev nD) (t) : (dats m hO 0 c).after 0 t = iblk m hO c 0 t := by dsimp only [dats]; rfl
theorem after_1 (c : Dev nD) (t) : (dats m hO 0 c).after 1 t = iblk m hO c 1 t := by dsimp only [dats]; rfl
theorem after_2 (c : Dev nD) (t) : (dats m hO 0 c).after 2 t = iblk m hO c 2 t := by dsimp only [dats]; rfl
theorem after_3 (c : Dev nD) (t) : (dats m hO 0 c).after 3 t = iblk m hO c 3 t := by dsimp only [dats]; rfl
theorem after_4 (c : Dev nD) (t) : (dats m hO 0 c).after 4 t = iblk m hO c 4 t := by dsimp only [dats]; rfl
theorem after_5 (c : Dev nD) (t) : (dats m hO 0 c).after 5 t = leaves m hO c t := by dsimp only [dats]; rfl

theorem before_0 (c : Dev nD) (t) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

abbrev ms0 (t : Fin (cfgM m hO).N) : Memref sig .tc .vmem S256x1024 .f32 := spec0_0.stage ((cfgM m hO).slots t 0)
abbrev ms1 (t : Fin (cfgM m hO).N) : Memref sig .tc .vmem S1x1x1024x2048 .f32 := spec0_1.stage ((cfgM m hO).slots t 1)
abbrev ms2 (t : Fin (cfgM m hO).N) : Memref sig .tc .vmem S1x1x1x2048 .f32 := spec0_2.stage ((cfgM m hO).slots t 2)
abbrev ms3 (t : Fin (cfgM m hO).N) : Memref sig .tc .vmem S1x1x1024x1024 .f32 := spec0_3.stage ((cfgM m hO).slots t 3)
abbrev ms4 (t : Fin (cfgM m hO).N) : Memref sig .tc .vmem S1x1x1x1024 .f32 := spec0_4.stage ((cfgM m hO).slots t 4)
abbrev ms5 (t : Fin (cfgM m hO).N) : Memref sig .tc .vmem S256x1024 .f32 := spec0_5.stage ((cfgM m hO).slots t 5)

/-- The body at point `t`, on the buffers the pipeline calls it with. -/
abbrev bodyAt (t : Fin (cfgM m hO).N) : Prog (TpuEff nD τ sig (Elt F) Λ₀ .tc) PUnit :=
  cc0_moe_experts (grid0.coords t) tbT (Memref.isWhole_whole _) tbU (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    (Memref.whole cc0_scratch0) (Memref.isWhole_whole _) (Memref.whole cc0_scratch1) (Memref.isWhole_whole _)

theorem some_branch (i : grid0.Coords) (u : BitVec 32) : (!(k0_cond2 i u == 1#1) && !(k0_cond3 i u == 1#1)) = false := by
  have h2 := cond2_iff i u
  have h3 := cond3_iff i u
  rcases lt_or_ge ((i 0).val : ℤ) u.toInt with h | h
  · rw [h2.mpr h]; rfl
  · rw [h3.mpr h]; simp

/-- No point leaves the output alone: a tile is in use or it is not. -/
theorem live5 (t : Fin (cfgM m hO).N) : (cfgM m hO).idle 5 (grid0.coords t) = false :=
  some_branch (grid0.coords t) _

theorem leaves_0 (c : Dev nD) (t) : (dats m hO 0 c).leavesExact 0 t = owns (c : Thread nD τ) (ms0 m hO t) fullShare (iblk m hO c 0 t) := by
  unfold Dat.leavesExact; rw [show (cfgM m hO).idle 0 (grid0.coords t) = false from rfl, after_0]; rfl
theorem leaves_1 (c : Dev nD) (t) : (dats m hO 0 c).leavesExact 1 t = owns (c : Thread nD τ) (ms1 m hO t) fullShare (iblk m hO c 1 t) := by
  unfold Dat.leavesExact; rw [show (cfgM m hO).idle 1 (grid0.coords t) = false from rfl, after_1]; rfl
theorem leaves_2 (c : Dev nD) (t) : (dats m hO 0 c).leavesExact 2 t = owns (c : Thread nD τ) (ms2 m hO t) fullShare (iblk m hO c 2 t) := by
  unfold Dat.leavesExact; rw [show (cfgM m hO).idle 2 (grid0.coords t) = false from rfl, after_2]; rfl
theorem leaves_3 (c : Dev nD) (t) : (dats m hO 0 c).leavesExact 3 t = owns (c : Thread nD τ) (ms3 m hO t) fullShare (iblk m hO c 3 t) := by
  unfold Dat.leavesExact; rw [show (cfgM m hO).idle 3 (grid0.coords t) = false from rfl, after_3]; rfl
theorem leaves_4 (c : Dev nD) (t) : (dats m hO 0 c).leavesExact 4 t = owns (c : Thread nD τ) (ms4 m hO t) fullShare (iblk m hO c 4 t) := by
  unfold Dat.leavesExact; rw [show (cfgM m hO).idle 4 (grid0.coords t) = false from rfl, after_4]; rfl
theorem leaves_5 (c : Dev nD) (t) : (dats m hO 0 c).leavesExact 5 t = owns (c : Thread nD τ) (ms5 m hO t) fullShare (leaves m hO c t) := by
  unfold Dat.leavesExact; rw [live5 m hO t, after_5]; rfl

/-- The weight buffers after the body: the point's own rounded weights, reloaded or kept. -/
theorem kept (c : Dev nD) (t : Fin (cfgM m hO).N) (s9 : Vec F S1024x2048 .bf16) (s10 : Vec F S1024x1024 .bf16) (h : Held m hO c t.val s9 s10) :
    left9 (reload (grid0.coords t) (wTile c (grid0.coords t) (tbl m 0)) (wPrev c (grid0.coords t) (tbl m 0))) (iblk m hO c 1 t) s9 = k0_pay1 (iblk m hO c 1 t)
    ∧ left10 (reload (grid0.coords t) (wTile c (grid0.coords t) (tbl m 0)) (wPrev c (grid0.coords t) (tbl m 0))) (iblk m hO c 3 t) s10 = k0_pay2 (iblk m hO c 3 t) := by
  unfold left9 left10
  by_cases hr : reload (grid0.coords t) (wTile c (grid0.coords t) (tbl m 0)) (wPrev c (grid0.coords t) (tbl m 0)) = 1#1
  · rw [if_pos hr, if_pos hr]; exact ⟨rfl, rfl⟩
  · rw [if_neg hr, if_neg hr]
    rw [reload_iff, not_or, not_not] at hr
    have hc : ((grid0.coords t) 0).val = t.val := congrArg Fin.val (coord m hO t)
    have hN := lt_of_lt_of_eq t.isLt (N_eq m hO)
    have hlt : t.val - 1 < (cfgM m hO).N := lt_of_le_of_lt (Nat.sub_le _ _) t.isLt
    have hk := h ⟨t.val - 1, hlt⟩ (by show t.val = t.val - 1 + 1; omega)
    have e : tile m (tileOf m hO ⟨t.val - 1, hlt⟩) = tile m (tileOf m hO t) := by
      rw [wTile_eq, wPrev_eq m c _ (tileOf m hO ⟨t.val - 1, hlt⟩) (by show t.val - 1 + 1 = _; omega), coord] at hr
      exact hr.2.symm
    exact ⟨hk.1.trans (congrArg k0_pay1 (w1_same m hO c _ _ e)), hk.2.trans (congrArg k0_pay2 (w2_same m hO c _ _ e))⟩

def bodyPre (c : Dev nD) (t : Fin (cfgM m hO).N) : sProp (MM F) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (c : Dev nD) (t : Fin (cfgM m hO).N) : sProp (MM F) :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t ∗ (dats m hO 0 c).leavesExact 5 t)

set_option maxHeartbeats 1600000 in
/-- The body at any point: its run, from the inputs' blocks and the weight buffers as the point before left them. -/
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2, before_3, before_4]
  rw [leaves_0, leaves_1, leaves_2, leaves_3, leaves_4, leaves_5]
  rw [show (dats m hO 0 c).owesAt () t.succ = (dats m hO 0 c).owesAt () t.castSucc from rfl]
  rw [show (dats m hO 0 c).Φ t.succ = Phi m hO c (t.val + 1) from rfl, show (dats m hO 0 c).Φ t.castSucc = Phi m hO c t.val from rfl]
  unfold Phi
  iintro ⟨⟨⟨%s9, %s10, %hs, HS0, HS1⟩, Hg, T1, T2⟩, Ho, ⟨%d0, H0⟩, ⟨%d1, H1⟩, ⟨%d2, H2⟩, ⟨%d3, H3⟩, ⟨%d4, H4⟩, ⟨%d5, H5⟩⟩
  iapply (run c (grid0.coords t) (tbl m 0) (tbl m 1) _ _ _ _ _ _ _ _ _ _ _ _ _ _ _ _ (iblk m hO c 0 t) (iblk m hO c 1 t) (iblk m hO c 2 t) (iblk m hO c 3 t) (iblk m hO c 4 t) _ s9 s10 Set.univ _)
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  rw [(kept m hO c t s9 s10 hs).1, (kept m hO c t s9 s10 hs).2, wUsed_eq]
  iintro ⟨T1, T2, H0, H1, H2, H3, H4, H5, HS0, HS1⟩
  isplitl [HS0 HS1 Hg T1 T2]
  · isplitl [HS0 HS1]
    · iexists _, _
      isplitr
      swap
      · isplitl [HS0]; · iexact HS0
        iexact HS1
      ipureintro
      intro k hk
      obtain rfl : t = k := Fin.ext (by omega)
      exact ⟨rfl, rfl⟩
    isplitl [Hg]; · iexact Hg
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  rw [leaves_eq m hO c t ((dats m hO 0 c).before 5 t d5)]
  iexact H5

theorem defs₀_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1600000 in
theorem body_obligation (c : Dev nD) : BodyObligation (dats m hO 0 c) (defs₀ (F := F)) Variants.none () Set.univ := fun t => by
  rw [bigSep_W0, bigSep_W0, defs₀_row]
  exact triple_restated (sound_body m hO c t) rfl .rfl fun _ => .rfl

theorem hin (c : Dev nD) : iprop(Pipeline.ΦA spec0 c ∗ Pipeline.ΦT pre0 (tbl m) c) ⊢ (dats m hO 0 c).Φ 0 := by
  rw [show (dats m hO 0 c).Φ 0 = Phi m hO c 0 from rfl, PhiA_eq, tPt_eq]
  unfold Phi
  iintro ⟨⟨⟨⟨%d0, H0⟩, ⟨%d1, H1⟩⟩, Hg⟩, T1, T2⟩
  isplitl [H0 H1]
  · iexists _, _
    isplitr
    swap
    · isplitl [H0]; · iexact H0
      iexact H1
    ipureintro
    intro k hk; omega
  isplitl [Hg]; · iexact Hg
  isplitl [T1]; · iexact T1
  iexact T2

theorem hout (c : Dev nD) : (dats m hO 0 c).Φ (Fin.last (cfgM m hO).N) ⊢ Pipeline.ΦA spec0 c := by
  rw [show (dats m hO 0 c).Φ (Fin.last (cfgM m hO).N) = Phi m hO c (cfgM m hO).N from rfl, PhiA_eq]
  unfold Phi
  iintro ⟨⟨%s9, %s10, -, HS0, HS1⟩, Hg, T1, T2⟩
  isplitl [HS0 HS1]
  · isplitl [HS0]
    · iexists _; iexact HS0
    iexists _; iexact HS1
  iexact Hg

/-! ## The run and the frame -/

set_option backward.isDefEq.respectTransparency.types false in
/-- Every weakly fair run of the program ends with the arrays at what the library computes from the data, the other
    buffers as found, and every counter at zero. -/
theorem run_main : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.Moe
-- ==== Proof.Moe.Tiles.lean ====
/- The rows the tokens' counts lay out: each expert's tiles of 256 rows, and the words the programs keep of them. -/
module

public import Idealize.ShloMosaic.Lib.Routing.Words
public import Idealize.ShloMosaic.Lib.ValueIdx

@[expose] public section

set_option maxRecDepth 16384

noncomputable section

namespace Cert.Moe.Tiles

open Idealize.ShloMosaic
open Idealize.ShloMosaic.ValueIdx
open Idealize.ShloMosaic.Routing

variable (c : IVec (shape1 32) 32)

/-- The tiles expert `n` takes, -/
def tilesOf (n : ℕ) : ℕ := if h : n < 32 then ((c (ix1 ⟨n, h⟩)).toNat + 255) / 256 else 0
/-- and those the first `k` experts take. -/
def upTo (k : ℕ) : ℕ := ((List.range k).map (tilesOf c)).sum

theorem upTo_succ (k : ℕ) : upTo c (k + 1) = upTo c k + tilesOf c k := by
  unfold upTo
  rw [List.range_succ, List.map_append, List.sum_append]
  simp

theorem upTo_mono {j k : ℕ} (h : j ≤ k) : upTo c j ≤ upTo c k := by
  induction h with
  | refl => exact le_refl _
  | step _ ih => exact ih.trans (by rw [Nat.succ_eq_add_one, upTo_succ]; omega)

/-- The expert of tile `n`: how many experts' tiles end at or before it. -/
def owner (n : ℕ) : ℕ := Nat.count (fun e => upTo c (e + 1) ≤ n) 32

theorem owner_used {n : ℕ} (h : n < upTo c 32) : owner c n ≤ 31 := by
  unfold owner
  rw [Nat.count_succ, if_neg (by show ¬ upTo c 32 ≤ n; omega)]
  exact Nat.count_le _
theorem owner_unused {n : ℕ} (h : upTo c 32 ≤ n) : owner c n = 32 := by
  unfold owner
  exact Nat.count_iff_forall.mpr fun e he => (upTo_mono c he).trans h

variable (hc : ∀ i, (c i).toNat ≤ 16384)
include hc

theorem tilesOf_le (n : ℕ) : tilesOf c n ≤ 64 := by
  unfold tilesOf
  split
  · rename_i h; have := hc (ix1 ⟨n, h⟩); omega
  · omega
theorem upTo_le (k : ℕ) : upTo c k ≤ 64 * k := by
  induction k with
  | zero => exact le_refl _
  | succ k ih => rw [upTo_succ]; have := tilesOf_le c hc k; omega

/-- The rows of a count, rounded up to whole tiles: a word that holds the count and 255 more, over 256. -/
theorem padded_word (hb : shape0.BroadcastsInDim (shape1 32) (![] : Fin 0 → Fin (shape1 32).rank)) (x y : IVec (shape1 32) 32) (d : IVec shape0 32)
    (hd : d ix0 = 256#32) (hx : ∀ i, x i = c i + 255#32) (hy : ∀ i, y i = 256#32) (i : Fin 32) :
    muli (pyDiv hb x d) y (ix1 i) = BitVec.ofNat 32 (256 * tilesOf c i.val) := by
  have h := hc (ix1 i)
  have e : x (ix1 i) = BitVec.ofNat 32 ((c (ix1 i)).toNat + 255) := by
    rw [hx]
    apply BitVec.eq_of_toNat_eq
    rw [BitVec.toNat_add, BitVec.toNat_ofNat, BitVec.toNat_ofNat]
  rw [muli_ap, hy, pyDiv_ap hb x d (ix1 i) e hd (by omega) (by omega) (by omega)]
  have et : tilesOf c i.val = ((c (ix1 i)).toNat + 255) / 256 := dif_pos i.isLt
  rw [et]
  apply BitVec.eq_of_toNat_eq
  rw [BitVec.toNat_mul, BitVec.toNat_ofNat, BitVec.toNat_ofNat, BitVec.toNat_ofNat]
  omega

/-- Where an expert's rows end. -/
theorem ends_word (x : IVec (shape1 32) 32) (hx : ∀ i : Fin 32, x (ix1 i) = BitVec.ofNat 32 (256 * tilesOf c i.val)) (init : IVec shape0 32) (hinit : init ix0 = 0#32)
    (h : (shape1 32).ReduceWindows (![32] : Fin 1 → ℕ) ![1] ![31] ![0] (shape1 32)) (hu : 0 < shape0.numel) (j : Fin 32) :
    Host.reduceWindow IntOp.addi ![32] ![1] ![31] ![0] x init h hu (ix1 j) = BitVec.ofNat 32 (256 * upTo c (j.val + 1)) := by
  rw [cumsum1 rfl x (fun n => 256 * tilesOf c n) hx init hinit h hu j]
  unfold upTo
  rw [List.sum_map_mul_left]

/-- The tile an expert's rows end at. -/
theorem tileEnds_word (hb : shape0.BroadcastsInDim (shape1 32) (![] : Fin 0 → Fin (shape1 32).rank)) (x : IVec (shape1 32) 32) (d : IVec shape0 32)
    (hd : d ix0 = 256#32) (j : Fin 32) (hx : x (ix1 j) = BitVec.ofNat 32 (256 * upTo c (j.val + 1))) :
    pyDiv hb x d (ix1 j) = BitVec.ofNat 32 (upTo c (j.val + 1)) := by
  have h := upTo_le c hc (j.val + 1)
  have hj := j.isLt
  rw [pyDiv_ap hb x d (ix1 j) hx hd (by omega) (by omega) (by omega)]
  rw [Nat.mul_div_cancel_left _ (by omega)]

omit hc

/-- Words of small numbers compare as the numbers do. -/
theorem ge_word {a b : ℕ} (ha : a < 2 ^ 31) (hb : b < 2 ^ 31) : IntOp.cmpi .sge (BitVec.ofNat 32 a) (BitVec.ofNat 32 b) = 1#1 ↔ b ≤ a := by
  have h : IntOp.cmpi .sge (BitVec.ofNat 32 a) (BitVec.ofNat 32 b) = BitVec.ofBool (decide (b ≤ a)) := by
    show BitVec.ofBool (BitVec.sle _ _) = _
    rw [BitVec.sle, WordCmp.toInt_ofNat_of_lt hb, WordCmp.toInt_ofNat_of_lt ha]
    simp
  rw [h]
  by_cases h' : b ≤ a <;> simp [h']

theorem min_word {a b : ℕ} (ha : a < 2 ^ 31) (hb : b < 2 ^ 31) : IntOp.minsi (BitVec.ofNat 32 a) (BitVec.ofNat 32 b) = BitVec.ofNat 32 (min a b) := by
  show (if (BitVec.ofNat 32 a).slt (BitVec.ofNat 32 b) then _ else _) = _
  rw [BitVec.slt, WordCmp.toInt_ofNat_of_lt ha, WordCmp.toInt_ofNat_of_lt hb]
  by_cases h : a < b
  · rw [if_pos (by simpa using h), Nat.min_eq_left h.le]
  · rw [if_neg (by simpa using h), Nat.min_eq_right (not_lt.mp h)]

theorem most_zero {a : ℕ} (ha : a < 2 ^ 31) : IntOp.maxsi (BitVec.ofNat 32 a) 0#32 = BitVec.ofNat 32 a := by
  have h0 : (0#32).toInt = 0 := by decide
  have h1 : (BitVec.ofNat 32 a).toInt = (a : ℤ) := WordCmp.toInt_ofNat_of_lt (by omega)
  unfold IntOp.maxsi
  simp only [BitVec.slt, h1, h0]
  split
  · rename_i h
    simp at h
    first
      | rfl
      | omega
      | (subst h; rfl)
  · rename_i h
    simp at h
    first
      | rfl
      | omega
      | (subst h; rfl)

theorem sle_of (a b : BitVec 32) (h : BitVec.ofBool (a.sle b) = 1#1) : a.toInt ≤ b.toInt := by
  by_contra hc
  simp [BitVec.sle, hc] at h

/-- The counts' words: none negative, none above the tokens, one at least positive. -/
structure Ranges : Prop where
  le : ∀ i, (c i).toNat ≤ 16384
  pos : ∃ i, 1 ≤ (c i).toNat

theorem ranges_of (h0 : ∀ i, IntOp.cmpi .sge (c i) 0#32 = 1#1) (h1 : ∀ i, IntOp.cmpi .sle (c i) 16384#32 = 1#1)
    (h : (shape1 32).ReducesTo [0] shape0) (hu : 0 < shape0.numel)
    (h2 : IntOp.cmpi .sge (Host.reduce IntOp.addi c (constantI shape0 32 0#32) h hu ix0) 1#32 = 1#1) : Ranges c := by
  have le : ∀ i, (c i).toNat ≤ 16384 := fun i => by
    have a := sle_of _ _ (h0 i)
    have b := sle_of _ _ (h1 i)
    have e0 : (0#32).toInt = 0 := by decide
    have e1 : (16384#32).toInt = 16384 := by decide
    rw [e0] at a; rw [e1] at b
    rw [BitVec.toInt_eq_toNat_cond] at a b
    split at a <;> rename_i hc <;> simp only [hc, if_true, if_false] at b <;> omega
  refine ⟨le, ?_⟩
  by_contra hn
  have z : ∀ i : Fin 32, c (ix1 i) = BitVec.ofNat 32 0 := fun i => by
    apply BitVec.eq_of_toNat_eq
    by_contra hz
    exact hn ⟨ix1 i, by simp at hz; omega⟩
  rw [reduce_sum c (fun _ => 0) z h hu] at h2
  simp at h2
  exact absurd h2 (by decide)

theorem upTo_pos (h : Ranges c) : 1 ≤ upTo c 32 := by
  obtain ⟨i, hi⟩ := h.pos
  have lt : (i 0).val < 32 := (i 0).isLt
  have e : tilesOf c (i 0).val = ((c i).toNat + 255) / 256 := by
    unfold tilesOf
    rw [dif_pos lt]
    refine congrArg (fun j => ((c j).toNat + 255) / 256) (funext fun a => ?_)
    match a with
    | ⟨0, _⟩ => rfl
  have := upTo_mono c (show (i 0).val + 1 ≤ 32 from lt)
  rw [upTo_succ] at this
  omega

end Cert.Moe.Tiles
-- ==== Proof.Moe.Host.lean ====
/- The tables the host computes from the tokens' counts. -/
module

public import proofs.«01_k».proof.Proof.Moe.Kit
public import proofs.«01_k».proof.Proof.Moe.Tiles
public import Idealize.ShloMosaic.Lib.Pointwise

@[expose] public section

set_option maxRecDepth 16384

noncomputable section

namespace Cert.Moe

open Cert.ExpertsIdeal Cert.ExpertsIdeal.Gen Cert.Moe.Tiles
open Idealize.ShloMosaic hiding ix0 ix1 ix2 ix3 ix4
open Idealize.ShloMosaic.TcCoe Idealize.SL.Sem
open Idealize.ShloMosaic.ValueIdx
open Idealize.ShloMosaic.Routing (pyDiv)

variable {F : FTy → Type} [FloatOps F]
variable (m : (ℓ : Loc nD τ sig) → Buf (Elt F) ℓ)

/-- The tokens' counts. -/
def counts : IVec S32 32 := m (((0 : Dev nD) : Thread nD τ).loc main_arg0)

section Stages
variable (c : IVec S32 32)
/-- The counts and 255 more, in two steps, -/
def bumped : IVec S32 32 := subi (addi c (broadcastInDim S32 ![] bcast_S_S32 (constantI S_ 32 256#32))) (broadcastInDim S32 ![] bcast_S_S32 (constantI S_ 32 1#32))
/-- rounded down to whole tiles, -/
def padded : IVec S32 32 := muli (pyDiv bcast_S_S32 (bumped c) (constantI S_ 32 256#32)) (broadcastInDim S32 ![] bcast_S_S32 (constantI S_ 32 256#32))
/-- their running sums, -/
def rowEnds : IVec S32 32 := Host.reduceWindow IntOp.addi ![32] ![1] ![31] ![0] (padded c) (broadcastInDim S_ ![] bcast_S_S_ (constantI S_ 32 0#32)) reduceWindows_S32_S32_w32s1p31_0 h_S_
/-- in tiles, -/
def tileEnds : IVec S32 32 := pyDiv bcast_S_S32 (rowEnds c) (constantI S_ 32 256#32)
/-- the tiles in use, -/
def inUse : IVec S_ 32 := shapeCast S_ (extractStridedSlice S1 ![31] (tileEnds c) slices_S32_S1_31) shapeCasts_S1_S_
/-- a tile's number, held at the last in use, -/
def held : IVec S288 32 := minsi (iotaInDim S288 32 0) (broadcastInDim S288 ![] bcast_S_S288 (maxsi (subi (inUse c) (constantI S_ 32 1#32)) (constantI S_ 32 0#32)))
/-- and its expert. -/
def table : IVec S288 32 := minsi (Host.reduce IntOp.addi (extui 32 (cmpi .sge
    (broadcastInDim S288x32 ![0, 1] bcast_S288x1_S288x32_0_1 (broadcastInDim S288x1 ![0] bcast_S288_S288x1_0 (held c)))
    (broadcastInDim S288x32 ![0, 1] bcast_S1x32_S288x32_0_1 (broadcastInDim S1x32 ![1] bcast_S32_S1x32_1 (tileEnds c)))) natLt_1_32)
  (constantI S_ 32 0#32) reducesTo_S288x32_S288_d1 h_S_) (broadcastInDim S288 ![] bcast_S_S288 (constantI S_ 32 31#32))
end Stages

theorem used_table : usedW m = shapeCast S1 (inUse (counts m)) shapeCasts_S_S1 := by
  unfold usedW tbl
  show V m 0 main_v25 = _
  simp only [V, lines, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  simp only [table, held, inUse, tileEnds, rowEnds, padded, bumped, pyDiv]
  rfl

theorem tile_table : tileW m = table (counts m) := by
  unfold tileW tbl
  show V m 0 main_v24 = _
  simp only [V, lines, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  simp only [table, held, inUse, tileEnds, rowEnds, padded, bumped, pyDiv]
  rfl

section Words
variable (c : IVec S32 32) (h : Ranges c)
include h

theorem padded_entry (i : Fin 32) : padded c (ix1 i) = BitVec.ofNat 32 (256 * tilesOf c i.val) :=
  padded_word c h.le bcast_S_S32 (bumped c) _ _ rfl (fun i => by
    show c i + 256#32 - 1#32 = c i + 255#32
    rw [BitVec.sub_eq_add_neg, BitVec.add_assoc]
    rfl) (fun _ => rfl) i

theorem rowEnds_entry (j : Fin 32) : rowEnds c (ix1 j) = BitVec.ofNat 32 (256 * upTo c (j.val + 1)) :=
  ends_word c h.le (padded c) (padded_entry c h) _ rfl reduceWindows_S32_S32_w32s1p31_0 h_S_ j

theorem tileEnds_entry (j : Fin 32) : tileEnds c (ix1 j) = BitVec.ofNat 32 (upTo c (j.val + 1)) :=
  tileEnds_word c h.le bcast_S_S32 (rowEnds c) _ rfl j (rowEnds_entry c h j)

theorem inUse_entry (i : S_.Idx) : inUse c i = BitVec.ofNat 32 (upTo c 32) := by
  refine Eq.trans ?_ (tileEnds_entry c h 31)
  refine congrArg (tileEnds c) (funext fun a => Fin.ext ?_)
  match a with
  | ⟨0, _⟩ =>
    show 31 + (Shape.reshapeEquiv shapeCasts_S1_S_ i 0).val = 31
    have hk : (Shape.reshapeEquiv shapeCasts_S1_S_ i 0).val < 1 := (Shape.reshapeEquiv shapeCasts_S1_S_ i 0).isLt
    omega

theorem held_entry (n : Fin 288) : held c (ix1 n) = BitVec.ofNat 32 (min n.val (upTo c 32 - 1)) := by
  have hp := upTo_pos c h
  have hl := upTo_le c h.le 32
  have hn := n.isLt
  have hb : upTo c 32 - 1 < 2 ^ 31 := by omega
  have e1 : ∀ i, maxsi (subi (inUse c) (constantI S_ 32 1#32)) (constantI S_ 32 0#32) i = BitVec.ofNat 32 (upTo c 32 - 1) := fun i => by
    show IntOp.maxsi (inUse c i - 1#32) 0#32 = _
    rw [inUse_entry c h]
    have e2 : BitVec.ofNat 32 (upTo c 32) - 1#32 = BitVec.ofNat 32 (upTo c 32 - 1) := by
      apply BitVec.eq_of_toNat_eq
      rw [BitVec.toNat_sub, BitVec.toNat_ofNat, BitVec.toNat_ofNat, BitVec.toNat_ofNat]
      omega
    exact (congrArg (fun w : BitVec 32 => IntOp.maxsi w 0#32) e2).trans (most_zero hb)
  have e2 : held c = minsi (iotaInDim S288 32 0) (fun _ => BitVec.ofNat 32 (upTo c 32 - 1)) := by
    unfold held
    refine congrArg (minsi _) (funext fun i => ?_)
    exact e1 _
  rw [e2]
  refine Eq.trans ?_ (min_word (a := n.val) (b := upTo c 32 - 1) (by omega) hb)
  generalize BitVec.ofNat 32 (upTo c 32 - 1) = w
  rfl

theorem table_entry (n : Fin 288) : table c (ix1 n) = BitVec.ofNat 32 (min (owner c (min n.val (upTo c 32 - 1))) 31) := by
  have hl := upTo_le c h.le 32
  have hn := n.isLt
  have e := Routing.reduce_count (n := 288) (m := 32) (by omega) (cmpi .sge
      (broadcastInDim S288x32 ![0, 1] bcast_S288x1_S288x32_0_1 (broadcastInDim S288x1 ![0] bcast_S288_S288x1_0 (held c)))
      (broadcastInDim S288x32 ![0, 1] bcast_S1x32_S288x32_0_1 (broadcastInDim S1x32 ![1] bcast_S32_S1x32_1 (tileEnds c)))) natLt_1_32
    reducesTo_S288x32_S288_d1 h_S_ n (fun e => upTo c (e + 1) ≤ min n.val (upTo c 32 - 1)) (fun q => by
      have hq := upTo_le c h.le (q.val + 1)
      have hq' := q.isLt
      have a := Routing.bcRows bcast_S288_S288x1_0 bcast_S288x1_S288x32_0_1 (held c) n q
      have b := Routing.bcCols bcast_S32_S1x32_1 bcast_S1x32_S288x32_0_1 (tileEnds c) n q
      have k := congrArg₂ (IntOp.cmpi .sge) (a.trans (held_entry c h n)) (b.trans (tileEnds_entry c h q))
      exact (Eq.congr_left (Eq.trans rfl k)).trans (ge_word (by omega) (by omega)))
  have hw : owner c (min n.val (upTo c 32 - 1)) ≤ 32 := Nat.count_le _
  have e0 : table c (ix1 n) = IntOp.minsi (BitVec.ofNat 32 (owner c (min n.val (upTo c 32 - 1)))) (BitVec.ofNat 32 31) := congrArg (fun w => IntOp.minsi w _) e
  rw [e0, min_word (by omega) (by omega)]

end Words

theorem at1_eq {n : ℕ} (k : Fin n) : (at1 k : (⟨1, ![n]⟩ : Shape).Idx) = ix1 k := funext fun a => by
  match a with
  | ⟨0, _⟩ => rfl

/-- The tiles in use, as a number, -/
theorem used_word (h : Ranges (counts m)) : used m = BitVec.ofNat 32 (upTo (counts m) 32) := by
  unfold used
  rw [used_table]
  exact inUse_entry (counts m) h _
theorem used_int (h : Ranges (counts m)) : (used m).toInt = upTo (counts m) 32 := by
  have hl := upTo_le _ h.le 32
  rw [used_word m h, WordCmp.toInt_ofNat_of_lt (by omega)]

/-- and a tile's expert: for a tile in use the one that owns it. -/
theorem tile_nat (h : Ranges (counts m)) (n : Fin 288) : (tile m n).toNat = min (owner (counts m) (min n.val (upTo (counts m) 32 - 1))) 31 := by
  unfold tile
  rw [tile_table, at1_eq, table_entry _ h, BitVec.toNat_ofNat]
  omega
theorem tile_used (h : Ranges (counts m)) (n : Fin 288) (hn : n.val < upTo (counts m) 32) : (tile m n).toNat = owner (counts m) n.val := by
  have ho := owner_used (counts m) hn
  rw [tile_nat m h, show min n.val (upTo (counts m) 32 - 1) = n.val from by omega]
  omega

end Cert.Moe
-- ==== Proof.Moe.Claims.lean ====
/- The experts call under the counts' ranges: it runs, leaves its arguments as they are, and ends quiescent. -/
module

public import proofs.«01_k».proof.Proof.Moe.Frame
public import proofs.«01_k».proof.Proof.Moe.Host
public import proofs.«01_k».proof.Defs

@[expose] public section

set_option maxRecDepth 16384

noncomputable section

namespace Cert.Moe

open Cert.ExpertsIdeal Cert.ExpertsIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The shape relations the precondition's printed function takes. -/
theorem pre_facts : Cert.Pre_routed.Facts := ⟨by decide, by decide, by decide⟩

attribute [local instance] pre_facts

/-- The counts' ranges, over any float values. -/
def Routed : Prop :=
  ∀ c : Dev nD,
    (Cert.Pre_routed.fn (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))).1 = (fun _ => 1#1)
    ∧ (Cert.Pre_routed.fn (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))).2.1 = (fun _ => 1#1)
    ∧ (Cert.Pre_routed.fn (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))).2.2 = (fun _ => 1#1)

theorem ranges (h : Routed m) : Tiles.Ranges (counts m) := by
  obtain ⟨h0, h1, h2⟩ := h 0
  exact Tiles.ranges_of (counts m) (fun i => congrFun h0 i) (fun i => congrFun h1 i) Cert.Pre_routed.Facts.reducesTo_S32_S_d0 Cert.Pre_routed.Facts.h_S_
    (congrFun h2 ValueIdx.ix0)

theorem tile_lt (h : Routed m) (n : Fin 288) : (tile m n).toNat < 32 := by
  rw [tile_nat m (ranges m h)]
  omega

theorem used_pos (h : Routed m) : 1 ≤ (used m).toInt := by
  have hp := Tiles.upTo_pos (counts m) (ranges m h)
  rw [used_int m (ranges m h)]
  omega

theorem ok (h : Routed m) : Ok m := ok_of m (tile_lt m h) (used_pos m h)

/-- How a routed run ends: the output as the region's data have it, the arguments as launched, the counters at zero. -/
theorem ends (h : Routed m) : θ_run (defs (F := F)) (onTc (τ := τ) (main (F := F))) ⟨m, fun _ => 0, ρ⟩ (fun r => (∀ c : Dev nD,
      r.2.mem ((c : Thread nD τ).loc main_v28) = (dats m (ok m h) 0 c).arrAt 5 (cfgM m (ok m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) := by
  have hO := ok m h
  refine (θ_run defs _ _).mono (fun r hr => ⟨fun c => ?_, hr.2⟩) (run_main m ρ hO)
  have hp := hr.1 c
  have rest : ∀ b, b ∈ Pipeline.restRefs sig spec0 → (b = main_arg0 ∨ b = main_arg1 ∨ b = main_arg2 ∨ b = main_arg3 ∨ b = main_arg4 ∨ b = main_arg5) →
      r.2.mem ((c : Thread nD τ).loc b) = m ((c : Thread nD τ).loc b) :=
    fun b hb h => (hp.2 b hb).trans (V_of_arg m c b h)
  have arr : ∀ w, ((cfgM m hO).win w).isOut = false → r.2.mem ((c : Thread nD τ).loc (Pipeline.arrRef spec0 w)) = V m c (Pipeline.arrRef spec0 w) :=
    fun w hw => (hp.1 w).trans (((dats m hO 0 c).arrAt_in w hw _).trans (A_eq m hO c w))
  refine ⟨hp.1 5, rest main_arg0 (Pipeline.mem_restRefs_of (win := spec0) main_arg0 (by decide) (by decide)) (Or.inl rfl),
    (arr 0 rfl).trans (V_of_arg m c main_arg1 (Or.inr (Or.inl rfl))),
    (arr 1 rfl).trans (V_of_arg m c main_arg2 (Or.inr (Or.inr (Or.inl rfl)))),
    rest main_arg3 (Pipeline.mem_restRefs_of (win := spec0) main_arg3 (by decide) (by decide)) (Or.inr (Or.inr (Or.inr (Or.inl rfl)))),
    (arr 3 rfl).trans (V_of_arg m c main_arg4 (Or.inr (Or.inr (Or.inr (Or.inr (Or.inl rfl)))))),
    rest main_arg5 (Pipeline.mem_restRefs_of (win := spec0) main_arg5 (by decide) (by decide)) (Or.inr (Or.inr (Or.inr (Or.inr (Or.inr (rfl))))))⟩

theorem frame (h : Routed m) : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r hr => ⟨fun c => (hr.1 c).2, hr.2⟩) (ends m ρ h)

attribute [local instance] Cert.ExpertsIdeal.Gen.facts

theorem frame_ideal : Cert.quiescent_ExpertsIdeal := fun m g h => frame m g h

end Cert.Moe
-- ==== Proof.Moe.Ffn.lean ====
/- One expert's feed-forward network on a row, over the extended reals. -/
module

public import Idealize.ShloMosaic.PureOps.Ideal.Laws

@[expose] public section

noncomputable section

namespace Cert.Moe.Ffn

open Idealize.ShloMosaic

abbrev one : EReal := Ideal.ofBits .f32 0x3F800000#32
abbrev seven : EReal := Ideal.ofBits .f32 0x40E00000#32
abbrev minusSeven : EReal := Ideal.ofBits .f32 0xC0E00000#32
abbrev alpha : EReal := Ideal.ofBits .f32 0x3FD9DB23#32
abbrev minusAlpha : EReal := Ideal.ofBits .f32 0xBFD9DB23#32

theorem one_eq : one = 1 := by
  simp [Ideal.ofBits, Ideal.ieee]
  rw [← EReal.coe_mul]; norm_num

theorem minusAlpha_eq : minusAlpha = -alpha := by
  simp [Ideal.ofBits, Ideal.ieee]

theorem exp_nonneg (x : EReal) : 0 ≤ Ideal.exp x := by
  induction x using EReal.rec with
  | bot => simp
  | top => simp
  | coe r => rw [Ideal.exp_coe]; exact_mod_cast (Real.exp_pos r).le

/-- The linear unit's activation: the gate's half `u`, the other half `v`. -/
def act (u v : EReal) : EReal :=
  min u seven * Ideal.div one (one + Ideal.exp (-(alpha * min u seven))) * (min seven (max minusSeven v) + one)

/-- Dividing the gate by the sigmoid's denominator is multiplying it by the sigmoid. -/
theorem act_eq (u v : EReal) :
    Ideal.div (min u seven) (one + Ideal.exp (minusAlpha * min u seven)) * (min seven (max minusSeven v) + one) = act u v := by
  unfold act
  have e : minusAlpha * min u seven = -(alpha * min u seven) := by rw [minusAlpha_eq, EReal.neg_mul]
  rw [e]
  have hne : one + Ideal.exp (-(alpha * min u seven)) ≠ 0 := by
    refine ne_of_gt (lt_of_lt_of_le (b := one) (by rw [one_eq]; exact zero_lt_one) ?_)
    exact le_add_of_nonneg_right (exp_nonneg _)
  unfold Ideal.div
  rw [if_neg hne, if_neg hne, show one * _ = _ from (congrArg (· * _) one_eq).trans (one_mul _)]

/-- The first layer's sums, -/
def hid (x : Fin 1024 → EReal) (w : Fin 1024 → Fin 2048 → EReal) (b : Fin 2048 → EReal) (f : Fin 2048) : EReal :=
  (∑ k, x k * w k f) + b f

/-- and the network. -/
def net (x : Fin 1024 → EReal) (w : Fin 1024 → Fin 2048 → EReal) (b : Fin 2048 → EReal) (w' : Fin 1024 → Fin 1024 → EReal)
    (b' : Fin 1024 → EReal) (d : Fin 1024) : EReal :=
  (∑ f : Fin 1024, act (hid x w b ⟨f.val, by omega⟩) (hid x w b ⟨1024 + f.val, by omega⟩) * w' f d) + b' d

end Cert.Moe.Ffn
-- ==== Proof.Moe.Pay.lean ====
/- What the experts' body computes, entry by entry, over the extended reals. -/
module

public import proofs.«01_k».proof.Proof.Gen.ExpertsIdeal.Skeleton
public import proofs.«01_k».proof.Proof.Moe.Ffn
public import Idealize.ShloMosaic.Lib.Pipeline.ValueKit
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.Moe

open Cert.ExpertsIdeal Cert.ExpertsIdeal.Gen Cert.Moe.Ffn
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

/-- Two leading axes of extent one drop out of a shape. -/
theorem cast_11ab {α : Type} {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 0 0 i j) := by
  refine shapeCast_apply x h _ _ ?_
  rw [Shape.rowMajor_val_two, Shape.rowMajor_val_four]
  simp
  rfl

theorem pay1_apply (v : Vec Ideal S1x1x1024x2048 .f32) (k : Fin 1024) (f : Fin 2048) : k0_pay1 v (ix2 k f) = v (ix4 0 0 k f) := by
  unfold k0_pay1
  exact (congrFun (shapeCast_self _ _) _).trans (cast_11ab v _ k f)

theorem pay2_apply (v : Vec Ideal S1x1x1024x1024 .f32) (k d : Fin 1024) : k0_pay2 v (ix2 k d) = v (ix4 0 0 k d) := by
  unfold k0_pay2
  exact (congrFun (shapeCast_self _ _) _).trans (cast_11ab v _ k d)

theorem pay4_apply (r : Fin 256) (d : Fin 1024) : k0_pay4 (F := Ideal) (ix2 r d) = 0 := by
  unfold k0_pay4
  exact Ideal.ofBits_zero .f32

/-- The first product, -/
theorem first_apply (x : FVec Ideal S256x1024 .bf16) (w : FVec Ideal S1024x2048 .bf16) (r : Fin 256) (f : Fin 2048) :
    matmul dot_S256x1024_S1024x2048_S256x2048_1_0_0_1_n_n none x w (constant S256x2048 .f32 0x00000000#32) (ix2 r f) = ∑ k : Fin 1024, x (ix2 r k) * w (ix2 k f) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  refine congrArg₂ (· * ·) (congrArg x (funext fun a => Fin.ext ?_)) (congrArg w (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

/-- and the second. -/
theorem second_apply (x : FVec Ideal S256x1024 .bf16) (w : FVec Ideal S1024x1024 .bf16) (r : Fin 256) (d : Fin 1024) :
    matmul dot_S256x1024_S1024x1024_S256x1024_1_0_0_1_n_n none x w (constant S256x1024 .f32 0x00000000#32) (ix2 r d) = ∑ f : Fin 1024, x (ix2 r f) * w (ix2 f d) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  refine congrArg₂ (· * ·) (congrArg x (funext fun a => Fin.ext ?_)) (congrArg w (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

/-- The hidden layer before its activation, as the body's terms have it. -/
def pre (x : FVec Ideal S256x1024 .f32) (w : FVec Ideal S1024x2048 .bf16) (b : Vec Ideal S1x1x1x2048 .f32) : FVec Ideal S256x2048 .f32 :=
  addf (matmul dot_S256x1024_S1024x2048_S256x2048_1_0_0_1_n_n none (truncf .bf16 x bitsLt_bf16_f32) w (constant S256x2048 .f32 0x00000000#32))
    (broadcastTo S256x2048 (shapeCast S1x2048 b shapeCasts_S1x1x1x2048_S1x2048) broadcasts_S1x2048_S256x2048)

theorem pre_apply (x : FVec Ideal S256x1024 .f32) (w : FVec Ideal S1024x2048 .bf16) (b : Vec Ideal S1x1x1x2048 .f32) (r : Fin 256) (f : Fin 2048) :
    pre x w b (ix2 r f) = hid (fun k => x (ix2 r k)) (fun k f => w (ix2 k f)) (fun f => b (ix4 0 0 0 f)) f := by
  unfold pre hid
  rw [addf_apply, first_apply, broadcastTo_1b_ab_apply, cast_11ab]
  rfl

theorem gate_apply (v : FVec Ideal S256x2048 .f32) (r : Fin 256) (f : Fin 1024) :
    extractStridedSlice S256x1024 ![0, 0] v slices_S256x2048_o0_0_S256x1024 (ix2 r f) = v (ix2 r ⟨f.val, by omega⟩) := by
  refine extractStridedSlice_apply _ _ _ _ _ fun a => ?_
  match a with
  | ⟨0, _⟩ => show r.val = 0 + r.val; omega
  | ⟨1, _⟩ => show f.val = 0 + f.val; omega
theorem lin_apply (v : FVec Ideal S256x2048 .f32) (r : Fin 256) (f : Fin 1024) :
    extractStridedSlice S256x1024 ![0, 1024] v slices_S256x2048_o0_1024_S256x1024 (ix2 r f) = v (ix2 r ⟨1024 + f.val, by omega⟩) := by
  refine extractStridedSlice_apply _ _ _ _ _ fun a => ?_
  match a with
  | ⟨0, _⟩ => show r.val = 0 + r.val; omega
  | ⟨1, _⟩ => rfl

/-- A row block through an expert's weights is the expert's network on each row. -/
theorem pay3_apply (x : Vec Ideal S256x1024 .f32) (w : Vec Ideal S1024x2048 .bf16) (b : Vec Ideal S1x1x1x2048 .f32)
    (w' : Vec Ideal S1024x1024 .bf16) (b' : Vec Ideal S1x1x1x1024 .f32) (r : Fin 256) (d : Fin 1024) :
    k0_pay3 x w b w' b' (ix2 r d) = net (fun k => x (ix2 r k)) (fun k f => w (ix2 k f)) (fun f => b (ix4 0 0 0 f)) (fun f d => w' (ix2 f d)) (fun d => b' (ix4 0 0 0 d)) d := by
  unfold k0_pay3 net
  simp only
  rw [addf_apply, second_apply, broadcastTo_1b_ab_apply, cast_11ab]
  refine congrArg (· + _) (Finset.sum_congr rfl fun f _ => congrArg (· * _) ?_)
  rw [← pre_apply x w b r, ← pre_apply x w b r, ← act_eq, ← gate_apply (pre x w b) r f, ← lin_apply (pre x w b) r f]
  rfl

end Cert.Moe
-- ==== Proof.Moe.Ref.lean ====
/- What the reference's result holds: a row's tile chooses its expert, and the tiles not in use hold zero. -/
module

public import proofs.«01_k».proof.Proof.Gen.MixtureIdeal.Read
public import proofs.«01_k».proof.Proof.Moe.Ffn
public import proofs.«01_k».proof.Proof.Moe.Tiles
public import Idealize.ShloMosaic.Lib.KernelVsHost

@[expose] public section

set_option maxRecDepth 16384

noncomputable section

namespace Cert.MixtureIdeal.Moe

open Cert.MixtureIdeal Cert.MixtureIdeal.Gen Cert.MixtureIdeal.Read Cert.Moe.Ffn
open Idealize.ShloMosaic Idealize.ShloMosaic.TcCoe Idealize.SL.Sem
open Idealize.ShloMosaic.ValueIdx

variable (x0 : IVec S32 32) (x1 : FVec Ideal S73728x1024 .f32) (x2 : FVec Ideal S2x32x1024x2048 .f32)
  (x3 : FVec Ideal S2x32x2048 .f32) (x4 : FVec Ideal S2x32x1024x1024 .f32) (x5 : FVec Ideal S2x32x1024 .f32)

/-- Expert `e`'s network on row `R`. -/
def expert (e : Fin 32) (R : Fin 73728) (d : Fin 1024) : EReal :=
  net (fun k => x1 (ix2 R k)) (fun k f => x2 (ix4 0 e k f)) (fun f => x3 (ix3 0 e f)) (fun f d => x4 (ix4 0 e f d)) (fun d => x5 (ix3 0 e d)) d

theorem hid_entry (R : Fin 73728) (e : Fin 32) (f : Fin 2048) :
    val_main_v28 (F := Ideal) x1 x2 x3 (ix3 R e f) = hid (fun k => x1 (ix2 R k)) (fun k f => x2 (ix4 0 e k f)) (fun f => x3 (ix3 0 e f)) f := by
  rw [val_main_v28_apply, val_main_v23_apply, val_main_v27_apply, val_main_v26_apply, val_main_v25_apply, val_main_v24_apply]
  have he := e.isLt
  have hf := f.isLt
  refine congrArg₂ (fun a b : EReal => a + b) (Finset.sum_congr rfl fun k _ => ?_) (congrArg x3 (funext fun a => Fin.ext ?_))
  · rw [val_main_v22_apply, val_main_v21_apply]
    have hk := k.isLt
    refine congrArg₂ (fun a b : EReal => a * b) (congrArg x1 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show ((e.val * 1024 + k.val) * 2048 + f.val) / 2097152 % 32 = e.val; omega
      | ⟨2, _⟩ => show ((e.val * 1024 + k.val) * 2048 + f.val) / 2048 % 1024 = k.val; omega
      | ⟨3, _⟩ => show ((e.val * 1024 + k.val) * 2048 + f.val) % 2048 = f.val; omega
  · match a with
    | ⟨0, _⟩ => rfl
    | ⟨1, _⟩ => show (e.val * 2048 + f.val) / 2048 % 32 = e.val; omega
    | ⟨2, _⟩ => show (e.val * 2048 + f.val) % 2048 = f.val; omega

theorem act_entry (R : Fin 73728) (e : Fin 32) (f : Fin 1024) :
    val_main_v45 (F := Ideal) x1 x2 x3 (ix3 R e f)
      = act (val_main_v28 (F := Ideal) x1 x2 x3 (ix3 R e ⟨f.val, by omega⟩)) (val_main_v28 (F := Ideal) x1 x2 x3 (ix3 R e ⟨1024 + f.val, by omega⟩)) := by
  have e1 : idx_main_v29 (ix3 R e f) = ix3 R e ⟨f.val, by omega⟩ := funext fun a => Fin.ext (by
    match a with
    | ⟨0, _⟩ => rfl
    | ⟨1, _⟩ => rfl
    | ⟨2, _⟩ => rfl)
  have e2 : idx_main_v32 (ix3 R e f) = ix3 R e ⟨1024 + f.val, by omega⟩ := funext fun a => Fin.ext (by
    match a with
    | ⟨0, _⟩ => rfl
    | ⟨1, _⟩ => rfl
    | ⟨2, _⟩ => rfl)
  rw [val_main_v45_apply, val_main_v42_apply, val_main_v44_apply, val_main_v41_apply, val_main_v39_apply, val_main_v37_apply, val_main_v36_apply,
    val_main_v35_apply, val_main_v33_apply, val_main_call2_v2_apply, val_main_v31_apply, val_main_v29_apply, val_main_v32_apply, e1, e2]
  rfl

theorem net_entry (R : Fin 73728) (e : Fin 32) (d : Fin 1024) :
    val_main_v54 (F := Ideal) x1 x2 x3 x4 x5 (ix3 R e d) = expert x1 x2 x3 x4 x5 e R d := by
  rw [val_main_v54_apply, val_main_v49_apply, val_main_v48_apply, val_main_v53_apply, val_main_v52_apply, val_main_v51_apply, val_main_v50_apply]
  have he := e.isLt
  have hd := d.isLt
  refine congrArg₂ (fun a b : EReal => a + b) (Finset.sum_congr rfl fun k _ => ?_) (congrArg x5 (funext fun a => Fin.ext ?_))
  · rw [val_main_v47_apply, val_main_v46_apply]
    have hk := k.isLt
    have er : ridx_main_v48 (idx_main_v49 (ix3 R e d)) k = ix3 R e k := funext fun a => Fin.ext (by
      match a with
      | ⟨0, _⟩ => rfl
      | ⟨1, _⟩ => rfl
      | ⟨2, _⟩ => rfl)
    rw [er, act_entry, hid_entry, hid_entry]
    refine (mul_comm _ _).trans (congrArg (fun b : EReal => _ * b) (congrArg x4 (funext fun a => Fin.ext ?_)))
    match a with
    | ⟨0, _⟩ => rfl
    | ⟨1, _⟩ => show ((e.val * 1024 + k.val) * 1024 + d.val) / 1048576 % 32 = e.val; omega
    | ⟨2, _⟩ => show ((e.val * 1024 + k.val) * 1024 + d.val) / 1024 % 1024 = k.val; omega
    | ⟨3, _⟩ => show ((e.val * 1024 + k.val) * 1024 + d.val) % 1024 = d.val; omega
  · match a with
    | ⟨0, _⟩ => rfl
    | ⟨1, _⟩ => show (e.val * 1024 + d.val) / 1024 % 32 = e.val; omega
    | ⟨2, _⟩ => show (e.val * 1024 + d.val) % 1024 = d.val; omega

section Rows
open Cert.Moe.Tiles Idealize.ShloMosaic.Routing
variable (hx : Ranges x0)
include hx

/-- Where an expert's rows end, -/
theorem ends_entry (j : Fin 32) : val_main_v5 (F := Ideal) x0 (ix1 j) = BitVec.ofNat 32 (256 * upTo x0 (j.val + 1)) := by
  have e2 : val_main_v2 (F := Ideal) x0 = pyDiv bcast_S_S32 (val_main_v1 (F := Ideal) x0) (constantI S_ 32 256#32) := rfl
  have e4 : ∀ i : Fin 32, val_main_v4 (F := Ideal) x0 (ix1 i) = BitVec.ofNat 32 (256 * tilesOf x0 i.val) := fun i => by
    unfold val_main_v4
    rw [e2]
    exact padded_word x0 hx.le bcast_S_S32 (val_main_v1 (F := Ideal) x0) (val_main_v3 (F := Ideal)) (constantI S_ 32 256#32) rfl (fun _ => rfl) (fun _ => rfl) i
  unfold val_main_v5
  exact ends_word x0 hx.le (val_main_v4 (F := Ideal) x0) e4 (val_main_call1_call0_v0 (F := Ideal)) rfl reduceWindows_S32_S32_w32s1p31_0 h_S_ j

/-- the expert whose rows a row is among, -/
theorem owner_entry (R : Fin 73728) : val_main_v13 (F := Ideal) x0 (ix1 R) = BitVec.ofNat 32 (owner x0 (R.val / 256)) := by
  have hR := R.isLt
  unfold val_main_v13 val_main_v12
  refine reduce_count (n := 73728) (m := 32) (by omega) (val_main_v11 (F := Ideal) x0) natLt_1_32 reducesTo_S73728x32_S73728_d1 h_S_ R
    (fun e => upTo x0 (e + 1) ≤ R.val / 256) (fun q => ?_)
  have hq := upTo_le x0 hx.le (q.val + 1)
  have hq' := q.isLt
  have a : val_main_v9 (F := Ideal) (ix2 R q) = BitVec.ofNat 32 R.val := bcRows bcast_S73728_S73728x1_0 bcast_S73728x1_S73728x32_0_1 (val_main_v6 (F := Ideal)) R q
  have b : val_main_v10 (F := Ideal) x0 (ix2 R q) = val_main_v5 (F := Ideal) x0 (ix1 q) := bcCols bcast_S32_S1x32_1 bcast_S1x32_S73728x32_0_1 (val_main_v5 (F := Ideal) x0) R q
  have b' := b.trans (ends_entry x0 hx q)
  rw [val_main_v11_apply, a, b']
  refine (ge_word (by omega) (by omega)).trans ?_
  omega

/-- and the gate of expert `e` on it: one for that expert, zero for another. -/
theorem gate_entry (R : Fin 73728) (e : Fin 32) :
    val_main_v20 (F := Ideal) x0 (ix2 R e) = if owner x0 (R.val / 256) = e.val then (1 : EReal) else 0 := by
  have hR := R.isLt
  have he := e.isLt
  have ho : owner x0 (R.val / 256) ≤ 32 := Nat.count_le _
  have a : val_main_v17 (F := Ideal) x0 (ix2 R e) = val_main_v13 (F := Ideal) x0 (ix1 R) := bcRows bcast_S73728_S73728x1_0 bcast_S73728x1_S73728x32_0_1 (val_main_v13 (F := Ideal) x0) R e
  have a' := a.trans (owner_entry x0 hx R)
  have b : val_main_v18 (F := Ideal) (ix2 R e) = BitVec.ofNat 32 e.val := bcCols bcast_S32_S1x32_1 bcast_S1x32_S73728x32_0_1 (val_main_v15 (F := Ideal)) R e
  rw [val_main_v20_apply, val_main_v19_apply, a', b]
  by_cases h : owner x0 (R.val / 256) = e.val
  · have k : IntOp.cmpi .eq (BitVec.ofNat 32 (owner x0 (R.val / 256))) (BitVec.ofNat 32 e.val) = 1#1 := by
      show BitVec.ofBool (_ == _) = _
      rw [h, beq_iff_eq.mpr rfl]; rfl
    rw [k, if_pos h]
    show (((1 : ℕ) : ℝ) : EReal) = 1
    simp
  · have k : IntOp.cmpi .eq (BitVec.ofNat 32 (owner x0 (R.val / 256))) (BitVec.ofNat 32 e.val) = 0#1 := by
      show BitVec.ofBool (_ == _) = _
      rw [beq_eq_false_iff_ne.mpr]; · rfl
      intro hc
      have hn := congrArg BitVec.toNat hc
      rw [BitVec.toNat_ofNat, BitVec.toNat_ofNat] at hn
      omega
    rw [k, if_neg h]
    show (((0 : ℕ) : ℝ) : EReal) = 0
    simp

theorem result_sum (R : Fin 73728) (d : Fin 1024) :
    val_main_v55 (F := Ideal) x0 x1 x2 x3 x4 x5 (ix2 R d)
      = ∑ k : Fin 32, if owner x0 (R.val / 256) = k.val then expert x1 x2 x3 x4 x5 k R d else 0 := by
  rw [val_main_v55_apply]
  refine Finset.sum_congr rfl fun k _ => ?_
  have el : lidx_main_v55 (ix2 R d) k = ix2 R k := funext fun a => Fin.ext (by
    match a with
    | ⟨0, _⟩ => rfl
    | ⟨1, _⟩ => rfl)
  have er : ridx_main_v55 (ix2 R d) k = ix3 R k d := funext fun a => Fin.ext (by
    match a with
    | ⟨0, _⟩ => rfl
    | ⟨1, _⟩ => rfl
    | ⟨2, _⟩ => rfl)
  rw [el, er, gate_entry x0 hx, net_entry]
  by_cases h : owner x0 (R.val / 256) = k.val
  · rw [if_pos h, if_pos h, one_mul]
  · rw [if_neg h, if_neg h, zero_mul]

/-- The result: a row of a tile in use through the tile's expert, zeros elsewhere. -/
theorem result_entry (R : Fin 73728) (d : Fin 1024) (E : Fin 32) (hE : R.val / 256 < upTo x0 32 → owner x0 (R.val / 256) = E.val) :
    val_main_v55 (F := Ideal) x0 x1 x2 x3 x4 x5 (ix2 R d) = if R.val / 256 < upTo x0 32 then expert x1 x2 x3 x4 x5 E R d else 0 := by
  rw [result_sum x0 x1 x2 x3 x4 x5 hx]
  by_cases h : R.val / 256 < upTo x0 32
  · rw [if_pos h]
    refine (Finset.sum_eq_single E (fun k _ hk => ?_) (fun hc => absurd (Finset.mem_univ E) hc)).trans (if_pos (hE h))
    exact if_neg (fun hc => hk (Fin.ext (hc.symm.trans (hE h))))
  · rw [if_neg h]
    have ho := owner_unused x0 (n := R.val / 256) (by omega)
    refine Finset.sum_eq_zero fun k _ => if_neg ?_
    have hk := k.isLt
    omega

end Rows

end Cert.MixtureIdeal.Moe
-- ==== Proof.Moe.Blocks.lean ====
/- What each point of the experts' grid reads and leaves, at the arrays' indices. -/
module

public import proofs.«01_k».proof.Proof.Moe.Frame
public import proofs.«01_k».proof.Proof.Moe.Pay
public import proofs.«01_k».proof.Proof.Moe.Ref
public import Idealize.ShloMosaic.Lib.Claim
public import Idealize.ShloMosaic.Lib.Pointwise

@[expose] public section

set_option maxRecDepth 16384

noncomputable section

namespace Cert.Moe

open Cert.ExpertsIdeal Cert.ExpertsIdeal.Gen Cert.Moe.Ffn
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

variable (m : (ℓ : Loc nD τ sig) → Buf (Elt Ideal) ℓ) (hO : Ok m) (c : Dev nD)

/-- The dispatched rows, the experts' weights and biases, as launched. -/
def argX : FVec Ideal S73728x1024 .f32 := m ((c : Thread nD τ).loc main_arg1)
def argW : FVec Ideal S2x32x1024x2048 .f32 := m ((c : Thread nD τ).loc main_arg2)
def argB : FVec Ideal S2x32x2048 .f32 := m ((c : Thread nD τ).loc main_arg3)
def argW' : FVec Ideal S2x32x1024x1024 .f32 := m ((c : Thread nD τ).loc main_arg4)
def argB' : FVec Ideal S2x32x1024 .f32 := m ((c : Thread nD τ).loc main_arg5)

/-- The biases as the call takes them: an axis of extent one put in. -/
theorem b_entry (e : Fin 32) (f : Fin 2048) : (V m c main_v26 : S2x32x1x2048.Idx → EReal) (ix4 0 e 0 f) = argB m c (ix3 0 e f) := by
  simp only [V, lines, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  refine shapeCast_apply (argB m c) shapeCasts_S2x32x2048_S2x32x1x2048 _ _ ?_
  rw [Shape.rowMajor_val_four, Shape.rowMajor_val_three]
  show (0 * 32 + e.val) * 2048 + f.val = ((0 * 32 + e.val) * 1 + 0) * 2048 + f.val
  omega
theorem b'_entry (e : Fin 32) (f : Fin 1024) : (V m c main_v27 : S2x32x1x1024.Idx → EReal) (ix4 0 e 0 f) = argB' m c (ix3 0 e f) := by
  simp only [V, lines, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  refine shapeCast_apply (argB' m c) shapeCasts_S2x32x1024_S2x32x1x1024 _ _ ?_
  rw [Shape.rowMajor_val_four, Shape.rowMajor_val_three]
  show (0 * 32 + e.val) * 1024 + f.val = ((0 * 32 + e.val) * 1 + 0) * 1024 + f.val
  omega

variable (t : Fin (cfgM m hO).N)

/-- The rows of a tile in use, -/
theorem x_block (hu : 1 ≤ (used m).toInt) (h : ((tileOf m hO t).val : ℤ) < (used m).toInt) (r : Fin 256) (k : Fin 1024) :
    (iblk m hO c 0 t : Vec Ideal S256x1024 .f32) (ix2 r k) = argX m c (ix2 ⟨256 * (tileOf m hO t).val + r.val, by have := (tileOf m hO t).isLt; omega⟩ k) := by
  refine Eq.trans ?_ (congrFun (V_of_arg m c main_arg1 (Or.inr (Or.inl rfl))) _)
  refine congrArg (V m c main_arg1 : S73728x1024.Idx → EReal) (funext fun a => Fin.ext ?_)
  refine (Pipeline.Window.rect_emb_val ((cfgM m hO).win 0) t (ix2 r k) a).trans ?_
  rw [show ((cfgM m hO).win 0).index t = ![(tileOf m hO t).val, 0] from (map0 m _).trans (by rw [coord m hO t, fetch _ (tileOf m hO t).isLt _ hu, if_pos h])]
  match a with
  | ⟨0, _⟩ => show (tileOf m hO t).val * 256 + r.val = 256 * (tileOf m hO t).val + r.val; omega
  | ⟨1, _⟩ => show 0 * 1024 + k.val = k.val; omega

variable (E : Fin 32) (hE : (tile m (tileOf m hO t)).toNat = E.val)
include hE

/-- its expert's weights, -/
theorem w_block (k : Fin 1024) (f : Fin 2048) : (iblk m hO c 1 t : Vec Ideal S1x1x1024x2048 .f32) (ix4 0 0 k f) = argW m c (ix4 0 E k f) := by
  refine Eq.trans ?_ (congrFun (V_of_arg m c main_arg2 (Or.inr (Or.inr (Or.inl rfl)))) _)
  refine congrArg (V m c main_arg2 : S2x32x1024x2048.Idx → EReal) (funext fun a => Fin.ext ?_)
  refine (Pipeline.Window.rect_emb_val ((cfgM m hO).win 1) t (ix4 0 0 k f) a).trans ?_
  rw [show ((cfgM m hO).win 1).index t = ![0, E.val, 0, 0] from (map1 m _).trans (by rw [coord m hO t, hE])]
  match a with
  | ⟨0, _⟩ => rfl
  | ⟨1, _⟩ => show E.val * 1 + 0 = E.val; omega
  | ⟨2, _⟩ => show 0 * 1024 + k.val = k.val; omega
  | ⟨3, _⟩ => show 0 * 2048 + f.val = f.val; omega
theorem w'_block (k d : Fin 1024) : (iblk m hO c 3 t : Vec Ideal S1x1x1024x1024 .f32) (ix4 0 0 k d) = argW' m c (ix4 0 E k d) := by
  refine Eq.trans ?_ (congrFun (V_of_arg m c main_arg4 (Or.inr (Or.inr (Or.inr (Or.inr (Or.inl rfl)))))) _)
  refine congrArg (V m c main_arg4 : S2x32x1024x1024.Idx → EReal) (funext fun a => Fin.ext ?_)
  refine (Pipeline.Window.rect_emb_val ((cfgM m hO).win 3) t (ix4 0 0 k d) a).trans ?_
  rw [show ((cfgM m hO).win 3).index t = ![0, E.val, 0, 0] from (map3 m _).trans (by rw [coord m hO t, hE])]
  match a with
  | ⟨0, _⟩ => rfl
  | ⟨1, _⟩ => show E.val * 1 + 0 = E.val; omega
  | ⟨2, _⟩ => show 0 * 1024 + k.val = k.val; omega
  | ⟨3, _⟩ => show 0 * 1024 + d.val = d.val; omega

/-- and its biases. -/
theorem b_block (f : Fin 2048) : (iblk m hO c 2 t : Vec Ideal S1x1x1x2048 .f32) (ix4 0 0 0 f) = argB m c (ix3 0 E f) := by
  refine Eq.trans ?_ (b_entry m c E f)
  refine congrArg (V m c main_v26 : S2x32x1x2048.Idx → EReal) (funext fun a => Fin.ext ?_)
  refine (Pipeline.Window.rect_emb_val ((cfgM m hO).win 2) t (ix4 0 0 0 f) a).trans ?_
  rw [show ((cfgM m hO).win 2).index t = ![0, E.val, 0, 0] from (map2 m _).trans (by rw [coord m hO t, hE])]
  match a with
  | ⟨0, _⟩ => rfl
  | ⟨1, _⟩ => show E.val * 1 + 0 = E.val; omega
  | ⟨2, _⟩ => rfl
  | ⟨3, _⟩ => show 0 * 2048 + f.val = f.val; omega
theorem b'_block (d : Fin 1024) : (iblk m hO c 4 t : Vec Ideal S1x1x1x1024 .f32) (ix4 0 0 0 d) = argB' m c (ix3 0 E d) := by
  refine Eq.trans ?_ (b'_entry m c E d)
  refine congrArg (V m c main_v27 : S2x32x1x1024.Idx → EReal) (funext fun a => Fin.ext ?_)
  refine (Pipeline.Window.rect_emb_val ((cfgM m hO).win 4) t (ix4 0 0 0 d) a).trans ?_
  rw [show ((cfgM m hO).win 4).index t = ![0, E.val, 0, 0] from (map4 m _).trans (by rw [coord m hO t, hE])]
  match a with
  | ⟨0, _⟩ => rfl
  | ⟨1, _⟩ => show E.val * 1 + 0 = E.val; omega
  | ⟨2, _⟩ => rfl
  | ⟨3, _⟩ => show 0 * 1024 + d.val = d.val; omega

/-- The output's rows at the point's tile: its expert's network on the tile's rows, or zeros. -/
theorem leaves_apply (hu : 1 ≤ (used m).toInt) (r : Fin 256) (d : Fin 1024) :
    leaves m hO c t (ix2 r d) = if ((tileOf m hO t).val : ℤ) < (used m).toInt then
      Cert.MixtureIdeal.Moe.expert (argX m c) (argW m c) (argB m c) (argW' m c) (argB' m c) E ⟨256 * (tileOf m hO t).val + r.val, by have := (tileOf m hO t).isLt; omega⟩ d
      else 0 := by
  have h2 := cond2_iff (grid0.coords t) (used m)
  have h3 := cond3_iff (grid0.coords t) (used m)
  rw [coord m hO t] at h2 h3
  unfold leaves left8
  by_cases h : ((tileOf m hO t).val : ℤ) < (used m).toInt
  · rw [if_neg (fun hc => absurd (h3.mp hc) (by omega)), if_pos (h2.mpr h), if_pos h]
    refine (pay3_apply _ _ _ _ _ r d).trans ?_
    unfold Cert.MixtureIdeal.Moe.expert
    have e0 := fun k => x_block m hO c t hu h r k
    have e1 := fun k f => w_block m hO c t E hE k f
    have e2 := fun f => b_block m hO c t E hE f
    have e3 := fun k d => w'_block m hO c t E hE k d
    have e4 := fun d => b'_block m hO c t E hE d
    congr 1
    · funext k; exact e0 k
    · funext k f; exact (pay1_apply _ k f).trans (e1 k f)
    · funext f; exact e2 f
    · funext k d; exact (pay2_apply _ k d).trans (e3 k d)
    · funext d; exact e4 d
  · rw [if_pos (h3.mpr (by omega)), if_neg h, pay4_apply]

end Cert.Moe
-- ==== Proof.Moe.Final.lean ====
/- The experts call's output array. -/
module

public import proofs.«01_k».proof.Proof.Moe.Blocks

@[expose] public section

set_option maxRecDepth 16384

noncomputable section

namespace Cert.Moe

open Cert.ExpertsIdeal Cert.ExpertsIdeal.Gen Cert.Moe.Ffn
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

/-- Each tile is written once, -/
theorem flush_each : ∀ t : Fin grid0.N, Pipeline.Window.flushOf grid0 true cc0_transform_5 t = true := by decide +kernel
/-- to its own rows. -/
theorem rows_each : ∀ t : Fin grid0.N, cc0_transform_5 (grid0.coords t) = ![t.val, 0] := by decide +kernel

variable (m : (ℓ : Loc nD τ sig) → Buf (Elt Ideal) ℓ) (hO : Ok m) (c : Dev nD)

/-- The tile a row of the dispatched rows is in. -/
abbrev tileRow (R : Fin 73728) : Fin 288 := ⟨R.val / 256, by omega⟩

/-- The output: a row of a tile in use through the tile's expert, zeros elsewhere. -/
def G (ht : ∀ n, (tile m n).toNat < 32) : S73728x1024.Idx → EReal := fun i =>
  if (((i 0).val / 256 : ℕ) : ℤ) < (used m).toInt then
    Cert.MixtureIdeal.Moe.expert (argX m c) (argW m c) (argB m c) (argW' m c) (argB' m c) ⟨(tile m (tileRow (i 0))).toNat, ht _⟩ (i 0) (i 1)
  else 0

theorem flush5 (t : Fin (cfgM m hO).N) : ((cfgM m hO).win 5).flush t = true := flush_each t
theorem index5 (t : Fin (cfgM m hO).N) : ((cfgM m hO).win 5).index t = ![t.val, 0] := rows_each t

theorem emb5 (t : Fin (cfgM m hO).N) (y : S256x1024.Idx) (a : Fin 2) :
    ((((cfgM m hO).win 5).blk t).view.emb y : S73728x1024.Idx) a = ![256 * t.val + (y 0).val, (y 1).val] a := by
  refine (Pipeline.Window.rect_emb_val ((cfgM m hO).win 5) t y a).trans ?_
  rw [index5]
  match a with
  | ⟨0, _⟩ => show t.val * 256 + (y 0).val = 256 * t.val + (y 0).val; omega
  | ⟨1, _⟩ => show 0 * 1024 + (y 1).val = (y 1).val; omega

theorem block5 (ht : ∀ n, (tile m n).toNat < 32) (hu : 1 ≤ (used m).toInt) (t : Fin (cfgM m hO).N) (y : S256x1024.Idx) :
    leaves m hO c t y = G m c ht ((((cfgM m hO).win 5).blk t).view.emb y) := by
  have hN := lt_of_lt_of_eq t.isLt (N_eq m hO)
  have h0 : (y 0).val < 256 := (y 0).isLt
  have h1 : (y 1).val < 1024 := (y 1).isLt
  have hy : y = ix2 ⟨(y 0).val, h0⟩ ⟨(y 1).val, h1⟩ := funext fun a => Fin.ext (by
    match a with
    | ⟨0, _⟩ => rfl
    | ⟨1, _⟩ => rfl)
  have hi : ((((cfgM m hO).win 5).blk t).view.emb y : S73728x1024.Idx) = ix2 ⟨256 * t.val + (y 0).val, by omega⟩ ⟨(y 1).val, h1⟩ := funext fun a => Fin.ext (by
    refine (emb5 m hO t y a).trans ?_
    match a with
    | ⟨0, _⟩ => rfl
    | ⟨1, _⟩ => rfl)
  refine (congrArg (leaves m hO c t) hy).trans ?_
  refine Eq.trans ?_ (congrArg (G m c ht) hi).symm
  refine (leaves_apply m hO c t ⟨(tile m (tileOf m hO t)).toNat, ht _⟩ rfl hu _ _).trans ?_
  have hq : (256 * t.val + (y 0).val) / 256 = t.val := by omega
  have hE : tileRow ⟨256 * t.val + (y 0).val, by omega⟩ = tileOf m hO t := Fin.ext hq
  unfold G
  show _ = if (((256 * t.val + (y 0).val) / 256 : ℕ) : ℤ) < (used m).toInt then
    Cert.MixtureIdeal.Moe.expert (argX m c) (argW m c) (argB m c) (argW' m c) (argB' m c) ⟨(tile m (tileRow ⟨256 * t.val + (y 0).val, by omega⟩)).toNat, ht _⟩ ⟨256 * t.val + (y 0).val, by omega⟩ ⟨(y 1).val, h1⟩
    else 0
  simp only [hE]
  rw [hq]
  rfl

theorem flushed5 (ht : ∀ n, (tile m n).toNat < 32) (hu : 1 ≤ (used m).toInt) (t : Fin (cfgM m hO).N) :
    (dats m hO 0 c).flushed 5 t = (((cfgM m hO).win 5).blk t).view.read (Elt Ideal) (G m c ht) := by
  show ((cfgM m hO).win 5).cut (grid0.coords t) ((dats m hO 0 c).after 5 t) = _
  rw [after_5]
  funext y
  exact block5 m hO c ht hu t y

theorem mem5 (t : Fin (cfgM m hO).N) (i : S73728x1024.Idx) :
    i ∈ (((cfgM m hO).win 5).blk t).view.set ↔ ∀ a : Fin 2, ((cfgM m hO).win 5).index t a * S256x1024.size a ≤ (i a).val
      ∧ (i a).val < ((cfgM m hO).win 5).index t a * S256x1024.size a + S256x1024.size a := by
  have key : ∀ q : Rect S73728x1024, i ∈ ((View.whole main_v28).slice q).set ↔ i ∈ q.set := fun q => by rw [View.set_slice_whole]
  refine (key (((cfgM m hO).win 5).rect t)).trans ?_
  exact Rect.mem_set_unit

theorem final5 (ht : ∀ n, (tile m n).toNat < 32) (hu : 1 ≤ (used m).toInt) : (dats m hO 0 c).arrAt 5 (cfgM m hO).N = G m c ht := by
  refine (dats m hO 0 c).arrAt_eq_of_cover 5 _ (fun t _ => flushed5 m hO c ht hu t) fun (i : S73728x1024.Idx) => ?_
  have h0 : (i 0).val < 73728 := (i 0).isLt
  have h1 : (i 1).val < 1024 := (i 1).isLt
  refine ⟨⟨(i 0).val / 256, lt_of_lt_of_eq (by omega) (N_eq m hO).symm⟩, flush5 m hO _, ?_⟩
  refine (mem5 m hO _ i).mpr fun a => ?_
  rw [index5]
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

end Cert.Moe
-- ==== Proof.Moe.Meet.lean ====
/- The experts call's result is the reference's, for the routing's counts. -/
module

public import proofs.«01_k».proof.Proof.Moe.Claims
public import proofs.«01_k».proof.Proof.Moe.Final
public import proofs.«01_k».proof.Defs

@[expose] public section

set_option maxRecDepth 16384

noncomputable section

namespace Cert.Moe.Meet

open Idealize.ShloMosaic hiding ix0 ix1 ix2 ix3 ix4
open Idealize.ShloMosaic.TcCoe Idealize.SL.Sem
open Idealize.ShloMosaic.ValueIdx

attribute [local instance] Cert.Moe.pre_facts

theorem agree (m : (ℓ : Loc Cert.ExpertsIdeal.nD Cert.ExpertsIdeal.τ Cert.ExpertsIdeal.sig) → Buf (Elt Ideal) ℓ)
    (hr : Cert.Moe.Tiles.Ranges (Cert.Moe.counts m)) (ht : ∀ n, (Cert.Moe.tile m n).toNat < 32) (c : Dev Cert.ExpertsIdeal.nD) :
    Cert.Moe.G m c ht
      = Cert.MixtureIdeal.Read.val_main_v55 (F := Ideal) (Cert.Moe.counts m)
        (Cert.Moe.argX m c) (Cert.Moe.argW m c) (Cert.Moe.argB m c) (Cert.Moe.argW' m c) (Cert.Moe.argB' m c) := by
  funext i
  have hi : i = (ix2 (i 0) (i 1) : Cert.ExpertsIdeal.S73728x1024.Idx) := funext fun a => by
    match a with
    | ⟨0, _⟩ => rfl
    | ⟨1, _⟩ => rfl
  refine Eq.trans ?_ (congrArg _ hi).symm
  refine Eq.trans ?_ (Cert.MixtureIdeal.Moe.result_entry (Cert.Moe.counts m) _ _ _ _ _ hr (i 0) (i 1)
    ⟨(Cert.Moe.tile m (Cert.Moe.tileRow (i 0))).toNat, ht _⟩ (fun h => (Cert.Moe.tile_used m hr (Cert.Moe.tileRow (i 0)) h).symm)).symm
  unfold Cert.Moe.G
  rw [Cert.Moe.used_int m hr]
  by_cases h : (i 0).val / 256 < Cert.Moe.Tiles.upTo (Cert.Moe.counts m) 32
  · exact (if_pos (Int.ofNat_lt.mpr h)).trans (if_pos h).symm
  · exact (if_neg (fun hc => h (Int.ofNat_lt.mp hc))).trans (if_neg h).symm

attribute [local instance] Cert.ExpertsIdeal.Gen.facts Cert.MixtureIdeal.Gen.facts

theorem algebraic : Cert.algebraic_ExpertsIdeal_MixtureIdeal := by
  intro m g m' g' hpre hargs
  have ht := Cert.Moe.tile_lt m hpre
  refine ⟨fun c => Cert.Moe.G m c ht, ?_, ?_⟩
  · refine (θ_run Cert.ExpertsIdeal.defs _ _).mono (fun r h c => ⟨(h.1 c).1.trans ?_, (h.1 c).2⟩) (Cert.Moe.ends m g hpre)
    exact Cert.Moe.final5 m (Cert.Moe.ok m hpre) c ht (Cert.Moe.used_pos m hpre)
  refine (θ_run Cert.MixtureIdeal.defs _ _).mono (fun r h c => ⟨(h c).1.trans ?_, (h c).2⟩) (Cert.MixtureIdeal.Value.run (F := Ideal) m' g')
  obtain ⟨a0, a1, a2, a3, a4, a5⟩ := hargs c
  refine (Cert.MixtureIdeal.Read.val_main_v55_eq (F := Ideal) _ _).trans ?_
  refine Eq.trans ?_ (agree m (Cert.Moe.ranges m hpre) ht c).symm
  obtain rfl : c = 0 := Subsingleton.elim _ _
  rw [a0, a1, a2, a3, a4, a5]
  rfl

theorem frame_mixture : Cert.quiescent_MixtureIdeal := fun m g _ =>
  (θ_run Cert.MixtureIdeal.defs _ _).mono (fun r h => ⟨fun c => (h c).2, sem_eq_zero_of_no_sems (by decide) r.2⟩)
    (Cert.MixtureIdeal.Value.run (F := Ideal) m g)

end Cert.Moe.Meet
-- ==== Proof.MoeBits.Claims.lean ====
/- The experts call as printed for the machine's own values, under the counts' ranges: it runs, leaves its arguments as they are, and ends quiescent. -/
module

public import proofs.«01_k».proof.Proof.MoeBits.Frame
public import proofs.«01_k».proof.Proof.MoeBits.Host
public import proofs.«01_k».proof.Defs

@[expose] public section

set_option maxRecDepth 16384

noncomputable section

namespace Cert.MoeBits

open Cert.Experts Cert.Experts.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The shape relations the precondition's printed function takes. -/
theorem pre_facts : Cert.Pre_routed.Facts := ⟨by decide, by decide, by decide⟩

attribute [local instance] pre_facts

/-- The counts' ranges, over any float values. -/
def Routed : Prop :=
  ∀ c : Dev nD,
    (Cert.Pre_routed.fn (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))).1 = (fun _ => 1#1)
    ∧ (Cert.Pre_routed.fn (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))).2.1 = (fun _ => 1#1)
    ∧ (Cert.Pre_routed.fn (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))).2.2 = (fun _ => 1#1)

theorem ranges (h : Routed m) : Cert.Moe.Tiles.Ranges (counts m) := by
  obtain ⟨h0, h1, h2⟩ := h 0
  exact Cert.Moe.Tiles.ranges_of (counts m) (fun i => congrFun h0 i) (fun i => congrFun h1 i) Cert.Pre_routed.Facts.reducesTo_S32_S_d0 Cert.Pre_routed.Facts.h_S_
    (congrFun h2 ValueIdx.ix0)

theorem tile_lt (h : Routed m) (n : Fin 288) : (tile m n).toNat < 32 := by
  rw [tile_nat m (ranges m h)]
  omega

theorem used_pos (h : Routed m) : 1 ≤ (used m).toInt := by
  have hp := Cert.Moe.Tiles.upTo_pos (counts m) (ranges m h)
  rw [used_int m (ranges m h)]
  omega

theorem ok (h : Routed m) : Ok m := ok_of m (tile_lt m h) (used_pos m h)

/-- How a routed run ends: the output as the region's data have it, the arguments as launched, the counters at zero. -/
theorem ends (h : Routed m) : θ_run (defs (F := F)) (onTc (τ := τ) (main (F := F))) ⟨m, fun _ => 0, ρ⟩ (fun r => (∀ c : Dev nD,
      r.2.mem ((c : Thread nD τ).loc main_v28) = (dats m (ok m h) 0 c).arrAt 5 (cfgM m (ok m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) := by
  have hO := ok m h
  refine (θ_run defs _ _).mono (fun r hr => ⟨fun c => ?_, hr.2⟩) (run_main m ρ hO)
  have hp := hr.1 c
  have rest : ∀ b, b ∈ Pipeline.restRefs sig spec0 → (b = main_arg0 ∨ b = main_arg1 ∨ b = main_arg2 ∨ b = main_arg3 ∨ b = main_arg4 ∨ b = main_arg5) →
      r.2.mem ((c : Thread nD τ).loc b) = m ((c : Thread nD τ).loc b) :=
    fun b hb h => (hp.2 b hb).trans (V_of_arg m c b h)
  have arr : ∀ w, ((cfgM m hO).win w).isOut = false → r.2.mem ((c : Thread nD τ).loc (Pipeline.arrRef spec0 w)) = V m c (Pipeline.arrRef spec0 w) :=
    fun w hw => (hp.1 w).trans (((dats m hO 0 c).arrAt_in w hw _).trans (A_eq m hO c w))
  refine ⟨hp.1 5, rest main_arg0 (Pipeline.mem_restRefs_of (win := spec0) main_arg0 (by decide) (by decide)) (Or.inl rfl),
    (arr 0 rfl).trans (V_of_arg m c main_arg1 (Or.inr (Or.inl rfl))),
    (arr 1 rfl).trans (V_of_arg m c main_arg2 (Or.inr (Or.inr (Or.inl rfl)))),
    rest main_arg3 (Pipeline.mem_restRefs_of (win := spec0) main_arg3 (by decide) (by decide)) (Or.inr (Or.inr (Or.inr (Or.inl rfl)))),
    (arr 3 rfl).trans (V_of_arg m c main_arg4 (Or.inr (Or.inr (Or.inr (Or.inr (Or.inl rfl)))))),
    rest main_arg5 (Pipeline.mem_restRefs_of (win := spec0) main_arg5 (by decide) (by decide)) (Or.inr (Or.inr (Or.inr (Or.inr (Or.inr (rfl))))))⟩

theorem frame (h : Routed m) : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r hr => ⟨fun c => (hr.1 c).2, hr.2⟩) (ends m ρ h)

attribute [local instance] Cert.Experts.Gen.facts

theorem frame_bits : Cert.quiescent_Experts := fun m g h => frame m g h

end Cert.MoeBits
-- ==== Proof.Out.Merge.lean ====
/- The attention's out-projection: what the call leaves in its result, and what the reference's heads merged and projected give. -/
module

public import proofs.«01_k».proof.Proof.Gen.MergeIdeal.Value
public import proofs.«01_k».proof.Proof.Gen.MergeRefIdeal.Read
public import proofs.«01_k».proof.Defs
public import Idealize.ShloMosaic.Lib.Claim
public import Idealize.ShloMosaic.Lib.Pointwise
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.MergeIdeal.Out

open Cert.MergeIdeal Cert.MergeIdeal.Gen
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

/-- A lane of the merged heads, as its head and the lane within. -/
abbrev headOf (k : Fin 512) : Fin 8 := ⟨k.val / 64, by omega⟩
abbrev laneOf (k : Fin 512) : Fin 64 := ⟨k.val % 64, by omega⟩

/-- The residual with both groups of heads projected and gated. -/
def merged (a b : FVec Ideal S1x16384x8x64 .f32) (w : FVec Ideal S1024x1024 .f32) (x : FVec Ideal S1x16384x1024 .f32) (g : FVec Ideal S1x1x1024 .f32)
    (r : Fin 16384) (d : Fin 1024) : EReal :=
  x (ix3 0 r d) + g (ix3 0 0 d) * ((∑ k : Fin 512, a (ix4 0 r (headOf k) (laneOf k)) * w (ix2 ⟨k.val, by omega⟩ d))
    + ∑ k : Fin 512, b (ix4 0 r (headOf k) (laneOf k)) * w (ix2 ⟨512 + k.val, by omega⟩ d))

variable (m : (ℓ : Loc nD τ sig) → Buf (Elt Ideal) ℓ) (c : Dev nD)

/-- The arguments as launched. -/
def argA : FVec Ideal S1x16384x8x64 .f32 := m ((c : Thread nD τ).loc main_arg0)
def argB : FVec Ideal S1x16384x8x64 .f32 := m ((c : Thread nD τ).loc main_arg1)
def argW : FVec Ideal S1024x1024 .f32 := m ((c : Thread nD τ).loc main_arg2)
def argX : FVec Ideal S1x16384x1024 .f32 := m ((c : Thread nD τ).loc main_arg3)
def argG : FVec Ideal S1x1x1024 .f32 := m ((c : Thread nD τ).loc main_arg4)

/-- The arrays as the call takes them. -/
theorem a_entry (r : Fin 16384) (k : Fin 512) : (V m c main_v1 : S16384x512.Idx → EReal) (ix2 r k) = argA m c (ix4 0 r (headOf k) (laneOf k)) := by
  simp only [V, hostOps0, List.flatten_cons, List.flatten_nil, List.append_nil, List.cons_append, List.nil_append]
  after_results
  refine shapeCast_apply (argA m c) shapeCasts_S1x16384x8x64_S16384x512 _ _ ?_
  rw [Shape.rowMajor_val_four, Shape.rowMajor_val_two]
  show ((0 * 16384 + r.val) * 8 + k.val / 64) * 64 + k.val % 64 = r.val * 512 + k.val
  omega
theorem b_entry (r : Fin 16384) (k : Fin 512) : (V m c main_v3 : S16384x512.Idx → EReal) (ix2 r k) = argB m c (ix4 0 r (headOf k) (laneOf k)) := by
  simp only [V, hostOps0, List.flatten_cons, List.flatten_nil, List.append_nil, List.cons_append, List.nil_append]
  after_results
  refine shapeCast_apply (argB m c) shapeCasts_S1x16384x8x64_S16384x512 _ _ ?_
  rw [Shape.rowMajor_val_four, Shape.rowMajor_val_two]
  show ((0 * 16384 + r.val) * 8 + k.val / 64) * 64 + k.val % 64 = r.val * 512 + k.val
  omega
theorem wa_entry (k : Fin 512) (d : Fin 1024) : (V m c main_v5 : S512x1024.Idx → EReal) (ix2 k d) = argW m c (ix2 ⟨k.val, by omega⟩ d) := by
  simp only [V, hostOps0, List.flatten_cons, List.flatten_nil, List.append_nil, List.cons_append, List.nil_append]
  after_results
  refine extractStridedSlice_apply ![0, 0] (argW m c) slices_S1024x1024_S512x1024_0_0 _ _ fun a => ?_
  match a with
  | ⟨0, _⟩ => show k.val = 0 + k.val; omega
  | ⟨1, _⟩ => show d.val = 0 + d.val; omega
theorem wb_entry (k : Fin 512) (d : Fin 1024) : (V m c main_v6 : S512x1024.Idx → EReal) (ix2 k d) = argW m c (ix2 ⟨512 + k.val, by omega⟩ d) := by
  simp only [V, hostOps0, List.flatten_cons, List.flatten_nil, List.append_nil, List.cons_append, List.nil_append]
  after_results
  refine extractStridedSlice_apply ![512, 0] (argW m c) slices_S1024x1024_S512x1024_512_0 _ _ fun a => ?_
  match a with
  | ⟨0, _⟩ => rfl
  | ⟨1, _⟩ => show d.val = 0 + d.val; omega
theorem x_entry (r : Fin 16384) (d : Fin 1024) : (V m c main_v7 : S16384x1024.Idx → EReal) (ix2 r d) = argX m c (ix3 0 r d) := by
  simp only [V, hostOps0, List.flatten_cons, List.flatten_nil, List.append_nil, List.cons_append, List.nil_append]
  after_results
  refine shapeCast_apply (argX m c) shapeCasts_S1x16384x1024_S16384x1024 _ _ ?_
  rw [Shape.rowMajor_val_three, Shape.rowMajor_val_two]
  show (0 * 16384 + r.val) * 1024 + d.val = r.val * 1024 + d.val
  omega
theorem g_entry (d : Fin 1024) : (V m c main_v8 : S1x1024.Idx → EReal) (ix2 0 d) = argG m c (ix3 0 0 d) := by
  simp only [V, hostOps0, List.flatten_cons, List.flatten_nil, List.append_nil, List.cons_append, List.nil_append]
  after_results
  refine shapeCast_apply (argG m c) shapeCasts_S1x1x1024_S1x1024 _ _ ?_
  rw [Shape.rowMajor_val_three, Shape.rowMajor_val_two]
  show (0 * 1 + 0) * 1024 + d.val = 0 * 1024 + d.val
  omega

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![0, 0] := by decide +kernel
theorem index6 : ∀ t : Fin cfg0.N, win0_6.index t = ![t.val, 0] := by decide +kernel
theorem N_eq : cfg0.N = 32 := by decide +kernel
theorem point_lt (t : Fin cfg0.N) : t.val < 32 := lt_of_lt_of_eq t.isLt N_eq

/-- A point's row, as a row of the arrays. -/
abbrev rowAt (t : Fin cfg0.N) (r : Fin 512) : Fin 16384 := ⟨512 * t.val + r.val, by have := point_lt t; omega⟩

variable (t : Fin cfg0.N)

theorem a_block (r : Fin 512) (k : Fin 512) : (iblk m c 0 t : Vec Ideal S512x512 .bf16) (ix2 r k) = argA m c (ix4 0 (rowAt t r) (headOf k) (laneOf k)) := by
  refine Eq.trans (congrArg (V m c main_v1 : S16384x512.Idx → EReal) (funext fun a => Fin.ext ?_)) (a_entry m c (rowAt t r) k)
  refine (Pipeline.Window.rect_emb_val win0_0 t (ix2 r k) a).trans ?_
  rw [index0]
  match a with
  | ⟨0, _⟩ => show t.val * 512 + r.val = 512 * t.val + r.val; omega
  | ⟨1, _⟩ => show 0 * 512 + k.val = k.val; omega
theorem b_block (r : Fin 512) (k : Fin 512) : (iblk m c 1 t : Vec Ideal S512x512 .bf16) (ix2 r k) = argB m c (ix4 0 (rowAt t r) (headOf k) (laneOf k)) := by
  refine Eq.trans (congrArg (V m c main_v3 : S16384x512.Idx → EReal) (funext fun a => Fin.ext ?_)) (b_entry m c (rowAt t r) k)
  refine (Pipeline.Window.rect_emb_val win0_1 t (ix2 r k) a).trans ?_
  rw [index1]
  match a with
  | ⟨0, _⟩ => show t.val * 512 + r.val = 512 * t.val + r.val; omega
  | ⟨1, _⟩ => show 0 * 512 + k.val = k.val; omega
theorem wa_block (k : Fin 512) (d : Fin 1024) : (iblk m c 2 t : Vec Ideal S512x1024 .bf16) (ix2 k d) = argW m c (ix2 ⟨k.val, by omega⟩ d) := by
  refine Eq.trans (congrArg (V m c main_v5 : S512x1024.Idx → EReal) (funext fun a => Fin.ext ?_)) (wa_entry m c k d)
  refine (Pipeline.Window.rect_emb_val win0_2 t (ix2 k d) a).trans ?_
  rw [index2]
  match a with
  | ⟨0, _⟩ => show 0 * 512 + k.val = k.val; omega
  | ⟨1, _⟩ => show 0 * 1024 + d.val = d.val; omega
theorem wb_block (k : Fin 512) (d : Fin 1024) : (iblk m c 3 t : Vec Ideal S512x1024 .bf16) (ix2 k d) = argW m c (ix2 ⟨512 + k.val, by omega⟩ d) := by
  refine Eq.trans (congrArg (V m c main_v6 : S512x1024.Idx → EReal) (funext fun a => Fin.ext ?_)) (wb_entry m c k d)
  refine (Pipeline.Window.rect_emb_val win0_3 t (ix2 k d) a).trans ?_
  rw [index3]
  match a with
  | ⟨0, _⟩ => show 0 * 512 + k.val = k.val; omega
  | ⟨1, _⟩ => show 0 * 1024 + d.val = d.val; omega
theorem x_block (r : Fin 512) (d : Fin 1024) : (iblk m c 4 t : Vec Ideal S512x1024 .f32) (ix2 r d) = argX m c (ix3 0 (rowAt t r) d) := by
  refine Eq.trans (congrArg (V m c main_v7 : S16384x1024.Idx → EReal) (funext fun a => Fin.ext ?_)) (x_entry m c (rowAt t r) d)
  refine (Pipeline.Window.rect_emb_val win0_4 t (ix2 r d) a).trans ?_
  rw [index4]
  match a with
  | ⟨0, _⟩ => show t.val * 512 + r.val = 512 * t.val + r.val; omega
  | ⟨1, _⟩ => show 0 * 1024 + d.val = d.val; omega
theorem g_block (d : Fin 1024) : (iblk m c 5 t : Vec Ideal S1x1024 .f32) (ix2 0 d) = argG m c (ix3 0 0 d) := by
  refine Eq.trans (congrArg (V m c main_v8 : S1x1024.Idx → EReal) (funext fun a => Fin.ext ?_)) (g_entry m c d)
  refine (Pipeline.Window.rect_emb_val win0_5 t (ix2 0 d) a).trans ?_
  rw [index5]
  match a with
  | ⟨0, _⟩ => rfl
  | ⟨1, _⟩ => show 0 * 1024 + d.val = d.val; omega

/-- One group's product. -/
theorem product_apply (x : FVec Ideal S512x512 .bf16) (w : FVec Ideal S512x1024 .bf16) (r : Fin 512) (d : Fin 1024) :
    matmul dot_S512x512_S512x1024_S512x1024_1_0_0_1_n_n none x w (constant S512x1024 .f32 0x00000000#32) (ix2 r d) = ∑ k : Fin 512, x (ix2 r k) * w (ix2 k d) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  refine congrArg₂ (· * ·) (congrArg x (funext fun a => Fin.ext ?_)) (congrArg w (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

theorem pay_apply (a : Vec Ideal S512x512 .bf16) (wa : Vec Ideal S512x1024 .bf16) (b : Vec Ideal S512x512 .bf16) (wb : Vec Ideal S512x1024 .bf16)
    (x : Vec Ideal S512x1024 .f32) (g : Vec Ideal S1x1024 .f32) (r : Fin 512) (d : Fin 1024) :
    k0_pay1 a wa b wb x g (ix2 r d)
      = x (ix2 r d) + g (ix2 0 d) * ((∑ k : Fin 512, a (ix2 r k) * wa (ix2 k d)) + ∑ k : Fin 512, b (ix2 r k) * wb (ix2 k d)) := by
  unfold k0_pay1
  simp only [shapeCast_self]
  rw [addf_apply, mulf_apply, addf_apply, broadcastTo_1b_ab_apply, product_apply, product_apply]

theorem zero2 : (![0, 0] : Fin 2 → ℕ) = fun _ => 0 := by
  funext a
  match a with
  | ⟨0, _⟩ => rfl
  | ⟨1, _⟩ => rfl

/-- What a point leaves in its rows. -/
theorem out_apply (r : Fin 512) (d : Fin 1024) :
    out0_6 (iblk m c 0 t) (iblk m c 1 t) (iblk m c 2 t) (iblk m c 3 t) (iblk m c 4 t) (iblk m c 5 t) (ix2 r d)
      = merged (argA m c) (argB m c) (argW m c) (argX m c) (argG m c) (rowAt t r) d := by
  unfold out0_6
  rw [View.canon_unit_zero zero2, View.ld_unit_zero zero2, View.ld_unit_zero zero2, View.ld_unit_zero zero2, View.ld_unit_zero zero2, View.ld_unit_zero zero2, View.ld_unit_zero zero2]
  refine (pay_apply _ _ _ _ _ _ r d).trans ?_
  unfold merged
  refine congrArg₂ (· + ·) (x_block m c t r d) (congrArg₂ (· * ·) (g_block m c t d) (congrArg₂ (· + ·) ?_ ?_))
  · exact Finset.sum_congr rfl fun k _ => congrArg₂ (· * ·) (a_block m c t r k) (wa_block m c t k d)
  · exact Finset.sum_congr rfl fun k _ => congrArg₂ (· * ·) (b_block m c t r k) (wb_block m c t k d)

/-- The call's result. -/
def G : S16384x1024.Idx → EReal := fun i => merged (argA m c) (argB m c) (argW m c) (argX m c) (argG m c) (i 0) (i 1)

theorem flushed_eq : (dats m 0 c).flushed 6 t = ((cfg0.win 6).blk t).view.read (Elt Ideal) (G m c) := by
  rw [Cert.MergeIdeal.Value.flushed6]
  funext y
  have h0 : (y 0).val < 512 := (y 0).isLt
  have h1 : (y 1).val < 1024 := (y 1).isLt
  have hy : (y : S512x1024.Idx) = ix2 ⟨(y 0).val, h0⟩ ⟨(y 1).val, h1⟩ := funext fun a => Fin.ext (by
    match a with
    | ⟨0, _⟩ => rfl
    | ⟨1, _⟩ => rfl)
  have hi : (((cfg0.win 6).blk t).view.emb y : S16384x1024.Idx) = ix2 (rowAt t ⟨(y 0).val, h0⟩) ⟨(y 1).val, h1⟩ := funext fun a => Fin.ext (by
    refine (Pipeline.Window.rect_emb_val win0_6 t y a).trans ?_
    rw [index6]
    match a with
    | ⟨0, _⟩ => show t.val * 512 + (y 0).val = 512 * t.val + (y 0).val; omega
    | ⟨1, _⟩ => show 0 * 1024 + (y 1).val = (y 1).val; omega)
  refine Eq.trans ?_ (congrArg (G m c) hi).symm
  refine Eq.trans ?_ (out_apply m c t ⟨(y 0).val, h0⟩ ⟨(y 1).val, h1⟩)
  exact congrArg (out0_6 (iblk m c 0 t) (iblk m c 1 t) (iblk m c 2 t) (iblk m c 3 t) (iblk m c 4 t) (iblk m c 5 t)) hy

theorem mem_block (i : S16384x1024.Idx) :
    i ∈ ((cfg0.win 6).blk t).view.set ↔ ∀ a : Fin 2, win0_6.index t a * S512x1024.size a ≤ (i a).val
      ∧ (i a).val < win0_6.index t a * S512x1024.size a + S512x1024.size a := by
  have key : ∀ q : Rect S16384x1024, i ∈ ((View.whole main_v9).slice q).set ↔ i ∈ q.set := fun q => by rw [View.set_slice_whole]
  refine (key (win0_6.rect t)).trans ?_
  exact Rect.mem_set_unit

theorem final : (dats m 0 c).arrAt 6 cfg0.N = G m c := by
  refine (dats m 0 c).arrAt_eq_of_cover 6 _ (fun t _ => flushed_eq m c t) fun (i : S16384x1024.Idx) => ?_
  have h0 : (i 0).val < 16384 := (i 0).isLt
  have h1 : (i 1).val < 1024 := (i 1).isLt
  refine ⟨⟨(i 0).val / 512, lt_of_lt_of_eq (by omega) N_eq.symm⟩, flush0_6 _, ?_⟩
  refine (mem_block _ i).mpr fun a => ?_
  rw [index6]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

end Cert.MergeIdeal.Out

namespace Cert.MergeRefIdeal.Out

open Cert.MergeRefIdeal Cert.MergeRefIdeal.Gen Cert.MergeRefIdeal.Read
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx
open Cert.MergeIdeal.Out (headOf laneOf merged)

variable (a b : FVec Ideal S1x16384x8x64 .f32) (w : FVec Ideal S1024x1024 .f32) (x : FVec Ideal S1x16384x1024 .f32) (g : FVec Ideal S1x1x1024 .f32)

theorem left_apply (r : Fin 16384) (k : Fin 512) : val_main_v2 (F := Ideal) a b (ix3 0 r ⟨k.val, by omega⟩) = a (ix4 0 r (headOf k) (laneOf k)) := by
  unfold val_main_v2
  refine (concatenate_pair_apply_left 2 _ _ concatenates_S1x16384x512_S1x16384x512_S1x16384x1024_d2 _ rfl (ix3 0 r k) fun q => ?_).trans ?_
  · match q with
    | ⟨0, _⟩ => rfl
    | ⟨1, _⟩ => rfl
    | ⟨2, _⟩ => rfl
  · rw [val_main_v0_apply]
    refine congrArg a (funext fun q => Fin.ext ?_)
    match q with
    | ⟨0, _⟩ => rfl
    | ⟨1, _⟩ => show ((0 * 16384 + r.val) * 512 + k.val) / 512 % 16384 = r.val; omega
    | ⟨2, _⟩ => show ((0 * 16384 + r.val) * 512 + k.val) / 64 % 8 = k.val / 64; omega
    | ⟨3, _⟩ => show ((0 * 16384 + r.val) * 512 + k.val) % 64 = k.val % 64; omega

theorem right_apply (r : Fin 16384) (k : Fin 512) : val_main_v2 (F := Ideal) a b (ix3 0 r ⟨512 + k.val, by omega⟩) = b (ix4 0 r (headOf k) (laneOf k)) := by
  unfold val_main_v2
  refine (concatenate_pair_apply_right 2 _ _ concatenates_S1x16384x512_S1x16384x512_S1x16384x1024_d2 _ rfl rfl (ix3 0 r k) (fun q hq => ?_) ?_).trans ?_
  · match q with
    | ⟨0, _⟩ => rfl
    | ⟨1, _⟩ => rfl
    | ⟨2, _⟩ => exact absurd rfl hq
  · show k.val + 512 = 512 + k.val
    omega
  · rw [val_main_v1_apply]
    refine congrArg b (funext fun q => Fin.ext ?_)
    match q with
    | ⟨0, _⟩ => rfl
    | ⟨1, _⟩ => show ((0 * 16384 + r.val) * 512 + k.val) / 512 % 16384 = r.val; omega
    | ⟨2, _⟩ => show ((0 * 16384 + r.val) * 512 + k.val) / 64 % 8 = k.val / 64; omega
    | ⟨3, _⟩ => show ((0 * 16384 + r.val) * 512 + k.val) % 64 = k.val % 64; omega

/-- The projection of all heads is the sum of the two groups' projections. -/
theorem result_entry (i : S16384x1024.Idx) : val_main_v7 (F := Ideal) a b w x g i = merged a b w x g (i 0) (i 1) := by
  have h0 : (i 0).val < 16384 := (i 0).isLt
  have h1 : (i 1).val < 1024 := (i 1).isLt
  have e : idx_main_v7 i = ix3 0 ⟨(i 0).val, h0⟩ ⟨(i 1).val, h1⟩ := funext fun q => Fin.ext (by
    match q with
    | ⟨0, _⟩ => rfl
    | ⟨1, _⟩ => show ((i 0).val * 1024 + (i 1).val) / 1024 % 16384 = (i 0).val; omega
    | ⟨2, _⟩ => show ((i 0).val * 1024 + (i 1).val) % 1024 = (i 1).val; omega)
  have eg : idx_main_v4 (ix3 0 ⟨(i 0).val, h0⟩ ⟨(i 1).val, h1⟩) = ix3 0 0 ⟨(i 1).val, h1⟩ := funext fun q => Fin.ext (by
    match q with
    | ⟨0, _⟩ => rfl
    | ⟨1, _⟩ => rfl
    | ⟨2, _⟩ => rfl)
  have el : ∀ k : Fin 1024, lidx_main_v3 (ix3 0 ⟨(i 0).val, h0⟩ ⟨(i 1).val, h1⟩) k = ix3 0 ⟨(i 0).val, h0⟩ k := fun k => funext fun q => Fin.ext (by
    match q with
    | ⟨0, _⟩ => rfl
    | ⟨1, _⟩ => rfl
    | ⟨2, _⟩ => rfl)
  have er : ∀ k : Fin 1024, ridx_main_v3 (ix3 0 ⟨(i 0).val, h0⟩ ⟨(i 1).val, h1⟩) k = ix2 k ⟨(i 1).val, h1⟩ := fun k => funext fun q => Fin.ext (by
    match q with
    | ⟨0, _⟩ => rfl
    | ⟨1, _⟩ => rfl)
  rw [val_main_v7_apply, e, val_main_v6_apply, val_main_v5_apply, val_main_v4_apply, eg, val_main_v3_apply]
  unfold merged
  refine congrArg (x (ix3 0 ⟨(i 0).val, h0⟩ ⟨(i 1).val, h1⟩) + ·) (congrArg (g (ix3 0 0 ⟨(i 1).val, h1⟩) * ·) ?_)
  refine (Fin.sum_univ_add (a := 512) (b := 512) (fun k : Fin (512 + 512) => (val_main_v2 (F := Ideal) a b) (lidx_main_v3 (ix3 0 ⟨(i 0).val, h0⟩ ⟨(i 1).val, h1⟩) k) * w (ridx_main_v3 (ix3 0 ⟨(i 0).val, h0⟩ ⟨(i 1).val, h1⟩) k))).trans ?_
  refine congrArg₂ (· + ·) (Finset.sum_congr rfl fun k _ => ?_) (Finset.sum_congr rfl fun k _ => ?_)
  · refine congrArg₂ (· * ·) ((congrArg (val_main_v2 (F := Ideal) a b) (el _)).trans ?_) (congrArg w (er _))
    exact left_apply a b ⟨(i 0).val, h0⟩ k
  · refine congrArg₂ (· * ·) ((congrArg (val_main_v2 (F := Ideal) a b) (el _)).trans ?_) (congrArg w (er _))
    exact right_apply a b ⟨(i 0).val, h0⟩ k

end Cert.MergeRefIdeal.Out

namespace Cert.Out.Merge

open Idealize.ShloMosaic Idealize.ShloMosaic.TcCoe Idealize.SL.Sem

theorem algebraic : Cert.algebraic_MergeIdeal_MergeRefIdeal := by
  intro m g m' g' _ hargs
  refine ⟨fun c => Cert.MergeIdeal.Out.G m c, (θ_run Cert.MergeIdeal.defs _ _).mono (fun r h c => ⟨(h c).1.trans (Cert.MergeIdeal.Out.final m c), (h c).2⟩) (Cert.MergeIdeal.Value.run_blocks (F := Ideal) m g), ?_⟩
  refine (θ_run Cert.MergeRefIdeal.defs _ _).mono (fun r h c => ⟨(h c).1.trans ?_, (h c).2⟩) (Cert.MergeRefIdeal.Value.run (F := Ideal) m' g')
  obtain ⟨a0, a1, a2, a3, a4⟩ := hargs c
  refine (Cert.MergeRefIdeal.Read.val_main_v7_eq (F := Ideal) _ _ _ _ _).trans ?_
  rw [a0, a1, a2, a3, a4]
  funext i
  exact Cert.MergeRefIdeal.Out.result_entry _ _ _ _ _ i

theorem frame_reference (m : (ℓ : Loc Cert.MergeRefIdeal.nD Cert.MergeRefIdeal.τ Cert.MergeRefIdeal.sig) → Buf (Elt Ideal) ℓ)
    (g : Dev Cert.MergeRefIdeal.nD → PrngReg) :
    θ_run (Cert.MergeRefIdeal.defs (F := Ideal)) (onTc (τ := Cert.MergeRefIdeal.τ) (Cert.MergeRefIdeal.main (F := Ideal))) ⟨m, fun _ => 0, g⟩
      (fun r => (∀ c : Dev Cert.MergeRefIdeal.nD,
        r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
        ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
        ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
        ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
        ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
        ∧ r.2.sem = fun _ => 0) :=
  (θ_run Cert.MergeRefIdeal.defs _ _).mono (fun r h => ⟨fun c => (h c).2, sem_eq_zero_of_no_sems (by decide) r.2⟩)
    (Cert.MergeRefIdeal.Value.run (F := Ideal) m g)

end Cert.Out.Merge
-- ==== Proof.Out.Outlet.lean ====
/- The convolution mixer's out-projection: what the call leaves in its result, and what the reference's projection gives. -/
module

public import proofs.«01_k».proof.Proof.Gen.OutletIdeal.Value
public import proofs.«01_k».proof.Proof.Gen.OutletRefIdeal.Read
public import proofs.«01_k».proof.Defs
public import Idealize.ShloMosaic.Lib.Claim
public import Idealize.ShloMosaic.Lib.Pointwise
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.OutletIdeal.Out

open Cert.OutletIdeal Cert.OutletIdeal.Gen
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

/-- The residual with the mixer's rows projected, shifted and gated. -/
def projected (z : FVec Ideal S1x16384x1024 .f32) (w : FVec Ideal S1024x1024 .f32) (b : FVec Ideal S1024 .f32) (x : FVec Ideal S1x16384x1024 .f32) (g : FVec Ideal S1x1x1024 .f32)
    (r : Fin 16384) (d : Fin 1024) : EReal :=
  x (ix3 0 r d) + g (ix3 0 0 d) * ((∑ k : Fin 1024, z (ix3 0 r k) * w (ix2 k d)) + b (ix1 d))

variable (m : (ℓ : Loc nD τ sig) → Buf (Elt Ideal) ℓ) (c : Dev nD)

/-- The arguments as launched. -/
def argZ : FVec Ideal S1x16384x1024 .f32 := m ((c : Thread nD τ).loc main_arg0)
def argW : FVec Ideal S1024x1024 .f32 := m ((c : Thread nD τ).loc main_arg1)
def argB : FVec Ideal S1024 .f32 := m ((c : Thread nD τ).loc main_arg2)
def argX : FVec Ideal S1x16384x1024 .f32 := m ((c : Thread nD τ).loc main_arg3)
def argG : FVec Ideal S1x1x1024 .f32 := m ((c : Thread nD τ).loc main_arg4)

/-- The arrays as the call takes them. -/
theorem z_entry (r : Fin 16384) (k : Fin 1024) : (V m c main_v1 : S16384x1024.Idx → EReal) (ix2 r k) = argZ m c (ix3 0 r k) := by
  simp only [V, hostOps0, List.flatten_cons, List.flatten_nil, List.append_nil, List.cons_append, List.nil_append]
  after_results
  refine shapeCast_apply (argZ m c) shapeCasts_S1x16384x1024_S16384x1024 _ _ ?_
  rw [Shape.rowMajor_val_three, Shape.rowMajor_val_two]
  show (0 * 16384 + r.val) * 1024 + k.val = r.val * 1024 + k.val
  omega
theorem w_entry (i : S1024x1024.Idx) : (V m c main_v2 : S1024x1024.Idx → EReal) i = argW m c i := by
  simp only [V, hostOps0, List.flatten_cons, List.flatten_nil, List.append_nil, List.cons_append, List.nil_append]
  after_results
  rfl
theorem b_entry (d : Fin 1024) : (V m c main_v3 : S1x1024.Idx → EReal) (ix2 0 d) = argB m c (ix1 d) := by
  simp only [V, hostOps0, List.flatten_cons, List.flatten_nil, List.append_nil, List.cons_append, List.nil_append]
  after_results
  refine shapeCast_apply (argB m c) shapeCasts_S1024_S1x1024 _ _ ?_
  rw [Shape.rowMajor_val_one, Shape.rowMajor_val_two]
  show d.val = 0 * 1024 + d.val
  omega
theorem x_entry (r : Fin 16384) (d : Fin 1024) : (V m c main_v4 : S16384x1024.Idx → EReal) (ix2 r d) = argX m c (ix3 0 r d) := by
  simp only [V, hostOps0, List.flatten_cons, List.flatten_nil, List.append_nil, List.cons_append, List.nil_append]
  after_results
  refine shapeCast_apply (argX m c) shapeCasts_S1x16384x1024_S16384x1024 _ _ ?_
  rw [Shape.rowMajor_val_three, Shape.rowMajor_val_two]
  show (0 * 16384 + r.val) * 1024 + d.val = r.val * 1024 + d.val
  omega
theorem g_entry (d : Fin 1024) : (V m c main_v5 : S1x1024.Idx → EReal) (ix2 0 d) = argG m c (ix3 0 0 d) := by
  simp only [V, hostOps0, List.flatten_cons, List.flatten_nil, List.append_nil, List.cons_append, List.nil_append]
  after_results
  refine shapeCast_apply (argG m c) shapeCasts_S1x1x1024_S1x1024 _ _ ?_
  rw [Shape.rowMajor_val_three, Shape.rowMajor_val_two]
  show (0 * 1 + 0) * 1024 + d.val = 0 * 1024 + d.val
  omega

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![t.val, 0] := by decide +kernel
theorem N_eq : cfg0.N = 32 := by decide +kernel
theorem point_lt (t : Fin cfg0.N) : t.val < 32 := lt_of_lt_of_eq t.isLt N_eq

/-- A point's row, as a row of the arrays. -/
abbrev rowAt (t : Fin cfg0.N) (r : Fin 512) : Fin 16384 := ⟨512 * t.val + r.val, by have := point_lt t; omega⟩

variable (t : Fin cfg0.N)

theorem z_block (r : Fin 512) (k : Fin 1024) : (iblk m c 0 t : Vec Ideal S512x1024 .bf16) (ix2 r k) = argZ m c (ix3 0 (rowAt t r) k) := by
  refine Eq.trans (congrArg (V m c main_v1 : S16384x1024.Idx → EReal) (funext fun a => Fin.ext ?_)) (z_entry m c (rowAt t r) k)
  refine (Pipeline.Window.rect_emb_val win0_0 t (ix2 r k) a).trans ?_
  rw [index0]
  match a with
  | ⟨0, _⟩ => show t.val * 512 + r.val = 512 * t.val + r.val; omega
  | ⟨1, _⟩ => show 0 * 1024 + k.val = k.val; omega
theorem w_block (k d : Fin 1024) : (iblk m c 1 t : Vec Ideal S1024x1024 .bf16) (ix2 k d) = argW m c (ix2 k d) := by
  refine Eq.trans (congrArg (V m c main_v2 : S1024x1024.Idx → EReal) (funext fun a => Fin.ext ?_)) (w_entry m c (ix2 k d))
  refine (Pipeline.Window.rect_emb_val win0_1 t (ix2 k d) a).trans ?_
  rw [index1]
  match a with
  | ⟨0, _⟩ => show 0 * 1024 + k.val = k.val; omega
  | ⟨1, _⟩ => show 0 * 1024 + d.val = d.val; omega
theorem b_block (d : Fin 1024) : (iblk m c 2 t : Vec Ideal S1x1024 .f32) (ix2 0 d) = argB m c (ix1 d) := by
  refine Eq.trans (congrArg (V m c main_v3 : S1x1024.Idx → EReal) (funext fun a => Fin.ext ?_)) (b_entry m c d)
  refine (Pipeline.Window.rect_emb_val win0_2 t (ix2 0 d) a).trans ?_
  rw [index2]
  match a with
  | ⟨0, _⟩ => rfl
  | ⟨1, _⟩ => show 0 * 1024 + d.val = d.val; omega
theorem x_block (r : Fin 512) (d : Fin 1024) : (iblk m c 3 t : Vec Ideal S512x1024 .f32) (ix2 r d) = argX m c (ix3 0 (rowAt t r) d) := by
  refine Eq.trans (congrArg (V m c main_v4 : S16384x1024.Idx → EReal) (funext fun a => Fin.ext ?_)) (x_entry m c (rowAt t r) d)
  refine (Pipeline.Window.rect_emb_val win0_3 t (ix2 r d) a).trans ?_
  rw [index3]
  match a with
  | ⟨0, _⟩ => show t.val * 512 + r.val = 512 * t.val + r.val; omega
  | ⟨1, _⟩ => show 0 * 1024 + d.val = d.val; omega
theorem g_block (d : Fin 1024) : (iblk m c 4 t : Vec Ideal S1x1024 .f32) (ix2 0 d) = argG m c (ix3 0 0 d) := by
  refine Eq.trans (congrArg (V m c main_v5 : S1x1024.Idx → EReal) (funext fun a => Fin.ext ?_)) (g_entry m c d)
  refine (Pipeline.Window.rect_emb_val win0_4 t (ix2 0 d) a).trans ?_
  rw [index4]
  match a with
  | ⟨0, _⟩ => rfl
  | ⟨1, _⟩ => show 0 * 1024 + d.val = d.val; omega

/-- The product. -/
theorem product_apply (x : FVec Ideal S512x1024 .bf16) (w : FVec Ideal S1024x1024 .bf16) (r : Fin 512) (d : Fin 1024) :
    matmul dot_S512x1024_S1024x1024_S512x1024_1_0_0_1_n_n none x w (constant S512x1024 .f32 0x00000000#32) (ix2 r d) = ∑ k : Fin 1024, x (ix2 r k) * w (ix2 k d) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  refine congrArg₂ (· * ·) (congrArg x (funext fun a => Fin.ext ?_)) (congrArg w (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

theorem pay_apply (z : Vec Ideal S512x1024 .bf16) (w : Vec Ideal S1024x1024 .bf16) (b : Vec Ideal S1x1024 .f32)
    (x : Vec Ideal S512x1024 .f32) (g : Vec Ideal S1x1024 .f32) (r : Fin 512) (d : Fin 1024) :
    k0_pay1 z w b x g (ix2 r d) = x (ix2 r d) + g (ix2 0 d) * ((∑ k : Fin 1024, z (ix2 r k) * w (ix2 k d)) + b (ix2 0 d)) := by
  unfold k0_pay1
  simp only [shapeCast_self]
  rw [addf_apply, mulf_apply, addf_apply, broadcastTo_1b_ab_apply, broadcastTo_1b_ab_apply, product_apply]

theorem zero2 : (![0, 0] : Fin 2 → ℕ) = fun _ => 0 := by
  funext a
  match a with
  | ⟨0, _⟩ => rfl
  | ⟨1, _⟩ => rfl

/-- What a point leaves in its rows. -/
theorem out_apply (r : Fin 512) (d : Fin 1024) :
    out0_5 (iblk m c 0 t) (iblk m c 1 t) (iblk m c 2 t) (iblk m c 3 t) (iblk m c 4 t) (ix2 r d)
      = projected (argZ m c) (argW m c) (argB m c) (argX m c) (argG m c) (rowAt t r) d := by
  unfold out0_5
  rw [View.canon_unit_zero zero2, View.ld_unit_zero zero2, View.ld_unit_zero zero2, View.ld_unit_zero zero2, View.ld_unit_zero zero2, View.ld_unit_zero zero2]
  refine (pay_apply _ _ _ _ _ r d).trans ?_
  unfold projected
  refine congrArg₂ (· + ·) (x_block m c t r d) (congrArg₂ (· * ·) (g_block m c t d) (congrArg₂ (· + ·) ?_ (b_block m c t d)))
  exact Finset.sum_congr rfl fun k _ => congrArg₂ (· * ·) (z_block m c t r k) (w_block m c t k d)

/-- The call's result. -/
def G : S16384x1024.Idx → EReal := fun i => projected (argZ m c) (argW m c) (argB m c) (argX m c) (argG m c) (i 0) (i 1)

theorem flushed_eq : (dats m 0 c).flushed 5 t = ((cfg0.win 5).blk t).view.read (Elt Ideal) (G m c) := by
  rw [Cert.OutletIdeal.Value.flushed5]
  funext y
  have h0 : (y 0).val < 512 := (y 0).isLt
  have h1 : (y 1).val < 1024 := (y 1).isLt
  have hy : (y : S512x1024.Idx) = ix2 ⟨(y 0).val, h0⟩ ⟨(y 1).val, h1⟩ := funext fun a => Fin.ext (by
    match a with
    | ⟨0, _⟩ => rfl
    | ⟨1, _⟩ => rfl)
  have hi : (((cfg0.win 5).blk t).view.emb y : S16384x1024.Idx) = ix2 (rowAt t ⟨(y 0).val, h0⟩) ⟨(y 1).val, h1⟩ := funext fun a => Fin.ext (by
    refine (Pipeline.Window.rect_emb_val win0_5 t y a).trans ?_
    rw [index5]
    match a with
    | ⟨0, _⟩ => show t.val * 512 + (y 0).val = 512 * t.val + (y 0).val; omega
    | ⟨1, _⟩ => show 0 * 1024 + (y 1).val = (y 1).val; omega)
  refine Eq.trans ?_ (congrArg (G m c) hi).symm
  refine Eq.trans ?_ (out_apply m c t ⟨(y 0).val, h0⟩ ⟨(y 1).val, h1⟩)
  exact congrArg (out0_5 (iblk m c 0 t) (iblk m c 1 t) (iblk m c 2 t) (iblk m c 3 t) (iblk m c 4 t)) hy

theorem mem_block (i : S16384x1024.Idx) :
    i ∈ ((cfg0.win 5).blk t).view.set ↔ ∀ a : Fin 2, win0_5.index t a * S512x1024.size a ≤ (i a).val
      ∧ (i a).val < win0_5.index t a * S512x1024.size a + S512x1024.size a := by
  have key : ∀ q : Rect S16384x1024, i ∈ ((View.whole main_v6).slice q).set ↔ i ∈ q.set := fun q => by rw [View.set_slice_whole]
  refine (key (win0_5.rect t)).trans ?_
  exact Rect.mem_set_unit

theorem final : (dats m 0 c).arrAt 5 cfg0.N = G m c := by
  refine (dats m 0 c).arrAt_eq_of_cover 5 _ (fun t _ => flushed_eq m c t) fun (i : S16384x1024.Idx) => ?_
  have h0 : (i 0).val < 16384 := (i 0).isLt
  have h1 : (i 1).val < 1024 := (i 1).isLt
  refine ⟨⟨(i 0).val / 512, lt_of_lt_of_eq (by omega) N_eq.symm⟩, flush0_5 _, ?_⟩
  refine (mem_block _ i).mpr fun a => ?_
  rw [index5]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

end Cert.OutletIdeal.Out

namespace Cert.OutletRefIdeal.Out

open Cert.OutletRefIdeal Cert.OutletRefIdeal.Gen Cert.OutletRefIdeal.Read
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx
open Cert.OutletIdeal.Out (projected)

variable (z : FVec Ideal S1x16384x1024 .f32) (w : FVec Ideal S1024x1024 .f32) (b : FVec Ideal S1024 .f32) (x : FVec Ideal S1x16384x1024 .f32) (g : FVec Ideal S1x1x1024 .f32)

theorem result_entry (i : S16384x1024.Idx) : val_main_v7 (F := Ideal) z w b x g i = projected z w b x g (i 0) (i 1) := by
  have h0 : (i 0).val < 16384 := (i 0).isLt
  have h1 : (i 1).val < 1024 := (i 1).isLt
  have e : idx_main_v7 i = ix3 0 ⟨(i 0).val, h0⟩ ⟨(i 1).val, h1⟩ := funext fun q => Fin.ext (by
    match q with
    | ⟨0, _⟩ => rfl
    | ⟨1, _⟩ => show ((i 0).val * 1024 + (i 1).val) / 1024 % 16384 = (i 0).val; omega
    | ⟨2, _⟩ => show ((i 0).val * 1024 + (i 1).val) % 1024 = (i 1).val; omega)
  have eg : idx_main_v4 (ix3 0 ⟨(i 0).val, h0⟩ ⟨(i 1).val, h1⟩) = ix3 0 0 ⟨(i 1).val, h1⟩ := funext fun q => Fin.ext (by
    match q with
    | ⟨0, _⟩ => rfl
    | ⟨1, _⟩ => rfl
    | ⟨2, _⟩ => rfl)
  have el : ∀ k : Fin 1024, lidx_main_v0 (ix3 0 ⟨(i 0).val, h0⟩ ⟨(i 1).val, h1⟩) k = ix3 0 ⟨(i 0).val, h0⟩ k := fun k => funext fun q => Fin.ext (by
    match q with
    | ⟨0, _⟩ => rfl
    | ⟨1, _⟩ => rfl
    | ⟨2, _⟩ => rfl)
  have er : ∀ k : Fin 1024, ridx_main_v0 (ix3 0 ⟨(i 0).val, h0⟩ ⟨(i 1).val, h1⟩) k = ix2 k ⟨(i 1).val, h1⟩ := fun k => funext fun q => Fin.ext (by
    match q with
    | ⟨0, _⟩ => rfl
    | ⟨1, _⟩ => rfl)
  have eb : idx_main_v1 (idx_main_v2 (ix3 0 ⟨(i 0).val, h0⟩ ⟨(i 1).val, h1⟩)) = ix1 ⟨(i 1).val, h1⟩ := funext fun q => Fin.ext (by
    match q with
    | ⟨0, _⟩ => rfl)
  rw [val_main_v7_apply, e, val_main_v6_apply, val_main_v5_apply, val_main_v4_apply, eg, val_main_v3_apply, val_main_v2_apply, val_main_v1_apply, eb, val_main_v0_apply]
  unfold projected
  refine congrArg (x (ix3 0 ⟨(i 0).val, h0⟩ ⟨(i 1).val, h1⟩) + ·) (congrArg (g (ix3 0 0 ⟨(i 1).val, h1⟩) * ·) (congrArg (· + b (ix1 ⟨(i 1).val, h1⟩)) ?_))
  exact Finset.sum_congr rfl fun k _ => congrArg₂ (· * ·) (congrArg z (el k)) (congrArg w (er k))

end Cert.OutletRefIdeal.Out

namespace Cert.Out.Outlet

open Idealize.ShloMosaic Idealize.ShloMosaic.TcCoe Idealize.SL.Sem

theorem algebraic : Cert.algebraic_OutletIdeal_OutletRefIdeal := by
  intro m g m' g' _ hargs
  refine ⟨fun c => Cert.OutletIdeal.Out.G m c, (θ_run Cert.OutletIdeal.defs _ _).mono (fun r h c => ⟨(h c).1.trans (Cert.OutletIdeal.Out.final m c), (h c).2⟩) (Cert.OutletIdeal.Value.run_blocks (F := Ideal) m g), ?_⟩
  refine (θ_run Cert.OutletRefIdeal.defs _ _).mono (fun r h c => ⟨(h c).1.trans ?_, (h c).2⟩) (Cert.OutletRefIdeal.Value.run (F := Ideal) m' g')
  obtain ⟨a0, a1, a2, a3, a4⟩ := hargs c
  refine (Cert.OutletRefIdeal.Read.val_main_v7_eq (F := Ideal) _ _ _ _ _).trans ?_
  rw [a0, a1, a2, a3, a4]
  funext i
  exact Cert.OutletRefIdeal.Out.result_entry _ _ _ _ _ i

theorem frame_reference (m : (ℓ : Loc Cert.OutletRefIdeal.nD Cert.OutletRefIdeal.τ Cert.OutletRefIdeal.sig) → Buf (Elt Ideal) ℓ)
    (g : Dev Cert.OutletRefIdeal.nD → PrngReg) :
    θ_run (Cert.OutletRefIdeal.defs (F := Ideal)) (onTc (τ := Cert.OutletRefIdeal.τ) (Cert.OutletRefIdeal.main (F := Ideal))) ⟨m, fun _ => 0, g⟩
      (fun r => (∀ c : Dev Cert.OutletRefIdeal.nD,
        r.2.mem ((c.tc : Thread Cert.OutletRefIdeal.nD Cert.OutletRefIdeal.τ).loc Cert.OutletRefIdeal.main_arg0) = m ((c.tc : Thread Cert.OutletRefIdeal.nD Cert.OutletRefIdeal.τ).loc Cert.OutletRefIdeal.main_arg0)
        ∧ r.2.mem ((c.tc : Thread Cert.OutletRefIdeal.nD Cert.OutletRefIdeal.τ).loc Cert.OutletRefIdeal.main_arg1) = m ((c.tc : Thread Cert.OutletRefIdeal.nD Cert.OutletRefIdeal.τ).loc Cert.OutletRefIdeal.main_arg1)
        ∧ r.2.mem ((c.tc : Thread Cert.OutletRefIdeal.nD Cert.OutletRefIdeal.τ).loc Cert.OutletRefIdeal.main_arg2) = m ((c.tc : Thread Cert.OutletRefIdeal.nD Cert.OutletRefIdeal.τ).loc Cert.OutletRefIdeal.main_arg2)
        ∧ r.2.mem ((c.tc : Thread Cert.OutletRefIdeal.nD Cert.OutletRefIdeal.τ).loc Cert.OutletRefIdeal.main_arg3) = m ((c.tc : Thread Cert.OutletRefIdeal.nD Cert.OutletRefIdeal.τ).loc Cert.OutletRefIdeal.main_arg3)
        ∧ r.2.mem ((c.tc : Thread Cert.OutletRefIdeal.nD Cert.OutletRefIdeal.τ).loc Cert.OutletRefIdeal.main_arg4) = m ((c.tc : Thread Cert.OutletRefIdeal.nD Cert.OutletRefIdeal.τ).loc Cert.OutletRefIdeal.main_arg4))
        ∧ r.2.sem = fun _ => 0) :=
  (θ_run Cert.OutletRefIdeal.defs _ _).mono (fun r h => ⟨fun c => (h c).2, sem_eq_zero_of_no_sems (by decide) r.2⟩)
    (Cert.OutletRefIdeal.Value.run (F := Ideal) m g)

end Cert.Out.Outlet
-- ==== Proof.Out.Inlet.lean ====
/- The convolution mixer's input: the norm, the projection and the short convolution, as the call leaves them and as the reference has them. -/
module

public import proofs.«01_k».proof.Proof.Gen.InletIdeal.Value
public import proofs.«01_k».proof.Proof.Gen.InletRefIdeal.Read
public import proofs.«01_k».proof.Defs
public import Idealize.ShloMosaic.Lib.Claim
public import Idealize.ShloMosaic.Lib.KernelVsHost
public import Idealize.ShloMosaic.Lib.Pointwise
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.InletIdeal.Out

open Cert.InletIdeal Cert.InletIdeal.Gen
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx

/-- A row divided by its root mean square, scaled, and modulated. -/
def normed (x g sh sc : Fin 1024 → EReal) (k : Fin 1024) : EReal :=
  x k * Ideal.rsqrt (Ideal.div (∑ q : Fin 1024, x q * x q) (Ideal.ofBits .f32 0x44800000#32) + Ideal.ofBits .f32 0x358637BD#32) * g k
    * (Ideal.ofBits .f32 0x3F800000#32 + sc k) + sh k

/-- The row projected. -/
def projected (x g sh sc : Fin 1024 → EReal) (w : S1024x3072.Idx → EReal) (j : Fin 3072) : EReal :=
  ∑ k : Fin 1024, normed x g sh sc k * w (ix2 k j)

/-- The product. -/
theorem product_apply (x : FVec Ideal S272x1024 .bf16) (w : FVec Ideal S1024x3072 .bf16) (r : Fin 272) (d : Fin 3072) :
    matmul dot_S272x1024_S1024x3072_S272x3072_1_0_0_1_n_n none x w (constant S272x3072 .f32 0x00000000#32) (ix2 r d) = ∑ k : Fin 1024, x (ix2 r k) * w (ix2 k d) := by
  simp only [matmul]
  rw [Ideal.matmul_constant_zero_apply, ← Equiv.sum_comp (contrEquiv1 dot_S272x1024_S1024x3072_S272x3072_1_0_0_1_n_n 1024 rfl rfl).symm]
  refine Finset.sum_congr rfl fun k _ => ?_
  have hk := contrEquiv1_symm_val dot_S272x1024_S1024x3072_S272x3072_1_0_0_1_n_n 1024 rfl rfl k
  refine congrArg₂ (· * ·) (congrArg x (funext fun a => Fin.ext ?_)) (congrArg w (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

/-- A row of the three blocks laid end to end. -/
def joined (a : FVec Ideal S8x1024 .f32) (b : FVec Ideal S256x1024 .f32) (c : FVec Ideal S8x1024 .f32) : FVec Ideal S272x1024 .f32 :=
  concatenate S272x1024 0 [⟨S8x1024, shapeCast S8x1024 a shapeCasts_S8x1024_S8x1024⟩, ⟨S256x1024, shapeCast S256x1024 b shapeCasts_S256x1024_S256x1024⟩,
    ⟨S8x1024, shapeCast S8x1024 c shapeCasts_S8x1024_S8x1024⟩] concatenates_S8x1024_S256x1024_S8x1024_S272x1024_d0

/-- The rows normed and modulated. -/
def normedAll (x : FVec Ideal S272x1024 .f32) (g sh sc : FVec Ideal S1x1024 .f32) : FVec Ideal S272x1024 .bf16 :=
  truncf .bf16 (addf (mulf (mulf (mulf x (broadcastTo S272x1024 (rsqrt (addf (divf (shapeCast S272x1
    (multiReduction .add [1] S272 (mulf x x) 0x00000000#32 reduces_S272x1024_S272 (.inl rfl) rfl) shapeCasts_S272_S272x1)
      (broadcast S272x1 (Scalar.ofBits .f32 0x44800000#32))) (broadcast S272x1 (Scalar.ofBits .f32 0x358637BD#32)))) broadcasts_S272x1_S272x1024))
    (broadcastTo S272x1024 g broadcasts_S1x1024_S272x1024))
    (broadcastTo S272x1024 (addf (broadcast S1x1024 (Scalar.ofBits .f32 0x3F800000#32)) sc) broadcasts_S1x1024_S272x1024))
    (broadcastTo S272x1024 sh broadcasts_S1x1024_S272x1024)) bitsLt_bf16_f32

theorem column_apply {α : Type} (v : S272x1.Idx → α) {n : Nat} (h : S272x1.Broadcasts ⟨2, ![272, n]⟩) (i : Fin 272) (j : Fin n) :
    broadcastTo ⟨2, ![272, n]⟩ v h (ix2 i j) = v (ix2 i 0) :=
  broadcastTo_apply v h (ix2 i j) (ix2 i 0) fun ax => match ax with
    | ⟨0, _⟩ => rfl
    | ⟨1, _⟩ => rfl

theorem normedAll_apply (x : FVec Ideal S272x1024 .f32) (g sh sc : FVec Ideal S1x1024 .f32) (i : Fin 272) (k : Fin 1024) :
    normedAll x g sh sc (ix2 i k)
      = normed (fun q => x (ix2 i q)) (fun q => g (ix2 0 q)) (fun q => sh (ix2 0 q)) (fun q => sc (ix2 0 q)) k := by
  have hs : multiReduction .add [1] S272 (mulf x x) 0x00000000#32 reduces_S272x1024_S272 (.inl rfl) rfl (ix1 i)
      = ∑ q : Fin 1024, x (ix2 i q) * x (ix2 i q) :=
    (Ideal.multiReduction_add_single (mulf x x) _ reduces_S272x1024_S272 (.inl rfl) rfl (ix1 i)).trans
      (Finset.sum_congr rfl fun q _ => by
        rw [show reduces_S272x1024_S272.lift (ix1 i) q = ix2 i q from funext fun a => Fin.ext (by match a with | ⟨0, _⟩ => rfl | ⟨1, _⟩ => rfl)]
        rfl)
  have e : rsqrt (addf (divf (shapeCast S272x1 (multiReduction .add [1] S272 (mulf x x) 0x00000000#32 reduces_S272x1024_S272 (.inl rfl) rfl) shapeCasts_S272_S272x1)
      (broadcast S272x1 (Scalar.ofBits .f32 0x44800000#32))) (broadcast S272x1 (Scalar.ofBits .f32 0x358637BD#32))) (ix2 i 0)
      = Ideal.rsqrt (Ideal.div (∑ q : Fin 1024, x (ix2 i q) * x (ix2 i q)) (Ideal.ofBits .f32 0x44800000#32) + Ideal.ofBits .f32 0x358637BD#32) :=
    congrArg (fun z => Ideal.rsqrt (Ideal.div z (Ideal.ofBits .f32 0x44800000#32) + Ideal.ofBits .f32 0x358637BD#32))
      ((shapeCast_a_a1_apply _ shapeCasts_S272_S272x1 i 0).trans hs)
  exact congrArg₂ (· + ·) (congrArg₂ (· * ·) (congrArg₂ (· * ·) (congrArg (x (ix2 i k) * ·) ((column_apply _ _ i k).trans e))
      (broadcastTo_1b_ab_apply g _ i k)) (broadcastTo_1b_ab_apply (addf (broadcast S1x1024 (Scalar.ofBits .f32 0x3F800000#32)) sc) _ i k))
    (broadcastTo_1b_ab_apply sh _ i k)

theorem pay2_apply (a : Vec Ideal S8x1024 .f32) (b : Vec Ideal S256x1024 .f32) (c : Vec Ideal S8x1024 .f32) (g sh sc : Vec Ideal S1x1024 .f32)
    (w : Vec Ideal S1024x3072 .bf16) (i : Fin 272) (j : Fin 3072) :
    k0_pay2 a b c g sh sc w (ix2 i j)
      = projected (fun k => joined a b c (ix2 i k)) (fun k => g (ix2 0 k)) (fun k => sh (ix2 0 k)) (fun k => sc (ix2 0 k)) w j := by
  have e : k0_pay2 a b c g sh sc w = matmul dot_S272x1024_S1024x3072_S272x3072_1_0_0_1_n_n none
      (normedAll (joined a b c) (shapeCast S1x1024 g shapeCasts_S1x1024_S1x1024) (shapeCast S1x1024 sh shapeCasts_S1x1024_S1x1024) (shapeCast S1x1024 sc shapeCasts_S1x1024_S1x1024))
      (shapeCast S1024x3072 w shapeCasts_S1024x3072_S1024x3072) (constant S272x3072 .f32 0x00000000#32) := rfl
  rw [e, shapeCast_self, shapeCast_self, shapeCast_self, shapeCast_self, product_apply]
  exact Finset.sum_congr rfl fun k _ => congrArg (· * w (ix2 k j)) (normedAll_apply _ _ _ _ _ _)

/-- The mask of the rows that exist. -/
theorem mask : ∀ (t : Fin 64) (i : Fin 272),
    IntOp.andi (IntOp.cmpi .sge (IntOp.addi (Scalar.subi (Scalar.muli (BitVec.ofNat 32 t.val) 256#32) 8#32) (BitVec.ofNat 32 i.val)) 0#32)
      (IntOp.cmpi .slt (IntOp.addi (Scalar.subi (Scalar.muli (BitVec.ofNat 32 t.val) 256#32) 8#32) (BitVec.ofNat 32 i.val)) 16384#32)
      = if 8 ≤ 256 * t.val + i.val ∧ 256 * t.val + i.val < 16392 then 1#1 else 0#1 := by
  decide +kernel

/-- A row where it exists, zero elsewhere. -/
def kept (t : Fin 64) (p : S272x3072.Idx → EReal) (j : Fin 3072) (i : Fin 272) : EReal :=
  if 8 ≤ 256 * t.val + i.val ∧ 256 * t.val + i.val < 16392 then p (ix2 i j) else 0

theorem pay4_apply (t : Fin 64) (p q : FVec Ideal S272x3072 .f32) (sw : Vec Ideal S3x3072 .f32) (sb : Vec Ideal S1x3072 .f32) (r : Fin 256) (j : Fin 3072) :
    k0_pay4 (BitVec.ofNat 32 t.val) p q sw sb (ix2 r j)
      = sw (ix2 0 j) * kept t (addf p q) j ⟨r.val + 7, by omega⟩ + sw (ix2 1 j) * kept t (addf p q) j ⟨r.val + 8, by omega⟩
        + sw (ix2 2 j) * kept t (addf p q) j ⟨r.val + 9, by omega⟩ + sb (ix2 0 j) := by
  have key : ∀ (mk : IVec S272x1 1) (i : Fin 272), mk (ix2 i 0) = (if 8 ≤ 256 * t.val + i.val ∧ 256 * t.val + i.val < 16392 then 1#1 else 0#1) →
      select (broadcastTo S272x3072 mk broadcasts_S272x1_S272x3072) (addf p q) (broadcast S272x3072 (Scalar.ofBits (F := Ideal) .f32 0x00000000#32)) (ix2 i j)
        = kept t (addf p q) j i := fun mk i h => by
    rw [select_apply, column_apply, h]
    unfold kept
    split
    · rfl
    · exact Ideal.ofBits_zero_f32
  unfold k0_pay4
  simp only [shapeCast_self]
  generalize hz : select (broadcastTo S272x3072 (andi (cmpi .sge (addi (broadcast S272x1 (Scalar.subi (Scalar.muli (BitVec.ofNat 32 t.val) 256#32) 8#32)) (iota .tc S272x1 32 [0] iota_S272x1_d0_w32)) (broadcast S272x1 0#32))
      (cmpi .slt (addi (broadcast S272x1 (Scalar.subi (Scalar.muli (BitVec.ofNat 32 t.val) 256#32) 8#32)) (iota .tc S272x1 32 [0] iota_S272x1_d0_w32)) (broadcast S272x1 16384#32))) broadcasts_S272x1_S272x3072)
      (addf p q) (broadcast S272x3072 (Scalar.ofBits (F := Ideal) .f32 0x00000000#32)) = z
  have hk : ∀ i : Fin 272, z (ix2 i j) = kept t (addf p q) j i := fun i => by
    rw [← hz]
    refine key _ i ?_
    refine Eq.trans ?_ (mask t i)
    pointwise
  clear hz key
  rw [← hk, ← hk, ← hk]
  have e1 : extractStridedSlice S256x3072 ![8, 0] (dynamicRotate 0 1#32 none z rotates_S272x3072_d0) slices_S272x3072_o8_0_S256x3072 (ix2 r j) = z (ix2 ⟨r.val + 7, by omega⟩ j) :=
    (extractStridedSlice_apply _ _ _ (ix2 r j) (ix2 ⟨r.val + 8, by omega⟩ j) (fun a => match a with
      | ⟨0, _⟩ => by show r.val + 8 = 8 + r.val; omega
      | ⟨1, _⟩ => by show j.val = 0 + j.val; omega)).trans
    (dynamicRotate_apply 0 1#32 z _ _ (ix2 ⟨r.val + 7, by omega⟩ j) (fun a => match a with
      | ⟨0, _⟩ => by show r.val + 7 = (r.val + 8 + 272 - 1) % 272; omega
      | ⟨1, _⟩ => rfl))
  have e2 : extractStridedSlice S256x3072 ![8, 0] z slices_S272x3072_o8_0_S256x3072 (ix2 r j) = z (ix2 ⟨r.val + 8, by omega⟩ j) :=
    extractStridedSlice_apply _ _ _ (ix2 r j) (ix2 ⟨r.val + 8, by omega⟩ j) (fun a => match a with
      | ⟨0, _⟩ => by show r.val + 8 = 8 + r.val; omega
      | ⟨1, _⟩ => by show j.val = 0 + j.val; omega)
  have e3 : extractStridedSlice S256x3072 ![8, 0] (dynamicRotate 0 271#32 none z rotates_S272x3072_d0) slices_S272x3072_o8_0_S256x3072 (ix2 r j) = z (ix2 ⟨r.val + 9, by omega⟩ j) :=
    (extractStridedSlice_apply _ _ _ (ix2 r j) (ix2 ⟨r.val + 8, by omega⟩ j) (fun a => match a with
      | ⟨0, _⟩ => by show r.val + 8 = 8 + r.val; omega
      | ⟨1, _⟩ => by show j.val = 0 + j.val; omega)).trans
    (dynamicRotate_apply 0 271#32 z _ _ (ix2 ⟨r.val + 9, by omega⟩ j) (fun a => match a with
      | ⟨0, _⟩ => by show r.val + 9 = (r.val + 8 + 272 - 271) % 272; omega
      | ⟨1, _⟩ => rfl))
  have es : ∀ (n : Fin 3) (h : S3x3072.Slices ![n.val, 0] S1x3072), broadcastTo S256x3072 (extractStridedSlice S1x3072 ![n.val, 0] sw h) broadcasts_S1x3072_S256x3072 (ix2 r j) = sw (ix2 n j) := fun n h => by
    rw [broadcastTo_1b_ab_apply]
    exact extractStridedSlice_apply _ _ _ _ (ix2 n j) (fun a => match a with
      | ⟨0, _⟩ => by show n.val = n.val + 0; omega
      | ⟨1, _⟩ => by show j.val = 0 + j.val; omega)
  rw [addf_apply, addf_apply, addf_apply, mulf_apply, mulf_apply, mulf_apply, e1, e2, e3, broadcastTo_1b_ab_apply sb]
  exact congrArg (· + sb (ix2 0 j)) (congrArg₂ (· + ·) (congrArg₂ (· + ·) (congrArg (· * _) (es 0 _)) (congrArg (· * _) (es 1 _))) (congrArg (· * _) (es 2 _)))

section Values

variable (x : FVec Ideal S1x16384x1024 .f32) (g : FVec Ideal S1024 .f32) (sh sc : FVec Ideal S1x1x1024 .f32) (w : FVec Ideal S1024x3072 .f32) (b : FVec Ideal S3072 .f32)
  (sw : FVec Ideal S3x3072 .f32) (sb : FVec Ideal S3072 .f32)

/-- A token's row normed, modulated and projected. -/
def token (r : Fin 16384) (j : Fin 3072) : EReal :=
  projected (fun k => x (ix3 0 r k)) (fun k => g (ix1 k)) (fun k => sh (ix3 0 0 k)) (fun k => sc (ix3 0 0 k)) w j + b (ix1 j)

/-- The tokens' rows between one row of zeros and another. -/
def padded (n : ℕ) (j : Fin 3072) : EReal :=
  if h : 1 ≤ n ∧ n < 16385 then token x g sh sc w b ⟨n - 1, by omega⟩ j else 0

/-- The short convolution along the tokens. -/
def short (r : Fin 16384) (j : Fin 3072) : EReal :=
  sw (ix2 0 j) * padded x g sh sc w b r.val j + sw (ix2 1 j) * padded x g sh sc w b (r.val + 1) j + sw (ix2 2 j) * padded x g sh sc w b (r.val + 2) j + sb (ix1 j)

end Values

variable (m : (ℓ : Loc nD τ sig) → Buf (Elt Ideal) ℓ) (c : Dev nD)

/-- The arguments as launched. -/
def argX : FVec Ideal S1x16384x1024 .f32 := m ((c : Thread nD τ).loc main_arg0)
def argG : FVec Ideal S1024 .f32 := m ((c : Thread nD τ).loc main_arg1)
def argSh : FVec Ideal S1x1x1024 .f32 := m ((c : Thread nD τ).loc main_arg2)
def argSc : FVec Ideal S1x1x1024 .f32 := m ((c : Thread nD τ).loc main_arg3)
def argW : FVec Ideal S1024x3072 .f32 := m ((c : Thread nD τ).loc main_arg4)
def argB : FVec Ideal S3072 .f32 := m ((c : Thread nD τ).loc main_arg5)
def argSw : FVec Ideal S3x3072 .f32 := m ((c : Thread nD τ).loc main_arg6)
def argSb : FVec Ideal S3072 .f32 := m ((c : Thread nD τ).loc main_arg7)

/-- The convolution's rows of the arguments. -/
abbrev shortM (r : Fin 16384) (j : Fin 3072) : EReal :=
  short (argX m c) (argG m c) (argSh m c) (argSc m c) (argW m c) (argB m c) (argSw m c) (argSb m c) r j

/-- The arrays as the call takes them. -/
theorem x_entry (r : Fin 16384) (k : Fin 1024) : (V m c main_v0 : S16384x1024.Idx → EReal) (ix2 r k) = argX m c (ix3 0 r k) := by
  simp only [V, hostOps0, List.flatten_cons, List.flatten_nil, List.append_nil, List.cons_append, List.nil_append]
  after_results
  refine shapeCast_apply (argX m c) shapeCasts_S1x16384x1024_S16384x1024 _ _ ?_
  rw [Shape.rowMajor_val_three, Shape.rowMajor_val_two]
  show (0 * 16384 + r.val) * 1024 + k.val = r.val * 1024 + k.val
  omega
theorem g_entry (d : Fin 1024) : (V m c main_v1 : S1x1024.Idx → EReal) (ix2 0 d) = argG m c (ix1 d) := by
  simp only [V, hostOps0, List.flatten_cons, List.flatten_nil, List.append_nil, List.cons_append, List.nil_append]
  after_results
  refine shapeCast_apply (argG m c) shapeCasts_S1024_S1x1024 _ _ ?_
  rw [Shape.rowMajor_val_one, Shape.rowMajor_val_two]
  show d.val = 0 * 1024 + d.val
  omega
theorem sh_entry (d : Fin 1024) : (V m c main_v2 : S1x1024.Idx → EReal) (ix2 0 d) = argSh m c (ix3 0 0 d) := by
  simp only [V, hostOps0, List.flatten_cons, List.flatten_nil, List.append_nil, List.cons_append, List.nil_append]
  after_results
  refine shapeCast_apply (argSh m c) shapeCasts_S1x1x1024_S1x1024 _ _ ?_
  rw [Shape.rowMajor_val_three, Shape.rowMajor_val_two]
  show (0 * 1 + 0) * 1024 + d.val = 0 * 1024 + d.val
  omega
theorem sc_entry (d : Fin 1024) : (V m c main_v3 : S1x1024.Idx → EReal) (ix2 0 d) = argSc m c (ix3 0 0 d) := by
  simp only [V, hostOps0, List.flatten_cons, List.flatten_nil, List.append_nil, List.cons_append, List.nil_append]
  after_results
  refine shapeCast_apply (argSc m c) shapeCasts_S1x1x1024_S1x1024 _ _ ?_
  rw [Shape.rowMajor_val_three, Shape.rowMajor_val_two]
  show (0 * 1 + 0) * 1024 + d.val = 0 * 1024 + d.val
  omega
theorem w_entry (k : Fin 1024) (d : Fin 3072) : (V m c main_v4 : S1024x3072.Idx → EReal) (ix2 k d) = argW m c (ix2 k d) := by
  simp only [V, hostOps0, List.flatten_cons, List.flatten_nil, List.append_nil, List.cons_append, List.nil_append]
  after_results
  rfl
theorem b_entry (d : Fin 3072) : (V m c main_v5 : S1x3072.Idx → EReal) (ix2 0 d) = argB m c (ix1 d) := by
  simp only [V, hostOps0, List.flatten_cons, List.flatten_nil, List.append_nil, List.cons_append, List.nil_append]
  after_results
  refine shapeCast_apply (argB m c) shapeCasts_S3072_S1x3072 _ _ ?_
  rw [Shape.rowMajor_val_one, Shape.rowMajor_val_two]
  show d.val = 0 * 3072 + d.val
  omega
theorem sw_entry (n : Fin 3) (d : Fin 3072) : (V m c main_arg6 : S3x3072.Idx → EReal) (ix2 n d) = argSw m c (ix2 n d) := by
  simp only [V, hostOps0, List.flatten_cons, List.flatten_nil, List.append_nil, List.cons_append, List.nil_append]
  after_results
  rfl
theorem sb_entry (d : Fin 3072) : (V m c main_v6 : S1x3072.Idx → EReal) (ix2 0 d) = argSb m c (ix1 d) := by
  simp only [V, hostOps0, List.flatten_cons, List.flatten_nil, List.append_nil, List.cons_append, List.nil_append]
  after_results
  refine shapeCast_apply (argSb m c) shapeCasts_S3072_S1x3072 _ _ ?_
  rw [Shape.rowMajor_val_one, Shape.rowMajor_val_two]
  show d.val = 0 * 3072 + d.val
  omega

theorem index0 : ∀ t : Fin cfg0.N, win0_0.index t = ![32 * t.val - 1, 0] := by decide +kernel
theorem index1 : ∀ t : Fin cfg0.N, win0_1.index t = ![t.val, 0] := by decide +kernel
theorem index2 : ∀ t : Fin cfg0.N, win0_2.index t = ![min (32 * (t.val + 1)) 2047, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![t.val, 0] := by decide +kernel
theorem index11 : ∀ t : Fin cfg0.N, win0_11.index t = ![t.val, 0] := by decide +kernel
theorem index12 : ∀ t : Fin cfg0.N, win0_12.index t = ![t.val, 0] := by decide +kernel
theorem N_eq : cfg0.N = 64 := by decide +kernel
theorem coord : ∀ t : Fin cfg0.N, ((grid0.coords t) 0).val = t.val := by decide +kernel
theorem point_lt (t : Fin cfg0.N) : t.val < 64 := lt_of_lt_of_eq t.isLt N_eq

/-- A point's row, as a row of the arrays. -/
abbrev rowAt (t : Fin cfg0.N) (r : Fin 256) : Fin 16384 := ⟨256 * t.val + r.val, by have := point_lt t; omega⟩

variable (t : Fin cfg0.N)

theorem before_block (i : Fin 8) (q : Fin 16384) (hq : (32 * t.val - 1) * 8 + i.val = q.val) (k : Fin 1024) :
    (iblk m c 0 t : Vec Ideal S8x1024 .f32) (ix2 i k) = argX m c (ix3 0 q k) := by
  refine Eq.trans (congrArg (V m c main_v0 : S16384x1024.Idx → EReal) (funext fun a => Fin.ext ?_)) (x_entry m c q k)
  refine (Pipeline.Window.rect_emb_val win0_0 t (ix2 i k) a).trans ?_
  rw [index0]
  match a with
  | ⟨0, _⟩ => show (32 * t.val - 1) * 8 + i.val = q.val; omega
  | ⟨1, _⟩ => show 0 * 1024 + k.val = k.val; omega
theorem middle_block (i : Fin 256) (q : Fin 16384) (hq : 256 * t.val + i.val = q.val) (k : Fin 1024) :
    (iblk m c 1 t : Vec Ideal S256x1024 .f32) (ix2 i k) = argX m c (ix3 0 q k) := by
  refine Eq.trans (congrArg (V m c main_v0 : S16384x1024.Idx → EReal) (funext fun a => Fin.ext ?_)) (x_entry m c q k)
  refine (Pipeline.Window.rect_emb_val win0_1 t (ix2 i k) a).trans ?_
  rw [index1]
  match a with
  | ⟨0, _⟩ => show t.val * 256 + i.val = q.val; omega
  | ⟨1, _⟩ => show 0 * 1024 + k.val = k.val; omega
theorem after_block (i : Fin 8) (q : Fin 16384) (hq : min (32 * (t.val + 1)) 2047 * 8 + i.val = q.val) (k : Fin 1024) :
    (iblk m c 2 t : Vec Ideal S8x1024 .f32) (ix2 i k) = argX m c (ix3 0 q k) := by
  refine Eq.trans (congrArg (V m c main_v0 : S16384x1024.Idx → EReal) (funext fun a => Fin.ext ?_)) (x_entry m c q k)
  refine (Pipeline.Window.rect_emb_val win0_2 t (ix2 i k) a).trans ?_
  rw [index2]
  match a with
  | ⟨0, _⟩ => show min (32 * (t.val + 1)) 2047 * 8 + i.val = q.val; omega
  | ⟨1, _⟩ => show 0 * 1024 + k.val = k.val; omega
theorem g_block (d : Fin 1024) : (iblk m c 3 t : Vec Ideal S1x1024 .f32) (ix2 0 d) = argG m c (ix1 d) := by
  refine Eq.trans (congrArg (V m c main_v1 : S1x1024.Idx → EReal) (funext fun a => Fin.ext ?_)) (g_entry m c d)
  refine (Pipeline.Window.rect_emb_val win0_3 t (ix2 0 d) a).trans ?_
  rw [index3]
  match a with
  | ⟨0, _⟩ => rfl
  | ⟨1, _⟩ => show 0 * 1024 + d.val = d.val; omega
theorem sh_block (d : Fin 1024) : (iblk m c 4 t : Vec Ideal S1x1024 .f32) (ix2 0 d) = argSh m c (ix3 0 0 d) := by
  refine Eq.trans (congrArg (V m c main_v2 : S1x1024.Idx → EReal) (funext fun a => Fin.ext ?_)) (sh_entry m c d)
  refine (Pipeline.Window.rect_emb_val win0_4 t (ix2 0 d) a).trans ?_
  rw [index4]
  match a with
  | ⟨0, _⟩ => rfl
  | ⟨1, _⟩ => show 0 * 1024 + d.val = d.val; omega
theorem sc_block (d : Fin 1024) : (iblk m c 5 t : Vec Ideal S1x1024 .f32) (ix2 0 d) = argSc m c (ix3 0 0 d) := by
  refine Eq.trans (congrArg (V m c main_v3 : S1x1024.Idx → EReal) (funext fun a => Fin.ext ?_)) (sc_entry m c d)
  refine (Pipeline.Window.rect_emb_val win0_5 t (ix2 0 d) a).trans ?_
  rw [index5]
  match a with
  | ⟨0, _⟩ => rfl
  | ⟨1, _⟩ => show 0 * 1024 + d.val = d.val; omega
theorem w_block (k : Fin 1024) (d : Fin 3072) : (iblk m c 6 t : Vec Ideal S1024x3072 .bf16) (ix2 k d) = argW m c (ix2 k d) := by
  refine Eq.trans (congrArg (V m c main_v4 : S1024x3072.Idx → EReal) (funext fun a => Fin.ext ?_)) (w_entry m c k d)
  refine (Pipeline.Window.rect_emb_val win0_6 t (ix2 k d) a).trans ?_
  rw [index6]
  match a with
  | ⟨0, _⟩ => show 0 * 1024 + k.val = k.val; omega
  | ⟨1, _⟩ => show 0 * 3072 + d.val = d.val; omega
theorem b_block (d : Fin 3072) : (iblk m c 7 t : Vec Ideal S1x3072 .f32) (ix2 0 d) = argB m c (ix1 d) := by
  refine Eq.trans (congrArg (V m c main_v5 : S1x3072.Idx → EReal) (funext fun a => Fin.ext ?_)) (b_entry m c d)
  refine (Pipeline.Window.rect_emb_val win0_7 t (ix2 0 d) a).trans ?_
  rw [index7]
  match a with
  | ⟨0, _⟩ => rfl
  | ⟨1, _⟩ => show 0 * 3072 + d.val = d.val; omega
theorem sw_block (n : Fin 3) (d : Fin 3072) : (iblk m c 8 t : Vec Ideal S3x3072 .f32) (ix2 n d) = argSw m c (ix2 n d) := by
  refine Eq.trans (congrArg (V m c main_arg6 : S3x3072.Idx → EReal) (funext fun a => Fin.ext ?_)) (sw_entry m c n d)
  refine (Pipeline.Window.rect_emb_val win0_8 t (ix2 n d) a).trans ?_
  rw [index8]
  match a with
  | ⟨0, _⟩ => show 0 * 3 + n.val = n.val; omega
  | ⟨1, _⟩ => show 0 * 3072 + d.val = d.val; omega
theorem sb_block (d : Fin 3072) : (iblk m c 9 t : Vec Ideal S1x3072 .f32) (ix2 0 d) = argSb m c (ix1 d) := by
  refine Eq.trans (congrArg (V m c main_v6 : S1x3072.Idx → EReal) (funext fun a => Fin.ext ?_)) (sb_entry m c d)
  refine (Pipeline.Window.rect_emb_val win0_9 t (ix2 0 d) a).trans ?_
  rw [index9]
  match a with
  | ⟨0, _⟩ => rfl
  | ⟨1, _⟩ => show 0 * 3072 + d.val = d.val; omega

/-- A row of the three blocks that exists is the array's. -/
theorem joined_apply (i : Fin 272) (h : 8 ≤ 256 * t.val + i.val ∧ 256 * t.val + i.val < 16392) (k : Fin 1024) :
    joined (iblk m c 0 t) (iblk m c 1 t) (iblk m c 2 t) (ix2 i k) = argX m c (ix3 0 ⟨256 * t.val + i.val - 8, by omega⟩ k) := by
  have hi := i.isLt
  unfold joined
  by_cases h1 : i.val < 8
  · refine Eq.trans (concatenate_apply_piece 0 _ _ (ix2 i k) 0 (by show 0 < 3; decide) S8x1024 _ rfl rfl 0 rfl (ix2 ⟨i.val, h1⟩ k) (fun a ha => ?_) (Nat.zero_add _)) ?_
    · match a with
      | ⟨0, _⟩ => exact absurd rfl ha
      | ⟨1, _⟩ => rfl
    · rw [shapeCast_self]
      exact before_block m c t _ _ (by show (32 * t.val - 1) * 8 + i.val = 256 * t.val + i.val - 8; omega) k
  by_cases h2 : i.val < 264
  · refine Eq.trans (concatenate_apply_piece 0 _ _ (ix2 i k) 1 (by show 1 < 3; decide) S256x1024 _ rfl rfl 8 rfl (ix2 ⟨i.val - 8, by omega⟩ k) (fun a ha => ?_)
      (by show 8 + (i.val - 8) = i.val; omega)) ?_
    · match a with
      | ⟨0, _⟩ => exact absurd rfl ha
      | ⟨1, _⟩ => rfl
    · rw [shapeCast_self]
      exact middle_block m c t _ _ (by show 256 * t.val + (i.val - 8) = 256 * t.val + i.val - 8; omega) k
  · refine Eq.trans (concatenate_apply_piece 0 _ _ (ix2 i k) 2 (by show 2 < 3; decide) S8x1024 _ rfl rfl 264 rfl (ix2 ⟨i.val - 264, by omega⟩ k) (fun a ha => ?_)
      (by show 264 + (i.val - 264) = i.val; omega)) ?_
    · match a with
      | ⟨0, _⟩ => exact absurd rfl ha
      | ⟨1, _⟩ => rfl
    · rw [shapeCast_self]
      exact after_block m c t _ _ (by show min (32 * (t.val + 1)) 2047 * 8 + (i.val - 264) = 256 * t.val + i.val - 8; omega) k

theorem zero2 : (![0, 0] : Fin 2 → ℕ) = fun _ => 0 := by
  funext a
  match a with
  | ⟨0, _⟩ => rfl
  | ⟨1, _⟩ => rfl

/-- The projected rows of a point. -/
abbrev rowsM : FVec Ideal S272x3072 .f32 := k0_pay8 (grid0.coords t) (iblk m c 0 t) (iblk m c 1 t) (iblk m c 2 t) (iblk m c 3 t) (iblk m c 4 t) (iblk m c 5 t) (iblk m c 6 t) (iblk m c 7 t) (iblk m c 8 t) (iblk m c 9 t)
abbrev biasM : FVec Ideal S272x3072 .f32 := k0_pay9 (grid0.coords t) (iblk m c 0 t) (iblk m c 1 t) (iblk m c 2 t) (iblk m c 3 t) (iblk m c 4 t) (iblk m c 5 t) (iblk m c 6 t) (iblk m c 7 t) (iblk m c 8 t) (iblk m c 9 t)

theorem kept_apply (j : Fin 3072) (i : Fin 272) (n : ℕ) (hn : 256 * t.val + i.val = n + 7) :
    kept ⟨t.val, point_lt t⟩ (addf (rowsM m c t) (biasM m c t)) j i
      = padded (argX m c) (argG m c) (argSh m c) (argSc m c) (argW m c) (argB m c) n j := by
  unfold kept padded
  by_cases h : 8 ≤ 256 * t.val + i.val ∧ 256 * t.val + i.val < 16392
  · rw [if_pos h, dif_pos (show 1 ≤ n ∧ n < 16385 by omega), addf_apply]
    unfold token
    refine congrArg₂ (· + ·) ?_ ?_
    · show k0_pay2 _ _ _ _ _ _ _ _ = _
      rw [View.ld_unit_zero zero2, View.ld_unit_zero zero2, View.ld_unit_zero zero2, View.ld_unit_zero zero2, View.ld_unit_zero zero2, View.ld_unit_zero zero2, View.ld_unit_zero zero2]
      refine (pay2_apply _ _ _ _ _ _ _ i j).trans ?_
      have e : (⟨256 * t.val + i.val - 8, by omega⟩ : Fin 16384) = ⟨n - 1, by omega⟩ := Fin.ext (by show 256 * t.val + i.val - 8 = n - 1; omega)
      rw [show (fun k => joined (iblk m c 0 t) (iblk m c 1 t) (iblk m c 2 t) (ix2 i k)) = fun k => argX m c (ix3 0 ⟨n - 1, by omega⟩ k) from
          funext fun k => (joined_apply m c t i h k).trans (by rw [e]),
        show (fun k => (iblk m c 3 t : Vec Ideal S1x1024 .f32) (ix2 0 k)) = fun k => argG m c (ix1 k) from funext fun k => g_block m c t k,
        show (fun k => (iblk m c 4 t : Vec Ideal S1x1024 .f32) (ix2 0 k)) = fun k => argSh m c (ix3 0 0 k) from funext fun k => sh_block m c t k,
        show (fun k => (iblk m c 5 t : Vec Ideal S1x1024 .f32) (ix2 0 k)) = fun k => argSc m c (ix3 0 0 k) from funext fun k => sc_block m c t k]
      exact Finset.sum_congr rfl fun k _ => congrArg (_ * ·) (w_block m c t k j)
    · show k0_pay3 _ _ = _
      rw [View.ld_unit_zero zero2]
      unfold k0_pay3
      rw [shapeCast_self]
      exact (broadcastTo_1b_ab_apply _ _ i j).trans (b_block m c t j)
  · rw [if_neg h, dif_neg (show ¬(1 ≤ n ∧ n < 16385) by omega)]

theorem mixed_apply (r : Fin 256) (j : Fin 3072) :
    k0_pay4 (BitVec.ofNat 32 ((grid0.coords t) 0).val) (rowsM m c t) (biasM m c t) (iblk m c 8 t) (iblk m c 9 t) (ix2 r j)
      = shortM m c (rowAt t r) j := by
  rw [coord]
  refine (pay4_apply ⟨t.val, point_lt t⟩ _ _ _ _ r j).trans ?_
  unfold shortM short
  refine congrArg₂ (· + ·) (congrArg₂ (· + ·) (congrArg₂ (· + ·) ?_ ?_) ?_) (sb_block m c t j)
  · exact congrArg₂ (· * ·) (sw_block m c t 0 j) (kept_apply m c t j _ _ (by show 256 * t.val + (r.val + 7) = 256 * t.val + r.val + 7; omega))
  · exact congrArg₂ (· * ·) (sw_block m c t 1 j) (kept_apply m c t j _ _ (by show 256 * t.val + (r.val + 8) = 256 * t.val + r.val + 1 + 7; omega))
  · exact congrArg₂ (· * ·) (sw_block m c t 2 j) (kept_apply m c t j _ _ (by show 256 * t.val + (r.val + 9) = 256 * t.val + r.val + 2 + 7; omega))

/-- One of the call's results: the columns from `o` on. -/
def G (o : ℕ) (ho : o + 1024 ≤ 3072) : S16384x1024.Idx → EReal := fun i =>
  shortM m c (i 0) ⟨o + (i 1).val, by have h : (i 1).val < 1024 := (i 1).isLt; omega⟩

theorem out10_apply (r : Fin 256) (d : Fin 1024) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r d)
      = shortM m c (rowAt t r) ⟨0 + d.val, by omega⟩ := by
  unfold out0_10
  rw [View.canon_unit_zero zero2, View.ld_unit_zero zero2, View.ld_unit_zero zero2]
  refine Eq.trans ?_ (mixed_apply m c t r ⟨0 + d.val, by omega⟩)
  unfold k0_pay5
  rw [truncf_apply]
  exact extractStridedSlice_apply _ _ _ (ix2 r d) (ix2 r (⟨0 + d.val, by omega⟩ : Fin 3072)) (fun a => match a with
    | ⟨0, _⟩ => by show r.val = 0 + r.val; omega
    | ⟨1, _⟩ => rfl)

theorem flushed10_eq : (dats m 0 c).flushed 10 t = ((cfg0.win 10).blk t).view.read (Elt Ideal) (G m c 0 (by omega)) := by
  rw [Cert.InletIdeal.Value.flushed10]
  funext y
  have h0 : (y 0).val < 256 := (y 0).isLt
  have h1 : (y 1).val < 1024 := (y 1).isLt
  have hy : (y : S256x1024.Idx) = ix2 ⟨(y 0).val, h0⟩ ⟨(y 1).val, h1⟩ := funext fun a => Fin.ext (by
    match a with
    | ⟨0, _⟩ => rfl
    | ⟨1, _⟩ => rfl)
  have hi : (((cfg0.win 10).blk t).view.emb y : S16384x1024.Idx) = ix2 (rowAt t ⟨(y 0).val, h0⟩) ⟨(y 1).val, h1⟩ := funext fun a => Fin.ext (by
    refine (Pipeline.Window.rect_emb_val win0_10 t y a).trans ?_
    rw [index10]
    match a with
    | ⟨0, _⟩ => show t.val * 256 + (y 0).val = 256 * t.val + (y 0).val; omega
    | ⟨1, _⟩ => show 0 * 1024 + (y 1).val = (y 1).val; omega)
  refine Eq.trans ?_ (congrArg (G m c 0 (by omega)) hi).symm
  refine Eq.trans ?_ (out10_apply m c t ⟨(y 0).val, h0⟩ ⟨(y 1).val, h1⟩)
  exact congrArg (out0_10 (grid0.coords t) (iblk m c 0 t) (iblk m c 1 t) (iblk m c 2 t) (iblk m c 3 t) (iblk m c 4 t) (iblk m c 5 t) (iblk m c 6 t) (iblk m c 7 t) (iblk m c 8 t) (iblk m c 9 t)) hy

theorem mem_block10 (i : S16384x1024.Idx) :
    i ∈ ((cfg0.win 10).blk t).view.set ↔ ∀ a : Fin 2, win0_10.index t a * S256x1024.size a ≤ (i a).val
      ∧ (i a).val < win0_10.index t a * S256x1024.size a + S256x1024.size a := by
  have key : ∀ q : Rect S16384x1024, i ∈ ((View.whole main_v7_0).slice q).set ↔ i ∈ q.set := fun q => by rw [View.set_slice_whole]
  refine (key (win0_10.rect t)).trans ?_
  exact Rect.mem_set_unit

theorem final10 : (dats m 0 c).arrAt 10 cfg0.N = G m c 0 (by omega) := by
  refine (dats m 0 c).arrAt_eq_of_cover 10 _ (fun t _ => flushed10_eq m c t) fun (i : S16384x1024.Idx) => ?_
  have h0 : (i 0).val < 16384 := (i 0).isLt
  have h1 : (i 1).val < 1024 := (i 1).isLt
  refine ⟨⟨(i 0).val / 256, lt_of_lt_of_eq (by omega) N_eq.symm⟩, flush0_10 _, ?_⟩
  refine (mem_block10 _ i).mpr fun a => ?_
  rw [index10]
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem out11_apply (r : Fin 256) (d : Fin 1024) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r d)
      = shortM m c (rowAt t r) ⟨1024 + d.val, by omega⟩ := by
  unfold out0_11
  rw [View.canon_unit_zero zero2, View.ld_unit_zero zero2, View.ld_unit_zero zero2]
  refine Eq.trans ?_ (mixed_apply m c t r ⟨1024 + d.val, by omega⟩)
  unfold k0_pay6
  rw [truncf_apply]
  exact extractStridedSlice_apply _ _ _ (ix2 r d) (ix2 r (⟨1024 + d.val, by omega⟩ : Fin 3072)) (fun a => match a with
    | ⟨0, _⟩ => by show r.val = 0 + r.val; omega
    | ⟨1, _⟩ => rfl)

theorem flushed11_eq : (dats m 0 c).flushed 11 t = ((cfg0.win 11).blk t).view.read (Elt Ideal) (G m c 1024 (by omega)) := by
  rw [Cert.InletIdeal.Value.flushed11]
  funext y
  have h0 : (y 0).val < 256 := (y 0).isLt
  have h1 : (y 1).val < 1024 := (y 1).isLt
  have hy : (y : S256x1024.Idx) = ix2 ⟨(y 0).val, h0⟩ ⟨(y 1).val, h1⟩ := funext fun a => Fin.ext (by
    match a with
    | ⟨0, _⟩ => rfl
    | ⟨1, _⟩ => rfl)
  have hi : (((cfg0.win 11).blk t).view.emb y : S16384x1024.Idx) = ix2 (rowAt t ⟨(y 0).val, h0⟩) ⟨(y 1).val, h1⟩ := funext fun a => Fin.ext (by
    refine (Pipeline.Window.rect_emb_val win0_11 t y a).trans ?_
    rw [index11]
    match a with
    | ⟨0, _⟩ => show t.val * 256 + (y 0).val = 256 * t.val + (y 0).val; omega
    | ⟨1, _⟩ => show 0 * 1024 + (y 1).val = (y 1).val; omega)
  refine Eq.trans ?_ (congrArg (G m c 1024 (by omega)) hi).symm
  refine Eq.trans ?_ (out11_apply m c t ⟨(y 0).val, h0⟩ ⟨(y 1).val, h1⟩)
  exact congrArg (out0_11 (grid0.coords t) (iblk m c 0 t) (iblk m c 1 t) (iblk m c 2 t) (iblk m c 3 t) (iblk m c 4 t) (iblk m c 5 t) (iblk m c 6 t) (iblk m c 7 t) (iblk m c 8 t) (iblk m c 9 t)) hy

theorem mem_block11 (i : S16384x1024.Idx) :
    i ∈ ((cfg0.win 11).blk t).view.set ↔ ∀ a : Fin 2, win0_11.index t a * S256x1024.size a ≤ (i a).val
      ∧ (i a).val < win0_11.index t a * S256x1024.size a + S256x1024.size a := by
  have key : ∀ q : Rect S16384x1024, i ∈ ((View.whole main_v7_1).slice q).set ↔ i ∈ q.set := fun q => by rw [View.set_slice_whole]
  refine (key (win0_11.rect t)).trans ?_
  exact Rect.mem_set_unit

theorem final11 : (dats m 0 c).arrAt 11 cfg0.N = G m c 1024 (by omega) := by
  refine (dats m 0 c).arrAt_eq_of_cover 11 _ (fun t _ => flushed11_eq m c t) fun (i : S16384x1024.Idx) => ?_
  have h0 : (i 0).val < 16384 := (i 0).isLt
  have h1 : (i 1).val < 1024 := (i 1).isLt
  refine ⟨⟨(i 0).val / 256, lt_of_lt_of_eq (by omega) N_eq.symm⟩, flush0_11 _, ?_⟩
  refine (mem_block11 _ i).mpr fun a => ?_
  rw [index11]
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem out12_apply (r : Fin 256) (d : Fin 1024) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r d)
      = shortM m c (rowAt t r) ⟨2048 + d.val, by omega⟩ := by
  unfold out0_12
  rw [View.canon_unit_zero zero2, View.ld_unit_zero zero2, View.ld_unit_zero zero2]
  refine Eq.trans ?_ (mixed_apply m c t r ⟨2048 + d.val, by omega⟩)
  unfold k0_pay1 k0_pay7
  rw [truncf_apply]
  exact extractStridedSlice_apply _ _ _ (ix2 r d) (ix2 r (⟨2048 + d.val, by omega⟩ : Fin 3072)) (fun a => match a with
    | ⟨0, _⟩ => by show r.val = 0 + r.val; omega
    | ⟨1, _⟩ => rfl)

theorem flushed12_eq : (dats m 0 c).flushed 12 t = ((cfg0.win 12).blk t).view.read (Elt Ideal) (G m c 2048 (by omega)) := by
  rw [Cert.InletIdeal.Value.flushed12]
  funext y
  have h0 : (y 0).val < 256 := (y 0).isLt
  have h1 : (y 1).val < 1024 := (y 1).isLt
  have hy : (y : S256x1024.Idx) = ix2 ⟨(y 0).val, h0⟩ ⟨(y 1).val, h1⟩ := funext fun a => Fin.ext (by
    match a with
    | ⟨0, _⟩ => rfl
    | ⟨1, _⟩ => rfl)
  have hi : (((cfg0.win 12).blk t).view.emb y : S16384x1024.Idx) = ix2 (rowAt t ⟨(y 0).val, h0⟩) ⟨(y 1).val, h1⟩ := funext fun a => Fin.ext (by
    refine (Pipeline.Window.rect_emb_val win0_12 t y a).trans ?_
    rw [index12]
    match a with
    | ⟨0, _⟩ => show t.val * 256 + (y 0).val = 256 * t.val + (y 0).val; omega
    | ⟨1, _⟩ => show 0 * 1024 + (y 1).val = (y 1).val; omega)
  refine Eq.trans ?_ (congrArg (G m c 2048 (by omega)) hi).symm
  refine Eq.trans ?_ (out12_apply m c t ⟨(y 0).val, h0⟩ ⟨(y 1).val, h1⟩)
  exact congrArg (out0_12 (grid0.coords t) (iblk m c 0 t) (iblk m c 1 t) (iblk m c 2 t) (iblk m c 3 t) (iblk m c 4 t) (iblk m c 5 t) (iblk m c 6 t) (iblk m c 7 t) (iblk m c 8 t) (iblk m c 9 t)) hy

theorem mem_block12 (i : S16384x1024.Idx) :
    i ∈ ((cfg0.win 12).blk t).view.set ↔ ∀ a : Fin 2, win0_12.index t a * S256x1024.size a ≤ (i a).val
      ∧ (i a).val < win0_12.index t a * S256x1024.size a + S256x1024.size a := by
  have key : ∀ q : Rect S16384x1024, i ∈ ((View.whole main_v7_2).slice q).set ↔ i ∈ q.set := fun q => by rw [View.set_slice_whole]
  refine (key (win0_12.rect t)).trans ?_
  exact Rect.mem_set_unit

theorem final12 : (dats m 0 c).arrAt 12 cfg0.N = G m c 2048 (by omega) := by
  refine (dats m 0 c).arrAt_eq_of_cover 12 _ (fun t _ => flushed12_eq m c t) fun (i : S16384x1024.Idx) => ?_
  have h0 : (i 0).val < 16384 := (i 0).isLt
  have h1 : (i 1).val < 1024 := (i 1).isLt
  refine ⟨⟨(i 0).val / 256, lt_of_lt_of_eq (by omega) N_eq.symm⟩, flush0_12 _, ?_⟩
  refine (mem_block12 _ i).mpr fun a => ?_
  rw [index12]
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

end Cert.InletIdeal.Out

namespace Cert.InletRefIdeal.Out

open Cert.InletRefIdeal Cert.InletRefIdeal.Gen Cert.InletRefIdeal.Read
open Idealize.ShloMosaic hiding ix0 ix1 ix2 ix3 ix4 maximumf_apply addf_apply mulf_apply subf_apply divf_apply truncf_apply constant_apply
open Idealize.ShloMosaic.TcCoe Idealize.SL.Sem
open Idealize.ShloMosaic.ValueIdx
open Cert.InletIdeal.Out (normed projected token padded short)

variable (x : FVec Ideal S1x16384x1024 .f32) (g : FVec Ideal S1024 .f32) (sh sc : FVec Ideal S1x1x1024 .f32) (w : FVec Ideal S1024x3072 .f32) (b : FVec Ideal S3072 .f32)
  (sw : FVec Ideal S3x3072 .f32) (sb : FVec Ideal S3072 .f32)

theorem square_entry (r : Fin 16384) : val_main_v1 (F := Ideal) x (ix2 0 r) = ∑ q : Fin 1024, x (ix3 0 r q) * x (ix3 0 r q) := by
  rw [val_main_v1_apply, val_main_cst_apply]
  refine (congrArg (· + _) Ideal.ofBits_zero_f32).trans ((zero_add _).trans (Finset.sum_congr rfl fun k _ => ?_))
  have e : idx_main_v1 (ix2 0 r) k = ix3 0 r k := funext fun q => Fin.ext (by
    match q with
    | ⟨0, _⟩ => rfl
    | ⟨1, _⟩ => rfl
    | ⟨2, _⟩ => rfl)
  rw [e]
  rfl

theorem normed_entry (r : Fin 16384) (k : Fin 1024) :
    val_main_v18 (F := Ideal) x g sh sc (ix3 0 r k) = normed (fun q => x (ix3 0 r q)) (fun q => g (ix1 q)) (fun q => sh (ix3 0 0 q)) (fun q => sc (ix3 0 0 q)) k := by
  have e17 : idx_main_v17 (ix3 0 r k) = ix3 0 0 k := funext fun q => Fin.ext (by
    match q with
    | ⟨0, _⟩ => rfl
    | ⟨1, _⟩ => rfl
    | ⟨2, _⟩ => rfl)
  have e15 : idx_main_v15 (ix3 0 r k) = ix3 0 0 k := funext fun q => Fin.ext (by
    match q with
    | ⟨0, _⟩ => rfl
    | ⟨1, _⟩ => rfl
    | ⟨2, _⟩ => rfl)
  have e10 : idx_main_v10 (idx_main_v11 (ix3 0 r k)) = ix1 k := funext fun q => Fin.ext (by
    match q with
    | ⟨0, _⟩ => rfl)
  have e2 : idx_main_v2 (idx_main_v8 (ix3 0 r k)) = ix2 0 r := funext fun q => Fin.ext (by
    match q with
    | ⟨0, _⟩ => rfl
    | ⟨1, _⟩ => rfl)
  rw [val_main_v18_apply, val_main_v17_apply, e17, val_main_v16_apply, val_main_v15_apply, e15, val_main_v14_apply, val_main_v13_apply, val_main_cst_2_apply,
    val_main_v12_apply, val_main_v11_apply, val_main_v10_apply, e10, val_main_v9_apply, val_main_v8_apply, val_main_v7_apply, val_main_v6_apply, val_main_v5_apply,
    val_main_cst_1_apply, val_main_v4_apply, val_main_v3_apply, val_main_cst_0_apply, val_main_v2_apply, e2, square_entry]
  rfl

theorem token_entry (r : Fin 16384) (j : Fin 3072) : val_main_v22 (F := Ideal) x g sh sc w b (ix3 0 r j) = token x g sh sc w b r j := by
  have e20 : idx_main_v20 (idx_main_v21 (ix3 0 r j)) = ix1 j := funext fun q => Fin.ext (by
    match q with
    | ⟨0, _⟩ => rfl)
  rw [val_main_v22_apply, val_main_v21_apply, val_main_v20_apply, e20, val_main_v19_apply]
  unfold token projected
  refine congrArg (· + b (ix1 j)) (Finset.sum_congr rfl fun k _ => ?_)
  have el : lidx_main_v19 (ix3 0 r j) k = ix3 0 r k := funext fun q => Fin.ext (by
    match q with
    | ⟨0, _⟩ => rfl
    | ⟨1, _⟩ => rfl
    | ⟨2, _⟩ => rfl)
  have er : ridx_main_v19 (ix3 0 r j) k = ix2 k j := funext fun q => Fin.ext (by
    match q with
    | ⟨0, _⟩ => rfl
    | ⟨1, _⟩ => rfl)
  rw [el, er, normed_entry]

theorem padded_entry (n : Fin 16386) (j : Fin 3072) : val_main_v23 (F := Ideal) x g sh sc w b (ix3 0 n j) = padded x g sh sc w b n.val j := by
  unfold val_main_v23 padded
  by_cases h : 1 ≤ n.val ∧ n.val < 16385
  · rw [dif_pos h]
    refine (pad_apply_of_inside _ _ _ _ _ _ _ (ix3 0 n j) (ix3 0 ⟨n.val - 1, by omega⟩ j) (fun a => ?_)).trans (token_entry x g sh sc w b _ j)
    match a with
    | ⟨0, _⟩ => rfl
    | ⟨1, _⟩ => show n.val = 1 + (n.val - 1) * (0 + 1); omega
    | ⟨2, _⟩ => show j.val = 0 + j.val * (0 + 1); omega
  · rw [dif_neg h]
    refine (pad_apply_of_not_inside _ _ _ _ _ _ _ (ix3 0 n j) 1 ?_).trans ?_
    · show ¬(1 ≤ n.val ∧ (n.val - 1) % (0 + 1) = 0 ∧ (n.val - 1) / (0 + 1) < 16384)
      omega
    · rw [val_main_call0_v0_apply, val_main_c_apply]
      show (((0#32 : BitVec 32).toInt : ℝ) : EReal) = 0
      norm_num

theorem short_entry (r : Fin 16384) (j : Fin 3072) : val_main_v46 (F := Ideal) x g sh sc w b sw sb (ix3 0 r j) = short x g sh sc w b sw sb r j := by
  have hr := r.isLt
  have e24 : idx_main_v24 (ix3 0 r j) = ix3 0 ⟨r.val, by omega⟩ j := funext fun q => Fin.ext (by
    match q with
    | ⟨0, _⟩ => rfl
    | ⟨1, _⟩ => rfl
    | ⟨2, _⟩ => rfl)
  have e30 : idx_main_v30 (ix3 0 r j) = ix3 0 ⟨r.val + 1, by omega⟩ j := funext fun q => Fin.ext (by
    match q with
    | ⟨0, _⟩ => rfl
    | ⟨1, _⟩ => show 1 + r.val = r.val + 1; omega
    | ⟨2, _⟩ => rfl)
  have e37 : idx_main_v37 (ix3 0 r j) = ix3 0 ⟨r.val + 2, by omega⟩ j := funext fun q => Fin.ext (by
    match q with
    | ⟨0, _⟩ => rfl
    | ⟨1, _⟩ => show 2 + r.val = r.val + 2; omega
    | ⟨2, _⟩ => rfl)
  have e25 : idx_main_v25 (idx_main_v26 (idx_main_v27 (idx_main_v28 (ix3 0 r j)))) = ix2 0 j := funext fun q => Fin.ext (by
    match q with
    | ⟨0, _⟩ => rfl
    | ⟨1, _⟩ => show j.val % 3072 = j.val; omega)
  have e31 : idx_main_v31 (idx_main_v32 (idx_main_v33 (idx_main_v34 (ix3 0 r j)))) = ix2 1 j := funext fun q => Fin.ext (by
    match q with
    | ⟨0, _⟩ => rfl
    | ⟨1, _⟩ => show j.val % 3072 = j.val; omega)
  have e38 : idx_main_v38 (idx_main_v39 (idx_main_v40 (idx_main_v41 (ix3 0 r j)))) = ix2 2 j := funext fun q => Fin.ext (by
    match q with
    | ⟨0, _⟩ => rfl
    | ⟨1, _⟩ => show j.val % 3072 = j.val; omega)
  have e44 : idx_main_v44 (idx_main_v45 (ix3 0 r j)) = ix1 j := funext fun q => Fin.ext (by
    match q with
    | ⟨0, _⟩ => rfl)
  rw [val_main_v46_apply, val_main_v45_apply, val_main_v44_apply, e44, val_main_v43_apply, val_main_v36_apply,
    val_main_v29_apply, val_main_v24_apply, e24, padded_entry, val_main_v28_apply, val_main_v27_apply, val_main_v26_apply, val_main_v25_apply, e25,
    val_main_v35_apply, val_main_v30_apply, e30, padded_entry, val_main_v34_apply, val_main_v33_apply, val_main_v32_apply, val_main_v31_apply, e31,
    val_main_v42_apply, val_main_v37_apply, e37, padded_entry, val_main_v41_apply, val_main_v40_apply, val_main_v39_apply, val_main_v38_apply, e38]
  unfold short
  rw [mul_comm (sw (ix2 0 j)), mul_comm (sw (ix2 1 j)), mul_comm (sw (ix2 2 j))]
  rfl

theorem long_entry (r : Fin 16384) (j : Fin 3072) : val_main_v48 (F := Ideal) x g sh sc w b sw sb (ix2 r j) = short x g sh sc w b sw sb r j := by
  have hr := r.isLt
  have hj := j.isLt
  have e : idx_main_v47 (ix2 r j) = ix3 0 r j := funext fun q => Fin.ext (by
    match q with
    | ⟨0, _⟩ => rfl
    | ⟨1, _⟩ => show (r.val * 3072 + j.val) / 3072 % 16384 = r.val; omega
    | ⟨2, _⟩ => show (r.val * 3072 + j.val) % 3072 = j.val; omega)
  rw [val_main_v48_apply, val_main_v47_apply, e, short_entry]
  rfl

theorem result49_entry (i : S16384x1024.Idx) :
    val_main_v49 (F := Ideal) x g sh sc w b sw sb i = short x g sh sc w b sw sb (i 0) ⟨0 + (i 1).val, by have h : (i 1).val < 1024 := (i 1).isLt; omega⟩ := by
  have h1 : (i 1).val < 1024 := (i 1).isLt
  have e : idx_main_v49 i = ix2 (i 0) (⟨0 + (i 1).val, by omega⟩ : Fin 3072) := funext fun q => Fin.ext (by
    match q with
    | ⟨0, _⟩ => rfl
    | ⟨1, _⟩ => show (i 1).val = 0 + (i 1).val; omega)
  rw [val_main_v49_apply, e]
  exact long_entry x g sh sc w b sw sb (i 0) _

theorem result50_entry (i : S16384x1024.Idx) :
    val_main_v50 (F := Ideal) x g sh sc w b sw sb i = short x g sh sc w b sw sb (i 0) ⟨1024 + (i 1).val, by have h : (i 1).val < 1024 := (i 1).isLt; omega⟩ := by
  have h1 : (i 1).val < 1024 := (i 1).isLt
  have e : idx_main_v50 i = ix2 (i 0) (⟨1024 + (i 1).val, by omega⟩ : Fin 3072) := funext fun q => Fin.ext (by
    match q with
    | ⟨0, _⟩ => rfl
    | ⟨1, _⟩ => rfl)
  rw [val_main_v50_apply, e]
  exact long_entry x g sh sc w b sw sb (i 0) _

theorem result51_entry (i : S16384x1024.Idx) :
    val_main_v51 (F := Ideal) x g sh sc w b sw sb i = short x g sh sc w b sw sb (i 0) ⟨2048 + (i 1).val, by have h : (i 1).val < 1024 := (i 1).isLt; omega⟩ := by
  have h1 : (i 1).val < 1024 := (i 1).isLt
  have e : idx_main_v51 i = ix2 (i 0) (⟨2048 + (i 1).val, by omega⟩ : Fin 3072) := funext fun q => Fin.ext (by
    match q with
    | ⟨0, _⟩ => rfl
    | ⟨1, _⟩ => rfl)
  rw [val_main_v51_apply, e]
  exact long_entry x g sh sc w b sw sb (i 0) _

end Cert.InletRefIdeal.Out

namespace Cert.Out.Inlet

open Idealize.ShloMosaic Idealize.ShloMosaic.TcCoe Idealize.SL.Sem

theorem algebraic : Cert.algebraic_InletIdeal_InletRefIdeal := by
  intro m g m' g' _ hargs
  refine ⟨fun c => Cert.InletIdeal.Out.G m c 0 (by omega), fun c => Cert.InletIdeal.Out.G m c 1024 (by omega), fun c => Cert.InletIdeal.Out.G m c 2048 (by omega),
    (θ_run Cert.InletIdeal.defs _ _).mono (fun r h c => ⟨(h c).1.trans (Cert.InletIdeal.Out.final10 m c), (h c).2.1.trans (Cert.InletIdeal.Out.final11 m c),
      (h c).2.2.1.trans (Cert.InletIdeal.Out.final12 m c), (h c).2.2.2⟩) (Cert.InletIdeal.Value.run_blocks (F := Ideal) m g), ?_⟩
  refine (θ_run Cert.InletRefIdeal.defs _ _).mono (fun r h c => ⟨(h c).1.trans ?_, (h c).2.1.trans ?_, (h c).2.2.1.trans ?_, (h c).2.2.2⟩) (Cert.InletRefIdeal.Value.run (F := Ideal) m' g')
  · obtain ⟨a0, a1, a2, a3, a4, a5, a6, a7⟩ := hargs c
    refine (Cert.InletRefIdeal.Read.val_main_v49_eq (F := Ideal) m' c).trans ?_
    rw [a0, a1, a2, a3, a4, a5, a6, a7]
    funext i
    exact Cert.InletRefIdeal.Out.result49_entry _ _ _ _ _ _ _ _ i
  · obtain ⟨a0, a1, a2, a3, a4, a5, a6, a7⟩ := hargs c
    refine (Cert.InletRefIdeal.Read.val_main_v50_eq (F := Ideal) m' c).trans ?_
    rw [a0, a1, a2, a3, a4, a5, a6, a7]
    funext i
    exact Cert.InletRefIdeal.Out.result50_entry _ _ _ _ _ _ _ _ i
  · obtain ⟨a0, a1, a2, a3, a4, a5, a6, a7⟩ := hargs c
    refine (Cert.InletRefIdeal.Read.val_main_v51_eq (F := Ideal) m' c).trans ?_
    rw [a0, a1, a2, a3, a4, a5, a6, a7]
    funext i
    exact Cert.InletRefIdeal.Out.result51_entry _ _ _ _ _ _ _ _ i

theorem frame_reference (m : (ℓ : Loc Cert.InletRefIdeal.nD Cert.InletRefIdeal.τ Cert.InletRefIdeal.sig) → Buf (Elt Ideal) ℓ)
    (g : Dev Cert.InletRefIdeal.nD → PrngReg) :
    θ_run (Cert.InletRefIdeal.defs (F := Ideal)) (onTc (τ := Cert.InletRefIdeal.τ) (Cert.InletRefIdeal.main (F := Ideal))) ⟨m, fun _ => 0, g⟩
      (fun r => (∀ c : Dev Cert.InletRefIdeal.nD,
        r.2.mem ((c.tc : Thread Cert.InletRefIdeal.nD Cert.InletRefIdeal.τ).loc Cert.InletRefIdeal.main_arg0) = m ((c.tc : Thread Cert.InletRefIdeal.nD Cert.InletRefIdeal.τ).loc Cert.InletRefIdeal.main_arg0)
        ∧ r.2.mem ((c.tc : Thread Cert.InletRefIdeal.nD Cert.InletRefIdeal.τ).loc Cert.InletRefIdeal.main_arg1) = m ((c.tc : Thread Cert.InletRefIdeal.nD Cert.InletRefIdeal.τ).loc Cert.InletRefIdeal.main_arg1)
        ∧ r.2.mem ((c.tc : Thread Cert.InletRefIdeal.nD Cert.InletRefIdeal.τ).loc Cert.InletRefIdeal.main_arg2) = m ((c.tc : Thread Cert.InletRefIdeal.nD Cert.InletRefIdeal.τ).loc Cert.InletRefIdeal.main_arg2)
        ∧ r.2.mem ((c.tc : Thread Cert.InletRefIdeal.nD Cert.InletRefIdeal.τ).loc Cert.InletRefIdeal.main_arg3) = m ((c.tc : Thread Cert.InletRefIdeal.nD Cert.InletRefIdeal.τ).loc Cert.InletRefIdeal.main_arg3)
        ∧ r.2.mem ((c.tc : Thread Cert.InletRefIdeal.nD Cert.InletRefIdeal.τ).loc Cert.InletRefIdeal.main_arg4) = m ((c.tc : Thread Cert.InletRefIdeal.nD Cert.InletRefIdeal.τ).loc Cert.InletRefIdeal.main_arg4)
        ∧ r.2.mem ((c.tc : Thread Cert.InletRefIdeal.nD Cert.InletRefIdeal.τ).loc Cert.InletRefIdeal.main_arg5) = m ((c.tc : Thread Cert.InletRefIdeal.nD Cert.InletRefIdeal.τ).loc Cert.InletRefIdeal.main_arg5)
        ∧ r.2.mem ((c.tc : Thread Cert.InletRefIdeal.nD Cert.InletRefIdeal.τ).loc Cert.InletRefIdeal.main_arg6) = m ((c.tc : Thread Cert.InletRefIdeal.nD Cert.InletRefIdeal.τ).loc Cert.InletRefIdeal.main_arg6)
        ∧ r.2.mem ((c.tc : Thread Cert.InletRefIdeal.nD Cert.InletRefIdeal.τ).loc Cert.InletRefIdeal.main_arg7) = m ((c.tc : Thread Cert.InletRefIdeal.nD Cert.InletRefIdeal.τ).loc Cert.InletRefIdeal.main_arg7))
        ∧ r.2.sem = fun _ => 0) :=
  (θ_run Cert.InletRefIdeal.defs _ _).mono (fun r h => ⟨fun c => (h c).2.2.2, sem_eq_zero_of_no_sems (by decide) r.2⟩)
    (Cert.InletRefIdeal.Value.run (F := Ideal) m g)

end Cert.Out.Inlet

end
-- ==== Proof.lean ====
module

public import proofs.«01_k».proof.Proof.Gen.ReferenceIdeal.Read
public import proofs.«01_k».proof.Proof.Gen.ReferenceIdeal.Run
public import proofs.«01_k».proof.Proof.Gen.KernelIdeal.Value
public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.MixtureIdeal.Run
public import proofs.«01_k».proof.Proof.Gen.MixtureIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.Outlet
public import proofs.«01_k».proof.Proof.Gen.Outlet.Skeleton
public import proofs.«01_k».proof.Proof.Gen.Outlet.Launch
public import proofs.«01_k».proof.Proof.Gen.Outlet.Points
public import proofs.«01_k».proof.Proof.Gen.Outlet.Frame
public import proofs.«01_k».proof.Proof.Gen.OutletIdeal
public import proofs.«01_k».proof.Proof.Gen.OutletIdeal.Skeleton
public import proofs.«01_k».proof.Proof.Gen.OutletIdeal.Launch
public import proofs.«01_k».proof.Proof.Gen.OutletIdeal.Points
public import proofs.«01_k».proof.Proof.Gen.OutletIdeal.Frame
public import proofs.«01_k».proof.Proof.Gen.OutletIdeal.Value
public import proofs.«01_k».proof.Proof.Gen.MergeRefIdeal.Run
public import proofs.«01_k».proof.Proof.Gen.MergeRefIdeal.Read
public import proofs.«01_k».proof.Proof.Gen.OutletRefIdeal.Run
public import proofs.«01_k».proof.Proof.Gen.OutletRefIdeal.Read
public import proofs.«01_k».proof.Proof.Gen.Inlet
public import proofs.«01_k».proof.Proof.Gen.Inlet.Skeleton
public import proofs.«01_k».proof.Proof.Gen.Inlet.Launch
public import proofs.«01_k».proof.Proof.Gen.Inlet.Points
public import proofs.«01_k».proof.Proof.Gen.Inlet.Frame
public import proofs.«01_k».proof.Proof.Gen.InletIdeal
public import proofs.«01_k».proof.Proof.Gen.InletIdeal.Skeleton
public import proofs.«01_k».proof.Proof.Gen.InletIdeal.Launch
public import proofs.«01_k».proof.Proof.Gen.InletIdeal.Points
public import proofs.«01_k».proof.Proof.Gen.InletIdeal.Frame
public import proofs.«01_k».proof.Proof.Gen.InletIdeal.Value
public import proofs.«01_k».proof.Proof.Gen.InletRefIdeal.Run
public import proofs.«01_k».proof.Proof.Gen.InletRefIdeal.Read
public import proofs.«01_k».proof.Proof.Mla.Meet
public import proofs.«01_k».proof.Proof.Moe.Meet
public import proofs.«01_k».proof.Proof.MoeBits.Claims
public import proofs.«01_k».proof.Proof.Out.Merge
public import proofs.«01_k».proof.Proof.Out.Outlet
public import proofs.«01_k».proof.Proof.Out.Inlet
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Experts.Gen.facts, Cert.ExpertsIdeal.Gen.facts, Cert.MixtureIdeal.Gen.facts,
    Cert.Merge.Gen.facts, Cert.MergeIdeal.Gen.facts, Cert.MergeRefIdeal.Gen.facts, Cert.Outlet.Gen.facts, Cert.OutletIdeal.Gen.facts, Cert.OutletRefIdeal.Gen.facts,
    Cert.Inlet.Gen.facts, Cert.InletIdeal.Gen.facts, Cert.InletRefIdeal.Gen.facts,
    Cert.Mla.Meet.pre_facts, Cert.Moe.pre_facts,
    fun m g _ => Cert.Kernel.Gen.frame m g,
    fun m g _ => Cert.KernelIdeal.Gen.frame m g,
    fun m g _ => Cert.KernelIdeal.Gen.frame m g,
    fun m g _ => Cert.Mla.Meet.frame_reference m g,
    fun m g _ => Cert.Mla.Meet.frame_reference m g,
    Cert.MoeBits.frame_bits,
    Cert.Moe.frame_ideal,
    Cert.Moe.Meet.frame_mixture,
    fun m g _ => Cert.Moe.Meet.frame_mixture m g trivial,
    fun m g _ => Cert.Merge.Gen.frame m g,
    fun m g _ => Cert.MergeIdeal.Gen.frame m g,
    fun m g _ => Cert.Out.Merge.frame_reference m g,
    fun m g _ => Cert.Outlet.Gen.frame m g,
    fun m g _ => Cert.OutletIdeal.Gen.frame m g,
    fun m g _ => Cert.Out.Outlet.frame_reference m g,
    fun m g _ => Cert.Inlet.Gen.frame m g,
    fun m g _ => Cert.InletIdeal.Gen.frame m g,
    fun m g _ => Cert.Out.Inlet.frame_reference m g,
    trivial,
    Cert.Mla.Meet.algebraic,
    trivial,
    Cert.Moe.Meet.algebraic,
    trivial,
    Cert.Out.Merge.algebraic,
    trivial,
    Cert.Out.Outlet.algebraic,
    trivial,
    Cert.Out.Inlet.algebraic⟩

end Cert.Proof

end
